-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_own_key_above_mask [hPre_own_key_above_mask : Cert.Pre_own_key_above_mask.Facts] (m : (ℓ : Loc Cert.FoxIdeal.nD Cert.FoxIdeal.τ Cert.FoxIdeal.sig) → Buf (Elt Ideal) ℓ) : Prop :=
  ∀ c : Dev Cert.FoxIdeal.nD,
    (Cert.Pre_own_key_above_mask.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_own_key_above_mask [hPre_own_key_above_mask : Cert.Pre_own_key_above_mask.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_own_key_above_mask.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NsaMlp (m : (ℓ : Loc Cert.NsaMlp.nD Cert.NsaMlp.τ Cert.NsaMlp.sig) → Buf (Elt Bits) ℓ) : Prop :=
  True

def Pre_NsaMlpIdeal (m : (ℓ : Loc Cert.NsaMlpIdeal.nD Cert.NsaMlpIdeal.τ Cert.NsaMlpIdeal.sig) → Buf (Elt Ideal) ℓ) : Prop :=
  True

def Pre_NsaMlpRefIdeal (m : (ℓ : Loc Cert.NsaMlpRefIdeal.nD Cert.NsaMlpRefIdeal.τ Cert.NsaMlpRefIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjRefIdeal (m : (ℓ : Loc Cert.NsaProjRefIdeal.nD Cert.NsaProjRefIdeal.τ Cert.NsaProjRefIdeal.sig) → Buf (Elt Ideal) ℓ) : Prop :=
  True

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjRefIdeal (m : (ℓ : Loc Cert.GlaProjRefIdeal.nD Cert.GlaProjRefIdeal.τ Cert.GlaProjRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_GlaDec (m : (ℓ : Loc Cert.GlaDec.nD Cert.GlaDec.τ Cert.GlaDec.sig) → Buf (Elt Bits) ℓ) : Prop :=
  True

def Pre_GlaDecIdeal (m : (ℓ : Loc Cert.GlaDecIdeal.nD Cert.GlaDecIdeal.τ Cert.GlaDecIdeal.sig) → Buf (Elt Ideal) ℓ) : Prop :=
  True

def Pre_GlaDecRefIdeal (m : (ℓ : Loc Cert.GlaDecRefIdeal.nD Cert.GlaDecRefIdeal.τ Cert.GlaDecRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxIdeal_pre_own_key_above_mask [hFoxIdeal : Cert.FoxIdeal.Facts] [hPre_own_key_above_mask : Cert.Pre_own_key_above_mask.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_own_key_above_mask m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_FoxRefIdeal_pre_own_key_above_mask [hFoxRefIdeal : Cert.FoxRefIdeal.Facts] [hPre_own_key_above_mask : Cert.Pre_own_key_above_mask.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_own_key_above_mask m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NsaMlp [hNsaMlp : Cert.NsaMlp.Facts] : Prop :=
  ∀ (m : (ℓ : Loc Cert.NsaMlp.nD Cert.NsaMlp.τ Cert.NsaMlp.sig) → Buf (Elt Bits) ℓ) (g : Dev Cert.NsaMlp.nD → PrngReg), Pre_NsaMlp m →
    θ_run (Cert.NsaMlp.defs (F := Bits)) (onTc (τ := Cert.NsaMlp.τ) (Cert.NsaMlp.main (F := Bits))) ⟨m, fun _ => 0, g⟩ (fun r => (∀ c : Dev Cert.NsaMlp.nD,
      r.2.mem ((c.tc : Thread Cert.NsaMlp.nD Cert.NsaMlp.τ).loc Cert.NsaMlp.main_arg0) = m ((c.tc : Thread Cert.NsaMlp.nD Cert.NsaMlp.τ).loc Cert.NsaMlp.main_arg0)
      ∧ r.2.mem ((c.tc : Thread Cert.NsaMlp.nD Cert.NsaMlp.τ).loc Cert.NsaMlp.main_arg1) = m ((c.tc : Thread Cert.NsaMlp.nD Cert.NsaMlp.τ).loc Cert.NsaMlp.main_arg1)
      ∧ r.2.mem ((c.tc : Thread Cert.NsaMlp.nD Cert.NsaMlp.τ).loc Cert.NsaMlp.main_arg2) = m ((c.tc : Thread Cert.NsaMlp.nD Cert.NsaMlp.τ).loc Cert.NsaMlp.main_arg2)
      ∧ r.2.mem ((c.tc : Thread Cert.NsaMlp.nD Cert.NsaMlp.τ).loc Cert.NsaMlp.main_arg3) = m ((c.tc : Thread Cert.NsaMlp.nD Cert.NsaMlp.τ).loc Cert.NsaMlp.main_arg3)
      ∧ r.2.mem ((c.tc : Thread Cert.NsaMlp.nD Cert.NsaMlp.τ).loc Cert.NsaMlp.main_arg4) = m ((c.tc : Thread Cert.NsaMlp.nD Cert.NsaMlp.τ).loc Cert.NsaMlp.main_arg4)
      ∧ r.2.mem ((c.tc : Thread Cert.NsaMlp.nD Cert.NsaMlp.τ).loc Cert.NsaMlp.main_arg5) = m ((c.tc : Thread Cert.NsaMlp.nD Cert.NsaMlp.τ).loc Cert.NsaMlp.main_arg5)
      ∧ r.2.mem ((c.tc : Thread Cert.NsaMlp.nD Cert.NsaMlp.τ).loc Cert.NsaMlp.main_arg6) = m ((c.tc : Thread Cert.NsaMlp.nD Cert.NsaMlp.τ).loc Cert.NsaMlp.main_arg6)
      ∧ r.2.mem ((c.tc : Thread Cert.NsaMlp.nD Cert.NsaMlp.τ).loc Cert.NsaMlp.main_arg7) = m ((c.tc : Thread Cert.NsaMlp.nD Cert.NsaMlp.τ).loc Cert.NsaMlp.main_arg7)
      ∧ r.2.mem ((c.tc : Thread Cert.NsaMlp.nD Cert.NsaMlp.τ).loc Cert.NsaMlp.main_arg8) = m ((c.tc : Thread Cert.NsaMlp.nD Cert.NsaMlp.τ).loc Cert.NsaMlp.main_arg8)
      ∧ r.2.mem ((c.tc : Thread Cert.NsaMlp.nD Cert.NsaMlp.τ).loc Cert.NsaMlp.main_arg9) = m ((c.tc : Thread Cert.NsaMlp.nD Cert.NsaMlp.τ).loc Cert.NsaMlp.main_arg9)
      ∧ r.2.mem ((c.tc : Thread Cert.NsaMlp.nD Cert.NsaMlp.τ).loc Cert.NsaMlp.main_arg10) = m ((c.tc : Thread Cert.NsaMlp.nD Cert.NsaMlp.τ).loc Cert.NsaMlp.main_arg10))
      ∧ r.2.sem = fun _ => 0)

def quiescent_NsaMlpIdeal [hNsaMlpIdeal : Cert.NsaMlpIdeal.Facts] : Prop :=
  ∀ (m : (ℓ : Loc Cert.NsaMlpIdeal.nD Cert.NsaMlpIdeal.τ Cert.NsaMlpIdeal.sig) → Buf (Elt Ideal) ℓ) (g : Dev Cert.NsaMlpIdeal.nD → PrngReg), Pre_NsaMlpIdeal m →
    θ_run (Cert.NsaMlpIdeal.defs (F := Ideal)) (onTc (τ := Cert.NsaMlpIdeal.τ) (Cert.NsaMlpIdeal.main (F := Ideal))) ⟨m, fun _ => 0, g⟩ (fun r => (∀ c : Dev Cert.NsaMlpIdeal.nD,
      r.2.mem ((c.tc : Thread Cert.NsaMlpIdeal.nD Cert.NsaMlpIdeal.τ).loc Cert.NsaMlpIdeal.main_arg0) = m ((c.tc : Thread Cert.NsaMlpIdeal.nD Cert.NsaMlpIdeal.τ).loc Cert.NsaMlpIdeal.main_arg0)
      ∧ r.2.mem ((c.tc : Thread Cert.NsaMlpIdeal.nD Cert.NsaMlpIdeal.τ).loc Cert.NsaMlpIdeal.main_arg1) = m ((c.tc : Thread Cert.NsaMlpIdeal.nD Cert.NsaMlpIdeal.τ).loc Cert.NsaMlpIdeal.main_arg1)
      ∧ r.2.mem ((c.tc : Thread Cert.NsaMlpIdeal.nD Cert.NsaMlpIdeal.τ).loc Cert.NsaMlpIdeal.main_arg2) = m ((c.tc : Thread Cert.NsaMlpIdeal.nD Cert.NsaMlpIdeal.τ).loc Cert.NsaMlpIdeal.main_arg2)
      ∧ r.2.mem ((c.tc : Thread Cert.NsaMlpIdeal.nD Cert.NsaMlpIdeal.τ).loc Cert.NsaMlpIdeal.main_arg3) = m ((c.tc : Thread Cert.NsaMlpIdeal.nD Cert.NsaMlpIdeal.τ).loc Cert.NsaMlpIdeal.main_arg3)
      ∧ r.2.mem ((c.tc : Thread Cert.NsaMlpIdeal.nD Cert.NsaMlpIdeal.τ).loc Cert.NsaMlpIdeal.main_arg4) = m ((c.tc : Thread Cert.NsaMlpIdeal.nD Cert.NsaMlpIdeal.τ).loc Cert.NsaMlpIdeal.main_arg4)
      ∧ r.2.mem ((c.tc : Thread Cert.NsaMlpIdeal.nD Cert.NsaMlpIdeal.τ).loc Cert.NsaMlpIdeal.main_arg5) = m ((c.tc : Thread Cert.NsaMlpIdeal.nD Cert.NsaMlpIdeal.τ).loc Cert.NsaMlpIdeal.main_arg5)
      ∧ r.2.mem ((c.tc : Thread Cert.NsaMlpIdeal.nD Cert.NsaMlpIdeal.τ).loc Cert.NsaMlpIdeal.main_arg6) = m ((c.tc : Thread Cert.NsaMlpIdeal.nD Cert.NsaMlpIdeal.τ).loc Cert.NsaMlpIdeal.main_arg6)
      ∧ r.2.mem ((c.tc : Thread Cert.NsaMlpIdeal.nD Cert.NsaMlpIdeal.τ).loc Cert.NsaMlpIdeal.main_arg7) = m ((c.tc : Thread Cert.NsaMlpIdeal.nD Cert.NsaMlpIdeal.τ).loc Cert.NsaMlpIdeal.main_arg7)
      ∧ r.2.mem ((c.tc : Thread Cert.NsaMlpIdeal.nD Cert.NsaMlpIdeal.τ).loc Cert.NsaMlpIdeal.main_arg8) = m ((c.tc : Thread Cert.NsaMlpIdeal.nD Cert.NsaMlpIdeal.τ).loc Cert.NsaMlpIdeal.main_arg8)
      ∧ r.2.mem ((c.tc : Thread Cert.NsaMlpIdeal.nD Cert.NsaMlpIdeal.τ).loc Cert.NsaMlpIdeal.main_arg9) = m ((c.tc : Thread Cert.NsaMlpIdeal.nD Cert.NsaMlpIdeal.τ).loc Cert.NsaMlpIdeal.main_arg9)
      ∧ r.2.mem ((c.tc : Thread Cert.NsaMlpIdeal.nD Cert.NsaMlpIdeal.τ).loc Cert.NsaMlpIdeal.main_arg10) = m ((c.tc : Thread Cert.NsaMlpIdeal.nD Cert.NsaMlpIdeal.τ).loc Cert.NsaMlpIdeal.main_arg10))
      ∧ r.2.sem = fun _ => 0)

def quiescent_NsaMlpRefIdeal [hNsaMlpRefIdeal : Cert.NsaMlpRefIdeal.Facts] : Prop :=
  ∀ (m : (ℓ : Loc Cert.NsaMlpRefIdeal.nD Cert.NsaMlpRefIdeal.τ Cert.NsaMlpRefIdeal.sig) → Buf (Elt Ideal) ℓ) (g : Dev Cert.NsaMlpRefIdeal.nD → PrngReg), Pre_NsaMlpRefIdeal m →
    θ_run (Cert.NsaMlpRefIdeal.defs (F := Ideal)) (onTc (τ := Cert.NsaMlpRefIdeal.τ) (Cert.NsaMlpRefIdeal.main (F := Ideal))) ⟨m, fun _ => 0, g⟩ (fun r => (∀ c : Dev Cert.NsaMlpRefIdeal.nD,
      r.2.mem ((c.tc : Thread Cert.NsaMlpRefIdeal.nD Cert.NsaMlpRefIdeal.τ).loc Cert.NsaMlpRefIdeal.main_arg0) = m ((c.tc : Thread Cert.NsaMlpRefIdeal.nD Cert.NsaMlpRefIdeal.τ).loc Cert.NsaMlpRefIdeal.main_arg0)
      ∧ r.2.mem ((c.tc : Thread Cert.NsaMlpRefIdeal.nD Cert.NsaMlpRefIdeal.τ).loc Cert.NsaMlpRefIdeal.main_arg1) = m ((c.tc : Thread Cert.NsaMlpRefIdeal.nD Cert.NsaMlpRefIdeal.τ).loc Cert.NsaMlpRefIdeal.main_arg1)
      ∧ r.2.mem ((c.tc : Thread Cert.NsaMlpRefIdeal.nD Cert.NsaMlpRefIdeal.τ).loc Cert.NsaMlpRefIdeal.main_arg2) = m ((c.tc : Thread Cert.NsaMlpRefIdeal.nD Cert.NsaMlpRefIdeal.τ).loc Cert.NsaMlpRefIdeal.main_arg2)
      ∧ r.2.mem ((c.tc : Thread Cert.NsaMlpRefIdeal.nD Cert.NsaMlpRefIdeal.τ).loc Cert.NsaMlpRefIdeal.main_arg3) = m ((c.tc : Thread Cert.NsaMlpRefIdeal.nD Cert.NsaMlpRefIdeal.τ).loc Cert.NsaMlpRefIdeal.main_arg3)
      ∧ r.2.mem ((c.tc : Thread Cert.NsaMlpRefIdeal.nD Cert.NsaMlpRefIdeal.τ).loc Cert.NsaMlpRefIdeal.main_arg4) = m ((c.tc : Thread Cert.NsaMlpRefIdeal.nD Cert.NsaMlpRefIdeal.τ).loc Cert.NsaMlpRefIdeal.main_arg4)
      ∧ r.2.mem ((c.tc : Thread Cert.NsaMlpRefIdeal.nD Cert.NsaMlpRefIdeal.τ).loc Cert.NsaMlpRefIdeal.main_arg5) = m ((c.tc : Thread Cert.NsaMlpRefIdeal.nD Cert.NsaMlpRefIdeal.τ).loc Cert.NsaMlpRefIdeal.main_arg5)
      ∧ r.2.mem ((c.tc : Thread Cert.NsaMlpRefIdeal.nD Cert.NsaMlpRefIdeal.τ).loc Cert.NsaMlpRefIdeal.main_arg6) = m ((c.tc : Thread Cert.NsaMlpRefIdeal.nD Cert.NsaMlpRefIdeal.τ).loc Cert.NsaMlpRefIdeal.main_arg6)
      ∧ r.2.mem ((c.tc : Thread Cert.NsaMlpRefIdeal.nD Cert.NsaMlpRefIdeal.τ).loc Cert.NsaMlpRefIdeal.main_arg7) = m ((c.tc : Thread Cert.NsaMlpRefIdeal.nD Cert.NsaMlpRefIdeal.τ).loc Cert.NsaMlpRefIdeal.main_arg7)
      ∧ r.2.mem ((c.tc : Thread Cert.NsaMlpRefIdeal.nD Cert.NsaMlpRefIdeal.τ).loc Cert.NsaMlpRefIdeal.main_arg8) = m ((c.tc : Thread Cert.NsaMlpRefIdeal.nD Cert.NsaMlpRefIdeal.τ).loc Cert.NsaMlpRefIdeal.main_arg8)
      ∧ r.2.mem ((c.tc : Thread Cert.NsaMlpRefIdeal.nD Cert.NsaMlpRefIdeal.τ).loc Cert.NsaMlpRefIdeal.main_arg9) = m ((c.tc : Thread Cert.NsaMlpRefIdeal.nD Cert.NsaMlpRefIdeal.τ).loc Cert.NsaMlpRefIdeal.main_arg9)
      ∧ r.2.mem ((c.tc : Thread Cert.NsaMlpRefIdeal.nD Cert.NsaMlpRefIdeal.τ).loc Cert.NsaMlpRefIdeal.main_arg10) = m ((c.tc : Thread Cert.NsaMlpRefIdeal.nD Cert.NsaMlpRefIdeal.τ).loc Cert.NsaMlpRefIdeal.main_arg10))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1)
      ∧ r.2.mem ((c.tc : Thread Cert.NsaProj.nD Cert.NsaProj.τ).loc Cert.NsaProj.main_arg2) = m ((c.tc : Thread Cert.NsaProj.nD Cert.NsaProj.τ).loc Cert.NsaProj.main_arg2))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
      ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2))
      ∧ r.2.sem = fun _ => 0)

def quiescent_NsaProjRefIdeal [hNsaProjRefIdeal : Cert.NsaProjRefIdeal.Facts] : Prop :=
  ∀ (m : (ℓ : Loc Cert.NsaProjRefIdeal.nD Cert.NsaProjRefIdeal.τ Cert.NsaProjRefIdeal.sig) → Buf (Elt Ideal) ℓ) (g : Dev Cert.NsaProjRefIdeal.nD → PrngReg), Pre_NsaProjRefIdeal m →
    θ_run (Cert.NsaProjRefIdeal.defs (F := Ideal)) (onTc (τ := Cert.NsaProjRefIdeal.τ) (Cert.NsaProjRefIdeal.main (F := Ideal))) ⟨m, fun _ => 0, g⟩ (fun r => (∀ c : Dev Cert.NsaProjRefIdeal.nD,
      r.2.mem ((c.tc : Thread Cert.NsaProjRefIdeal.nD Cert.NsaProjRefIdeal.τ).loc Cert.NsaProjRefIdeal.main_arg0) = m ((c.tc : Thread Cert.NsaProjRefIdeal.nD Cert.NsaProjRefIdeal.τ).loc Cert.NsaProjRefIdeal.main_arg0)
      ∧ r.2.mem ((c.tc : Thread Cert.NsaProjRefIdeal.nD Cert.NsaProjRefIdeal.τ).loc Cert.NsaProjRefIdeal.main_arg1) = m ((c.tc : Thread Cert.NsaProjRefIdeal.nD Cert.NsaProjRefIdeal.τ).loc Cert.NsaProjRefIdeal.main_arg1)
      ∧ r.2.mem ((c.tc : Thread Cert.NsaProjRefIdeal.nD Cert.NsaProjRefIdeal.τ).loc Cert.NsaProjRefIdeal.main_arg2) = m ((c.tc : Thread Cert.NsaProjRefIdeal.nD Cert.NsaProjRefIdeal.τ).loc Cert.NsaProjRefIdeal.main_arg2))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1)
      ∧ r.2.mem ((c.tc : Thread Cert.GlaProj.nD Cert.GlaProj.τ).loc Cert.GlaProj.main_arg2) = m ((c.tc : Thread Cert.GlaProj.nD Cert.GlaProj.τ).loc Cert.GlaProj.main_arg2))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
      ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2))
      ∧ r.2.sem = fun _ => 0)

def quiescent_GlaProjRefIdeal [hGlaProjRefIdeal : Cert.GlaProjRefIdeal.Facts] : Prop :=
  ∀ (m : (ℓ : Loc Cert.GlaProjRefIdeal.nD Cert.GlaProjRefIdeal.τ Cert.GlaProjRefIdeal.sig) → Buf (Elt Ideal) ℓ) (g : Dev Cert.GlaProjRefIdeal.nD → PrngReg), Pre_GlaProjRefIdeal m →
    θ_run (Cert.GlaProjRefIdeal.defs (F := Ideal)) (onTc (τ := Cert.GlaProjRefIdeal.τ) (Cert.GlaProjRefIdeal.main (F := Ideal))) ⟨m, fun _ => 0, g⟩ (fun r => (∀ c : Dev Cert.GlaProjRefIdeal.nD,
      r.2.mem ((c.tc : Thread Cert.GlaProjRefIdeal.nD Cert.GlaProjRefIdeal.τ).loc Cert.GlaProjRefIdeal.main_arg0) = m ((c.tc : Thread Cert.GlaProjRefIdeal.nD Cert.GlaProjRefIdeal.τ).loc Cert.GlaProjRefIdeal.main_arg0)
      ∧ r.2.mem ((c.tc : Thread Cert.GlaProjRefIdeal.nD Cert.GlaProjRefIdeal.τ).loc Cert.GlaProjRefIdeal.main_arg1) = m ((c.tc : Thread Cert.GlaProjRefIdeal.nD Cert.GlaProjRefIdeal.τ).loc Cert.GlaProjRefIdeal.main_arg1)
      ∧ r.2.mem ((c.tc : Thread Cert.GlaProjRefIdeal.nD Cert.GlaProjRefIdeal.τ).loc Cert.GlaProjRefIdeal.main_arg2) = m ((c.tc : Thread Cert.GlaProjRefIdeal.nD Cert.GlaProjRefIdeal.τ).loc Cert.GlaProjRefIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1))
      ∧ r.2.sem = fun _ => 0)

def quiescent_GlaDec [hGlaDec : Cert.GlaDec.Facts] : Prop :=
  ∀ (m : (ℓ : Loc Cert.GlaDec.nD Cert.GlaDec.τ Cert.GlaDec.sig) → Buf (Elt Bits) ℓ) (g : Dev Cert.GlaDec.nD → PrngReg), Pre_GlaDec m →
    θ_run (Cert.GlaDec.defs (F := Bits)) (onTc (τ := Cert.GlaDec.τ) (Cert.GlaDec.main (F := Bits))) ⟨m, fun _ => 0, g⟩ (fun r => (∀ c : Dev Cert.GlaDec.nD,
      r.2.mem ((c.tc : Thread Cert.GlaDec.nD Cert.GlaDec.τ).loc Cert.GlaDec.main_arg0) = m ((c.tc : Thread Cert.GlaDec.nD Cert.GlaDec.τ).loc Cert.GlaDec.main_arg0)
      ∧ r.2.mem ((c.tc : Thread Cert.GlaDec.nD Cert.GlaDec.τ).loc Cert.GlaDec.main_arg1) = m ((c.tc : Thread Cert.GlaDec.nD Cert.GlaDec.τ).loc Cert.GlaDec.main_arg1)
      ∧ r.2.mem ((c.tc : Thread Cert.GlaDec.nD Cert.GlaDec.τ).loc Cert.GlaDec.main_arg2) = m ((c.tc : Thread Cert.GlaDec.nD Cert.GlaDec.τ).loc Cert.GlaDec.main_arg2)
      ∧ r.2.mem ((c.tc : Thread Cert.GlaDec.nD Cert.GlaDec.τ).loc Cert.GlaDec.main_arg3) = m ((c.tc : Thread Cert.GlaDec.nD Cert.GlaDec.τ).loc Cert.GlaDec.main_arg3)
      ∧ r.2.mem ((c.tc : Thread Cert.GlaDec.nD Cert.GlaDec.τ).loc Cert.GlaDec.main_arg4) = m ((c.tc : Thread Cert.GlaDec.nD Cert.GlaDec.τ).loc Cert.GlaDec.main_arg4)
      ∧ r.2.mem ((c.tc : Thread Cert.GlaDec.nD Cert.GlaDec.τ).loc Cert.GlaDec.main_arg5) = m ((c.tc : Thread Cert.GlaDec.nD Cert.GlaDec.τ).loc Cert.GlaDec.main_arg5)
      ∧ r.2.mem ((c.tc : Thread Cert.GlaDec.nD Cert.GlaDec.τ).loc Cert.GlaDec.main_arg6) = m ((c.tc : Thread Cert.GlaDec.nD Cert.GlaDec.τ).loc Cert.GlaDec.main_arg6)
      ∧ r.2.mem ((c.tc : Thread Cert.GlaDec.nD Cert.GlaDec.τ).loc Cert.GlaDec.main_arg7) = m ((c.tc : Thread Cert.GlaDec.nD Cert.GlaDec.τ).loc Cert.GlaDec.main_arg7)
      ∧ r.2.mem ((c.tc : Thread Cert.GlaDec.nD Cert.GlaDec.τ).loc Cert.GlaDec.main_arg8) = m ((c.tc : Thread Cert.GlaDec.nD Cert.GlaDec.τ).loc Cert.GlaDec.main_arg8))
      ∧ r.2.sem = fun _ => 0)

def quiescent_GlaDecIdeal [hGlaDecIdeal : Cert.GlaDecIdeal.Facts] : Prop :=
  ∀ (m : (ℓ : Loc Cert.GlaDecIdeal.nD Cert.GlaDecIdeal.τ Cert.GlaDecIdeal.sig) → Buf (Elt Ideal) ℓ) (g : Dev Cert.GlaDecIdeal.nD → PrngReg), Pre_GlaDecIdeal m →
    θ_run (Cert.GlaDecIdeal.defs (F := Ideal)) (onTc (τ := Cert.GlaDecIdeal.τ) (Cert.GlaDecIdeal.main (F := Ideal))) ⟨m, fun _ => 0, g⟩ (fun r => (∀ c : Dev Cert.GlaDecIdeal.nD,
      r.2.mem ((c.tc : Thread Cert.GlaDecIdeal.nD Cert.GlaDecIdeal.τ).loc Cert.GlaDecIdeal.main_arg0) = m ((c.tc : Thread Cert.GlaDecIdeal.nD Cert.GlaDecIdeal.τ).loc Cert.GlaDecIdeal.main_arg0)
      ∧ r.2.mem ((c.tc : Thread Cert.GlaDecIdeal.nD Cert.GlaDecIdeal.τ).loc Cert.GlaDecIdeal.main_arg1) = m ((c.tc : Thread Cert.GlaDecIdeal.nD Cert.GlaDecIdeal.τ).loc Cert.GlaDecIdeal.main_arg1)
      ∧ r.2.mem ((c.tc : Thread Cert.GlaDecIdeal.nD Cert.GlaDecIdeal.τ).loc Cert.GlaDecIdeal.main_arg2) = m ((c.tc : Thread Cert.GlaDecIdeal.nD Cert.GlaDecIdeal.τ).loc Cert.GlaDecIdeal.main_arg2)
      ∧ r.2.mem ((c.tc : Thread Cert.GlaDecIdeal.nD Cert.GlaDecIdeal.τ).loc Cert.GlaDecIdeal.main_arg3) = m ((c.tc : Thread Cert.GlaDecIdeal.nD Cert.GlaDecIdeal.τ).loc Cert.GlaDecIdeal.main_arg3)
      ∧ r.2.mem ((c.tc : Thread Cert.GlaDecIdeal.nD Cert.GlaDecIdeal.τ).loc Cert.GlaDecIdeal.main_arg4) = m ((c.tc : Thread Cert.GlaDecIdeal.nD Cert.GlaDecIdeal.τ).loc Cert.GlaDecIdeal.main_arg4)
      ∧ r.2.mem ((c.tc : Thread Cert.GlaDecIdeal.nD Cert.GlaDecIdeal.τ).loc Cert.GlaDecIdeal.main_arg5) = m ((c.tc : Thread Cert.GlaDecIdeal.nD Cert.GlaDecIdeal.τ).loc Cert.GlaDecIdeal.main_arg5)
      ∧ r.2.mem ((c.tc : Thread Cert.GlaDecIdeal.nD Cert.GlaDecIdeal.τ).loc Cert.GlaDecIdeal.main_arg6) = m ((c.tc : Thread Cert.GlaDecIdeal.nD Cert.GlaDecIdeal.τ).loc Cert.GlaDecIdeal.main_arg6)
      ∧ r.2.mem ((c.tc : Thread Cert.GlaDecIdeal.nD Cert.GlaDecIdeal.τ).loc Cert.GlaDecIdeal.main_arg7) = m ((c.tc : Thread Cert.GlaDecIdeal.nD Cert.GlaDecIdeal.τ).loc Cert.GlaDecIdeal.main_arg7)
      ∧ r.2.mem ((c.tc : Thread Cert.GlaDecIdeal.nD Cert.GlaDecIdeal.τ).loc Cert.GlaDecIdeal.main_arg8) = m ((c.tc : Thread Cert.GlaDecIdeal.nD Cert.GlaDecIdeal.τ).loc Cert.GlaDecIdeal.main_arg8))
      ∧ r.2.sem = fun _ => 0)

def quiescent_GlaDecRefIdeal [hGlaDecRefIdeal : Cert.GlaDecRefIdeal.Facts] : Prop :=
  ∀ (m : (ℓ : Loc Cert.GlaDecRefIdeal.nD Cert.GlaDecRefIdeal.τ Cert.GlaDecRefIdeal.sig) → Buf (Elt Ideal) ℓ) (g : Dev Cert.GlaDecRefIdeal.nD → PrngReg), Pre_GlaDecRefIdeal m →
    θ_run (Cert.GlaDecRefIdeal.defs (F := Ideal)) (onTc (τ := Cert.GlaDecRefIdeal.τ) (Cert.GlaDecRefIdeal.main (F := Ideal))) ⟨m, fun _ => 0, g⟩ (fun r => (∀ c : Dev Cert.GlaDecRefIdeal.nD,
      r.2.mem ((c.tc : Thread Cert.GlaDecRefIdeal.nD Cert.GlaDecRefIdeal.τ).loc Cert.GlaDecRefIdeal.main_arg0) = m ((c.tc : Thread Cert.GlaDecRefIdeal.nD Cert.GlaDecRefIdeal.τ).loc Cert.GlaDecRefIdeal.main_arg0)
      ∧ r.2.mem ((c.tc : Thread Cert.GlaDecRefIdeal.nD Cert.GlaDecRefIdeal.τ).loc Cert.GlaDecRefIdeal.main_arg1) = m ((c.tc : Thread Cert.GlaDecRefIdeal.nD Cert.GlaDecRefIdeal.τ).loc Cert.GlaDecRefIdeal.main_arg1)
      ∧ r.2.mem ((c.tc : Thread Cert.GlaDecRefIdeal.nD Cert.GlaDecRefIdeal.τ).loc Cert.GlaDecRefIdeal.main_arg2) = m ((c.tc : Thread Cert.GlaDecRefIdeal.nD Cert.GlaDecRefIdeal.τ).loc Cert.GlaDecRefIdeal.main_arg2)
      ∧ r.2.mem ((c.tc : Thread Cert.GlaDecRefIdeal.nD Cert.GlaDecRefIdeal.τ).loc Cert.GlaDecRefIdeal.main_arg3) = m ((c.tc : Thread Cert.GlaDecRefIdeal.nD Cert.GlaDecRefIdeal.τ).loc Cert.GlaDecRefIdeal.main_arg3)
      ∧ r.2.mem ((c.tc : Thread Cert.GlaDecRefIdeal.nD Cert.GlaDecRefIdeal.τ).loc Cert.GlaDecRefIdeal.main_arg4) = m ((c.tc : Thread Cert.GlaDecRefIdeal.nD Cert.GlaDecRefIdeal.τ).loc Cert.GlaDecRefIdeal.main_arg4)
      ∧ r.2.mem ((c.tc : Thread Cert.GlaDecRefIdeal.nD Cert.GlaDecRefIdeal.τ).loc Cert.GlaDecRefIdeal.main_arg5) = m ((c.tc : Thread Cert.GlaDecRefIdeal.nD Cert.GlaDecRefIdeal.τ).loc Cert.GlaDecRefIdeal.main_arg5)
      ∧ r.2.mem ((c.tc : Thread Cert.GlaDecRefIdeal.nD Cert.GlaDecRefIdeal.τ).loc Cert.GlaDecRefIdeal.main_arg6) = m ((c.tc : Thread Cert.GlaDecRefIdeal.nD Cert.GlaDecRefIdeal.τ).loc Cert.GlaDecRefIdeal.main_arg6)
      ∧ r.2.mem ((c.tc : Thread Cert.GlaDecRefIdeal.nD Cert.GlaDecRefIdeal.τ).loc Cert.GlaDecRefIdeal.main_arg7) = m ((c.tc : Thread Cert.GlaDecRefIdeal.nD Cert.GlaDecRefIdeal.τ).loc Cert.GlaDecRefIdeal.main_arg7)
      ∧ r.2.mem ((c.tc : Thread Cert.GlaDecRefIdeal.nD Cert.GlaDecRefIdeal.τ).loc Cert.GlaDecRefIdeal.main_arg8) = m ((c.tc : Thread Cert.GlaDecRefIdeal.nD Cert.GlaDecRefIdeal.τ).loc Cert.GlaDecRefIdeal.main_arg8))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_own_key_above_mask [hFoxIdeal : Cert.FoxIdeal.Facts] [hFoxRefIdeal : Cert.FoxRefIdeal.Facts] [hPre_own_key_above_mask : Cert.Pre_own_key_above_mask.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_own_key_above_mask m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)) →
    ∃ (v0 : (c : Dev Cert.FoxIdeal.nD) → Buf (Elt Ideal) ((c.tc : Thread Cert.FoxIdeal.nD Cert.FoxIdeal.τ).loc Cert.FoxIdeal.main_v10)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v10) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v44) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v20) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v16) = v1 c
          ∧ r.2.mem ((c.tc : Thread Cert.ProjRefIdeal.nD Cert.ProjRefIdeal.τ).loc Cert.ProjRefIdeal.main_v17) = v2 c
          ∧ r.2.mem ((c.tc : Thread Cert.ProjRefIdeal.nD Cert.ProjRefIdeal.τ).loc Cert.ProjRefIdeal.main_v20) = v3 c
          ∧ r.2.mem ((c.tc : Thread Cert.ProjRefIdeal.nD Cert.ProjRefIdeal.τ).loc Cert.ProjRefIdeal.main_v23) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NsaMlp_NsaMlpIdeal : Prop :=
  True

def algebraic_NsaMlpIdeal_NsaMlpRefIdeal [hNsaMlpIdeal : Cert.NsaMlpIdeal.Facts] [hNsaMlpRefIdeal : Cert.NsaMlpRefIdeal.Facts] : Prop :=
  ∀ (m : (ℓ : Loc Cert.NsaMlpIdeal.nD Cert.NsaMlpIdeal.τ Cert.NsaMlpIdeal.sig) → Buf (Elt Ideal) ℓ) (g : Dev Cert.NsaMlpIdeal.nD → PrngReg)
    (m' : (ℓ : Loc Cert.NsaMlpRefIdeal.nD Cert.NsaMlpRefIdeal.τ Cert.NsaMlpRefIdeal.sig) → Buf (Elt Ideal) ℓ) (g' : Dev Cert.NsaMlpRefIdeal.nD → PrngReg), Pre_NsaMlpIdeal m →
    (∀ c : Dev Cert.NsaMlpIdeal.nD,
      m' ((c.tc : Thread Cert.NsaMlpRefIdeal.nD Cert.NsaMlpRefIdeal.τ).loc Cert.NsaMlpRefIdeal.main_arg0) = m ((c.tc : Thread Cert.NsaMlpIdeal.nD Cert.NsaMlpIdeal.τ).loc Cert.NsaMlpIdeal.main_arg0)
      ∧ m' ((c.tc : Thread Cert.NsaMlpRefIdeal.nD Cert.NsaMlpRefIdeal.τ).loc Cert.NsaMlpRefIdeal.main_arg1) = m ((c.tc : Thread Cert.NsaMlpIdeal.nD Cert.NsaMlpIdeal.τ).loc Cert.NsaMlpIdeal.main_arg1)
      ∧ m' ((c.tc : Thread Cert.NsaMlpRefIdeal.nD Cert.NsaMlpRefIdeal.τ).loc Cert.NsaMlpRefIdeal.main_arg2) = m ((c.tc : Thread Cert.NsaMlpIdeal.nD Cert.NsaMlpIdeal.τ).loc Cert.NsaMlpIdeal.main_arg2)
      ∧ m' ((c.tc : Thread Cert.NsaMlpRefIdeal.nD Cert.NsaMlpRefIdeal.τ).loc Cert.NsaMlpRefIdeal.main_arg3) = m ((c.tc : Thread Cert.NsaMlpIdeal.nD Cert.NsaMlpIdeal.τ).loc Cert.NsaMlpIdeal.main_arg3)
      ∧ m' ((c.tc : Thread Cert.NsaMlpRefIdeal.nD Cert.NsaMlpRefIdeal.τ).loc Cert.NsaMlpRefIdeal.main_arg4) = m ((c.tc : Thread Cert.NsaMlpIdeal.nD Cert.NsaMlpIdeal.τ).loc Cert.NsaMlpIdeal.main_arg4)
      ∧ m' ((c.tc : Thread Cert.NsaMlpRefIdeal.nD Cert.NsaMlpRefIdeal.τ).loc Cert.NsaMlpRefIdeal.main_arg5) = m ((c.tc : Thread Cert.NsaMlpIdeal.nD Cert.NsaMlpIdeal.τ).loc Cert.NsaMlpIdeal.main_arg5)
      ∧ m' ((c.tc : Thread Cert.NsaMlpRefIdeal.nD Cert.NsaMlpRefIdeal.τ).loc Cert.NsaMlpRefIdeal.main_arg6) = m ((c.tc : Thread Cert.NsaMlpIdeal.nD Cert.NsaMlpIdeal.τ).loc Cert.NsaMlpIdeal.main_arg6)
      ∧ m' ((c.tc : Thread Cert.NsaMlpRefIdeal.nD Cert.NsaMlpRefIdeal.τ).loc Cert.NsaMlpRefIdeal.main_arg7) = m ((c.tc : Thread Cert.NsaMlpIdeal.nD Cert.NsaMlpIdeal.τ).loc Cert.NsaMlpIdeal.main_arg7)
      ∧ m' ((c.tc : Thread Cert.NsaMlpRefIdeal.nD Cert.NsaMlpRefIdeal.τ).loc Cert.NsaMlpRefIdeal.main_arg8) = m ((c.tc : Thread Cert.NsaMlpIdeal.nD Cert.NsaMlpIdeal.τ).loc Cert.NsaMlpIdeal.main_arg8)
      ∧ m' ((c.tc : Thread Cert.NsaMlpRefIdeal.nD Cert.NsaMlpRefIdeal.τ).loc Cert.NsaMlpRefIdeal.main_arg9) = m ((c.tc : Thread Cert.NsaMlpIdeal.nD Cert.NsaMlpIdeal.τ).loc Cert.NsaMlpIdeal.main_arg9)
      ∧ m' ((c.tc : Thread Cert.NsaMlpRefIdeal.nD Cert.NsaMlpRefIdeal.τ).loc Cert.NsaMlpRefIdeal.main_arg10) = m ((c.tc : Thread Cert.NsaMlpIdeal.nD Cert.NsaMlpIdeal.τ).loc Cert.NsaMlpIdeal.main_arg10)) →
    ∃ (v0 : (c : Dev Cert.NsaMlpIdeal.nD) → Buf (Elt Ideal) ((c.tc : Thread Cert.NsaMlpIdeal.nD Cert.NsaMlpIdeal.τ).loc Cert.NsaMlpIdeal.main_v4)),
      θ_run (Cert.NsaMlpIdeal.defs (F := Ideal)) (onTc (τ := Cert.NsaMlpIdeal.τ) (Cert.NsaMlpIdeal.main (F := Ideal))) ⟨m, fun _ => 0, g⟩ (fun r => ∀ c : Dev Cert.NsaMlpIdeal.nD,
          r.2.mem ((c.tc : Thread Cert.NsaMlpIdeal.nD Cert.NsaMlpIdeal.τ).loc Cert.NsaMlpIdeal.main_v4) = v0 c
          ∧ r.2.mem ((c.tc : Thread Cert.NsaMlpIdeal.nD Cert.NsaMlpIdeal.τ).loc Cert.NsaMlpIdeal.main_arg0) = m ((c.tc : Thread Cert.NsaMlpIdeal.nD Cert.NsaMlpIdeal.τ).loc Cert.NsaMlpIdeal.main_arg0)
          ∧ r.2.mem ((c.tc : Thread Cert.NsaMlpIdeal.nD Cert.NsaMlpIdeal.τ).loc Cert.NsaMlpIdeal.main_arg1) = m ((c.tc : Thread Cert.NsaMlpIdeal.nD Cert.NsaMlpIdeal.τ).loc Cert.NsaMlpIdeal.main_arg1)
          ∧ r.2.mem ((c.tc : Thread Cert.NsaMlpIdeal.nD Cert.NsaMlpIdeal.τ).loc Cert.NsaMlpIdeal.main_arg2) = m ((c.tc : Thread Cert.NsaMlpIdeal.nD Cert.NsaMlpIdeal.τ).loc Cert.NsaMlpIdeal.main_arg2)
          ∧ r.2.mem ((c.tc : Thread Cert.NsaMlpIdeal.nD Cert.NsaMlpIdeal.τ).loc Cert.NsaMlpIdeal.main_arg3) = m ((c.tc : Thread Cert.NsaMlpIdeal.nD Cert.NsaMlpIdeal.τ).loc Cert.NsaMlpIdeal.main_arg3)
          ∧ r.2.mem ((c.tc : Thread Cert.NsaMlpIdeal.nD Cert.NsaMlpIdeal.τ).loc Cert.NsaMlpIdeal.main_arg4) = m ((c.tc : Thread Cert.NsaMlpIdeal.nD Cert.NsaMlpIdeal.τ).loc Cert.NsaMlpIdeal.main_arg4)
          ∧ r.2.mem ((c.tc : Thread Cert.NsaMlpIdeal.nD Cert.NsaMlpIdeal.τ).loc Cert.NsaMlpIdeal.main_arg5) = m ((c.tc : Thread Cert.NsaMlpIdeal.nD Cert.NsaMlpIdeal.τ).loc Cert.NsaMlpIdeal.main_arg5)
          ∧ r.2.mem ((c.tc : Thread Cert.NsaMlpIdeal.nD Cert.NsaMlpIdeal.τ).loc Cert.NsaMlpIdeal.main_arg6) = m ((c.tc : Thread Cert.NsaMlpIdeal.nD Cert.NsaMlpIdeal.τ).loc Cert.NsaMlpIdeal.main_arg6)
          ∧ r.2.mem ((c.tc : Thread Cert.NsaMlpIdeal.nD Cert.NsaMlpIdeal.τ).loc Cert.NsaMlpIdeal.main_arg7) = m ((c.tc : Thread Cert.NsaMlpIdeal.nD Cert.NsaMlpIdeal.τ).loc Cert.NsaMlpIdeal.main_arg7)
          ∧ r.2.mem ((c.tc : Thread Cert.NsaMlpIdeal.nD Cert.NsaMlpIdeal.τ).loc Cert.NsaMlpIdeal.main_arg8) = m ((c.tc : Thread Cert.NsaMlpIdeal.nD Cert.NsaMlpIdeal.τ).loc Cert.NsaMlpIdeal.main_arg8)
          ∧ r.2.mem ((c.tc : Thread Cert.NsaMlpIdeal.nD Cert.NsaMlpIdeal.τ).loc Cert.NsaMlpIdeal.main_arg9) = m ((c.tc : Thread Cert.NsaMlpIdeal.nD Cert.NsaMlpIdeal.τ).loc Cert.NsaMlpIdeal.main_arg9)
          ∧ r.2.mem ((c.tc : Thread Cert.NsaMlpIdeal.nD Cert.NsaMlpIdeal.τ).loc Cert.NsaMlpIdeal.main_arg10) = m ((c.tc : Thread Cert.NsaMlpIdeal.nD Cert.NsaMlpIdeal.τ).loc Cert.NsaMlpIdeal.main_arg10))
      ∧ θ_run (Cert.NsaMlpRefIdeal.defs (F := Ideal)) (onTc (τ := Cert.NsaMlpRefIdeal.τ) (Cert.NsaMlpRefIdeal.main (F := Ideal))) ⟨m', fun _ => 0, g'⟩ (fun r => ∀ c : Dev Cert.NsaMlpRefIdeal.nD,
          r.2.mem ((c.tc : Thread Cert.NsaMlpRefIdeal.nD Cert.NsaMlpRefIdeal.τ).loc Cert.NsaMlpRefIdeal.main_v24) = v0 c
          ∧ r.2.mem ((c.tc : Thread Cert.NsaMlpRefIdeal.nD Cert.NsaMlpRefIdeal.τ).loc Cert.NsaMlpRefIdeal.main_arg0) = m' ((c.tc : Thread Cert.NsaMlpRefIdeal.nD Cert.NsaMlpRefIdeal.τ).loc Cert.NsaMlpRefIdeal.main_arg0)
          ∧ r.2.mem ((c.tc : Thread Cert.NsaMlpRefIdeal.nD Cert.NsaMlpRefIdeal.τ).loc Cert.NsaMlpRefIdeal.main_arg1) = m' ((c.tc : Thread Cert.NsaMlpRefIdeal.nD Cert.NsaMlpRefIdeal.τ).loc Cert.NsaMlpRefIdeal.main_arg1)
          ∧ r.2.mem ((c.tc : Thread Cert.NsaMlpRefIdeal.nD Cert.NsaMlpRefIdeal.τ).loc Cert.NsaMlpRefIdeal.main_arg2) = m' ((c.tc : Thread Cert.NsaMlpRefIdeal.nD Cert.NsaMlpRefIdeal.τ).loc Cert.NsaMlpRefIdeal.main_arg2)
          ∧ r.2.mem ((c.tc : Thread Cert.NsaMlpRefIdeal.nD Cert.NsaMlpRefIdeal.τ).loc Cert.NsaMlpRefIdeal.main_arg3) = m' ((c.tc : Thread Cert.NsaMlpRefIdeal.nD Cert.NsaMlpRefIdeal.τ).loc Cert.NsaMlpRefIdeal.main_arg3)
          ∧ r.2.mem ((c.tc : Thread Cert.NsaMlpRefIdeal.nD Cert.NsaMlpRefIdeal.τ).loc Cert.NsaMlpRefIdeal.main_arg4) = m' ((c.tc : Thread Cert.NsaMlpRefIdeal.nD Cert.NsaMlpRefIdeal.τ).loc Cert.NsaMlpRefIdeal.main_arg4)
          ∧ r.2.mem ((c.tc : Thread Cert.NsaMlpRefIdeal.nD Cert.NsaMlpRefIdeal.τ).loc Cert.NsaMlpRefIdeal.main_arg5) = m' ((c.tc : Thread Cert.NsaMlpRefIdeal.nD Cert.NsaMlpRefIdeal.τ).loc Cert.NsaMlpRefIdeal.main_arg5)
          ∧ r.2.mem ((c.tc : Thread Cert.NsaMlpRefIdeal.nD Cert.NsaMlpRefIdeal.τ).loc Cert.NsaMlpRefIdeal.main_arg6) = m' ((c.tc : Thread Cert.NsaMlpRefIdeal.nD Cert.NsaMlpRefIdeal.τ).loc Cert.NsaMlpRefIdeal.main_arg6)
          ∧ r.2.mem ((c.tc : Thread Cert.NsaMlpRefIdeal.nD Cert.NsaMlpRefIdeal.τ).loc Cert.NsaMlpRefIdeal.main_arg7) = m' ((c.tc : Thread Cert.NsaMlpRefIdeal.nD Cert.NsaMlpRefIdeal.τ).loc Cert.NsaMlpRefIdeal.main_arg7)
          ∧ r.2.mem ((c.tc : Thread Cert.NsaMlpRefIdeal.nD Cert.NsaMlpRefIdeal.τ).loc Cert.NsaMlpRefIdeal.main_arg8) = m' ((c.tc : Thread Cert.NsaMlpRefIdeal.nD Cert.NsaMlpRefIdeal.τ).loc Cert.NsaMlpRefIdeal.main_arg8)
          ∧ r.2.mem ((c.tc : Thread Cert.NsaMlpRefIdeal.nD Cert.NsaMlpRefIdeal.τ).loc Cert.NsaMlpRefIdeal.main_arg9) = m' ((c.tc : Thread Cert.NsaMlpRefIdeal.nD Cert.NsaMlpRefIdeal.τ).loc Cert.NsaMlpRefIdeal.main_arg9)
          ∧ r.2.mem ((c.tc : Thread Cert.NsaMlpRefIdeal.nD Cert.NsaMlpRefIdeal.τ).loc Cert.NsaMlpRefIdeal.main_arg10) = m' ((c.tc : Thread Cert.NsaMlpRefIdeal.nD Cert.NsaMlpRefIdeal.τ).loc Cert.NsaMlpRefIdeal.main_arg10))

def preserves_NsaProj_NsaProjIdeal : Prop :=
  True

def algebraic_NsaProjIdeal_NsaProjRefIdeal [hNsaProjIdeal : Cert.NsaProjIdeal.Facts] [hNsaProjRefIdeal : Cert.NsaProjRefIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjRefIdeal.nD Cert.NsaProjRefIdeal.τ Cert.NsaProjRefIdeal.sig) → Buf (Elt Ideal) ℓ) (g' : Dev Cert.NsaProjRefIdeal.nD → PrngReg), Pre_NsaProjIdeal m →
    (∀ c : Dev Cert.NsaProjIdeal.nD,
      m' ((c.tc : Thread Cert.NsaProjRefIdeal.nD Cert.NsaProjRefIdeal.τ).loc Cert.NsaProjRefIdeal.main_arg0) = m ((c.tc : Thread Cert.NsaProjIdeal.nD Cert.NsaProjIdeal.τ).loc Cert.NsaProjIdeal.main_arg0)
      ∧ m' ((c.tc : Thread Cert.NsaProjRefIdeal.nD Cert.NsaProjRefIdeal.τ).loc Cert.NsaProjRefIdeal.main_arg1) = m ((c.tc : Thread Cert.NsaProjIdeal.nD Cert.NsaProjIdeal.τ).loc Cert.NsaProjIdeal.main_arg1)
      ∧ m' ((c.tc : Thread Cert.NsaProjRefIdeal.nD Cert.NsaProjRefIdeal.τ).loc Cert.NsaProjRefIdeal.main_arg2) = m ((c.tc : Thread Cert.NsaProjIdeal.nD Cert.NsaProjIdeal.τ).loc Cert.NsaProjIdeal.main_arg2)) →
    ∃ (v0 : (c : Dev Cert.NsaProjIdeal.nD) → Buf (Elt Ideal) ((c.tc : Thread Cert.NsaProjIdeal.nD Cert.NsaProjIdeal.τ).loc Cert.NsaProjIdeal.main_v3_0)) (v1 : (c : Dev Cert.NsaProjIdeal.nD) → Buf (Elt Ideal) ((c.tc : Thread Cert.NsaProjIdeal.nD Cert.NsaProjIdeal.τ).loc Cert.NsaProjIdeal.main_v3_1)) (v2 : (c : Dev Cert.NsaProjIdeal.nD) → Buf (Elt Ideal) ((c.tc : Thread Cert.NsaProjIdeal.nD Cert.NsaProjIdeal.τ).loc Cert.NsaProjIdeal.main_v3_2)) (v3 : (c : Dev Cert.NsaProjIdeal.nD) → Buf (Elt Ideal) ((c.tc : Thread Cert.NsaProjIdeal.nD Cert.NsaProjIdeal.τ).loc Cert.NsaProjIdeal.main_v3_3)) (v4 : (c : Dev Cert.NsaProjIdeal.nD) → Buf (Elt Ideal) ((c.tc : Thread Cert.NsaProjIdeal.nD Cert.NsaProjIdeal.τ).loc Cert.NsaProjIdeal.main_v3_4)) (v5 : (c : Dev Cert.NsaProjIdeal.nD) → Buf (Elt Ideal) ((c.tc : Thread Cert.NsaProjIdeal.nD Cert.NsaProjIdeal.τ).loc Cert.NsaProjIdeal.main_v3_5)) (v6 : (c : Dev Cert.NsaProjIdeal.nD) → Buf (Elt Ideal) ((c.tc : Thread Cert.NsaProjIdeal.nD Cert.NsaProjIdeal.τ).loc Cert.NsaProjIdeal.main_v3_6)) (v7 : (c : Dev Cert.NsaProjIdeal.nD) → Buf (Elt Ideal) ((c.tc : Thread Cert.NsaProjIdeal.nD Cert.NsaProjIdeal.τ).loc Cert.NsaProjIdeal.main_v3_7)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v3_0) = v0 c
          ∧ r.2.mem ((c.tc : Thread Cert.NsaProjIdeal.nD Cert.NsaProjIdeal.τ).loc Cert.NsaProjIdeal.main_v3_1) = v1 c
          ∧ r.2.mem ((c.tc : Thread Cert.NsaProjIdeal.nD Cert.NsaProjIdeal.τ).loc Cert.NsaProjIdeal.main_v3_2) = v2 c
          ∧ r.2.mem ((c.tc : Thread Cert.NsaProjIdeal.nD Cert.NsaProjIdeal.τ).loc Cert.NsaProjIdeal.main_v3_3) = v3 c
          ∧ r.2.mem ((c.tc : Thread Cert.NsaProjIdeal.nD Cert.NsaProjIdeal.τ).loc Cert.NsaProjIdeal.main_v3_4) = v4 c
          ∧ r.2.mem ((c.tc : Thread Cert.NsaProjIdeal.nD Cert.NsaProjIdeal.τ).loc Cert.NsaProjIdeal.main_v3_5) = v5 c
          ∧ r.2.mem ((c.tc : Thread Cert.NsaProjIdeal.nD Cert.NsaProjIdeal.τ).loc Cert.NsaProjIdeal.main_v3_6) = v6 c
          ∧ r.2.mem ((c.tc : Thread Cert.NsaProjIdeal.nD Cert.NsaProjIdeal.τ).loc Cert.NsaProjIdeal.main_v3_7) = v7 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1)
          ∧ r.2.mem ((c.tc : Thread Cert.NsaProjIdeal.nD Cert.NsaProjIdeal.τ).loc Cert.NsaProjIdeal.main_arg2) = m ((c.tc : Thread Cert.NsaProjIdeal.nD Cert.NsaProjIdeal.τ).loc Cert.NsaProjIdeal.main_arg2))
      ∧ θ_run (Cert.NsaProjRefIdeal.defs (F := Ideal)) (onTc (τ := Cert.NsaProjRefIdeal.τ) (Cert.NsaProjRefIdeal.main (F := Ideal))) ⟨m', fun _ => 0, g'⟩ (fun r => ∀ c : Dev Cert.NsaProjRefIdeal.nD,
          r.2.mem ((c.tc : Thread Cert.NsaProjRefIdeal.nD Cert.NsaProjRefIdeal.τ).loc Cert.NsaProjRefIdeal.main_v14) = v0 c
          ∧ r.2.mem ((c.tc : Thread Cert.NsaProjRefIdeal.nD Cert.NsaProjRefIdeal.τ).loc Cert.NsaProjRefIdeal.main_v16) = v1 c
          ∧ r.2.mem ((c.tc : Thread Cert.NsaProjRefIdeal.nD Cert.NsaProjRefIdeal.τ).loc Cert.NsaProjRefIdeal.main_v15) = v2 c
          ∧ r.2.mem ((c.tc : Thread Cert.NsaProjRefIdeal.nD Cert.NsaProjRefIdeal.τ).loc Cert.NsaProjRefIdeal.main_v17) = v3 c
          ∧ r.2.mem ((c.tc : Thread Cert.NsaProjRefIdeal.nD Cert.NsaProjRefIdeal.τ).loc Cert.NsaProjRefIdeal.main_v20) = v4 c
          ∧ r.2.mem ((c.tc : Thread Cert.NsaProjRefIdeal.nD Cert.NsaProjRefIdeal.τ).loc Cert.NsaProjRefIdeal.main_v23) = v5 c
          ∧ r.2.mem ((c.tc : Thread Cert.NsaProjRefIdeal.nD Cert.NsaProjRefIdeal.τ).loc Cert.NsaProjRefIdeal.main_v26) = v6 c
          ∧ r.2.mem ((c.tc : Thread Cert.NsaProjRefIdeal.nD Cert.NsaProjRefIdeal.τ).loc Cert.NsaProjRefIdeal.main_v28) = v7 c
          ∧ r.2.mem ((c.tc : Thread Cert.NsaProjRefIdeal.nD Cert.NsaProjRefIdeal.τ).loc Cert.NsaProjRefIdeal.main_arg0) = m' ((c.tc : Thread Cert.NsaProjRefIdeal.nD Cert.NsaProjRefIdeal.τ).loc Cert.NsaProjRefIdeal.main_arg0)
          ∧ r.2.mem ((c.tc : Thread Cert.NsaProjRefIdeal.nD Cert.NsaProjRefIdeal.τ).loc Cert.NsaProjRefIdeal.main_arg1) = m' ((c.tc : Thread Cert.NsaProjRefIdeal.nD Cert.NsaProjRefIdeal.τ).loc Cert.NsaProjRefIdeal.main_arg1)
          ∧ r.2.mem ((c.tc : Thread Cert.NsaProjRefIdeal.nD Cert.NsaProjRefIdeal.τ).loc Cert.NsaProjRefIdeal.main_arg2) = m' ((c.tc : Thread Cert.NsaProjRefIdeal.nD Cert.NsaProjRefIdeal.τ).loc Cert.NsaProjRefIdeal.main_arg2))

def preserves_GlaProj_GlaProjIdeal : Prop :=
  True

def algebraic_GlaProjIdeal_GlaProjRefIdeal [hGlaProjIdeal : Cert.GlaProjIdeal.Facts] [hGlaProjRefIdeal : Cert.GlaProjRefIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjRefIdeal.nD Cert.GlaProjRefIdeal.τ Cert.GlaProjRefIdeal.sig) → Buf (Elt Ideal) ℓ) (g' : Dev Cert.GlaProjRefIdeal.nD → PrngReg), Pre_GlaProjIdeal m →
    (∀ c : Dev Cert.GlaProjIdeal.nD,
      m' ((c.tc : Thread Cert.GlaProjRefIdeal.nD Cert.GlaProjRefIdeal.τ).loc Cert.GlaProjRefIdeal.main_arg0) = m ((c.tc : Thread Cert.GlaProjIdeal.nD Cert.GlaProjIdeal.τ).loc Cert.GlaProjIdeal.main_arg0)
      ∧ m' ((c.tc : Thread Cert.GlaProjRefIdeal.nD Cert.GlaProjRefIdeal.τ).loc Cert.GlaProjRefIdeal.main_arg1) = m ((c.tc : Thread Cert.GlaProjIdeal.nD Cert.GlaProjIdeal.τ).loc Cert.GlaProjIdeal.main_arg1)
      ∧ m' ((c.tc : Thread Cert.GlaProjRefIdeal.nD Cert.GlaProjRefIdeal.τ).loc Cert.GlaProjRefIdeal.main_arg2) = m ((c.tc : Thread Cert.GlaProjIdeal.nD Cert.GlaProjIdeal.τ).loc Cert.GlaProjIdeal.main_arg2)) →
    ∃ (v0 : (c : Dev Cert.GlaProjIdeal.nD) → Buf (Elt Ideal) ((c.tc : Thread Cert.GlaProjIdeal.nD Cert.GlaProjIdeal.τ).loc Cert.GlaProjIdeal.main_v3_0)) (v1 : (c : Dev Cert.GlaProjIdeal.nD) → Buf (Elt Ideal) ((c.tc : Thread Cert.GlaProjIdeal.nD Cert.GlaProjIdeal.τ).loc Cert.GlaProjIdeal.main_v3_1)) (v2 : (c : Dev Cert.GlaProjIdeal.nD) → Buf (Elt Ideal) ((c.tc : Thread Cert.GlaProjIdeal.nD Cert.GlaProjIdeal.τ).loc Cert.GlaProjIdeal.main_v3_2)) (v3 : (c : Dev Cert.GlaProjIdeal.nD) → Buf (Elt Ideal) ((c.tc : Thread Cert.GlaProjIdeal.nD Cert.GlaProjIdeal.τ).loc Cert.GlaProjIdeal.main_v3_3)) (v4 : (c : Dev Cert.GlaProjIdeal.nD) → Buf (Elt Ideal) ((c.tc : Thread Cert.GlaProjIdeal.nD Cert.GlaProjIdeal.τ).loc Cert.GlaProjIdeal.main_v3_4)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v3_0) = v0 c
          ∧ r.2.mem ((c.tc : Thread Cert.GlaProjIdeal.nD Cert.GlaProjIdeal.τ).loc Cert.GlaProjIdeal.main_v3_1) = v1 c
          ∧ r.2.mem ((c.tc : Thread Cert.GlaProjIdeal.nD Cert.GlaProjIdeal.τ).loc Cert.GlaProjIdeal.main_v3_2) = v2 c
          ∧ r.2.mem ((c.tc : Thread Cert.GlaProjIdeal.nD Cert.GlaProjIdeal.τ).loc Cert.GlaProjIdeal.main_v3_3) = v3 c
          ∧ r.2.mem ((c.tc : Thread Cert.GlaProjIdeal.nD Cert.GlaProjIdeal.τ).loc Cert.GlaProjIdeal.main_v3_4) = v4 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
          ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2))
      ∧ θ_run (Cert.GlaProjRefIdeal.defs (F := Ideal)) (onTc (τ := Cert.GlaProjRefIdeal.τ) (Cert.GlaProjRefIdeal.main (F := Ideal))) ⟨m', fun _ => 0, g'⟩ (fun r => ∀ c : Dev Cert.GlaProjRefIdeal.nD,
          r.2.mem ((c.tc : Thread Cert.GlaProjRefIdeal.nD Cert.GlaProjRefIdeal.τ).loc Cert.GlaProjRefIdeal.main_v14) = v0 c
          ∧ r.2.mem ((c.tc : Thread Cert.GlaProjRefIdeal.nD Cert.GlaProjRefIdeal.τ).loc Cert.GlaProjRefIdeal.main_v15) = v1 c
          ∧ r.2.mem ((c.tc : Thread Cert.GlaProjRefIdeal.nD Cert.GlaProjRefIdeal.τ).loc Cert.GlaProjRefIdeal.main_v16) = v2 c
          ∧ r.2.mem ((c.tc : Thread Cert.GlaProjRefIdeal.nD Cert.GlaProjRefIdeal.τ).loc Cert.GlaProjRefIdeal.main_v17) = v3 c
          ∧ r.2.mem ((c.tc : Thread Cert.GlaProjRefIdeal.nD Cert.GlaProjRefIdeal.τ).loc Cert.GlaProjRefIdeal.main_v18) = v4 c
          ∧ r.2.mem ((c.tc : Thread Cert.GlaProjRefIdeal.nD Cert.GlaProjRefIdeal.τ).loc Cert.GlaProjRefIdeal.main_arg0) = m' ((c.tc : Thread Cert.GlaProjRefIdeal.nD Cert.GlaProjRefIdeal.τ).loc Cert.GlaProjRefIdeal.main_arg0)
          ∧ r.2.mem ((c.tc : Thread Cert.GlaProjRefIdeal.nD Cert.GlaProjRefIdeal.τ).loc Cert.GlaProjRefIdeal.main_arg1) = m' ((c.tc : Thread Cert.GlaProjRefIdeal.nD Cert.GlaProjRefIdeal.τ).loc Cert.GlaProjRefIdeal.main_arg1)
          ∧ r.2.mem ((c.tc : Thread Cert.GlaProjRefIdeal.nD Cert.GlaProjRefIdeal.τ).loc Cert.GlaProjRefIdeal.main_arg2) = m' ((c.tc : Thread Cert.GlaProjRefIdeal.nD Cert.GlaProjRefIdeal.τ).loc Cert.GlaProjRefIdeal.main_arg2))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)) →
    ∃ (v0 : (c : Dev Cert.WinIdeal.nD) → Buf (Elt Ideal) ((c.tc : Thread Cert.WinIdeal.nD Cert.WinIdeal.τ).loc Cert.WinIdeal.main_v3_1)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v3_1) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v7) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)) →
    ∃ (v0 : (c : Dev Cert.PrepIdeal.nD) → Buf (Elt Ideal) ((c.tc : Thread Cert.PrepIdeal.nD Cert.PrepIdeal.τ).loc Cert.PrepIdeal.main_v1_0)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v1_0) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v6) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1))

def preserves_GlaDec_GlaDecIdeal : Prop :=
  True

def algebraic_GlaDecIdeal_GlaDecRefIdeal [hGlaDecIdeal : Cert.GlaDecIdeal.Facts] [hGlaDecRefIdeal : Cert.GlaDecRefIdeal.Facts] : Prop :=
  ∀ (m : (ℓ : Loc Cert.GlaDecIdeal.nD Cert.GlaDecIdeal.τ Cert.GlaDecIdeal.sig) → Buf (Elt Ideal) ℓ) (g : Dev Cert.GlaDecIdeal.nD → PrngReg)
    (m' : (ℓ : Loc Cert.GlaDecRefIdeal.nD Cert.GlaDecRefIdeal.τ Cert.GlaDecRefIdeal.sig) → Buf (Elt Ideal) ℓ) (g' : Dev Cert.GlaDecRefIdeal.nD → PrngReg), Pre_GlaDecIdeal m →
    (∀ c : Dev Cert.GlaDecIdeal.nD,
      m' ((c.tc : Thread Cert.GlaDecRefIdeal.nD Cert.GlaDecRefIdeal.τ).loc Cert.GlaDecRefIdeal.main_arg0) = m ((c.tc : Thread Cert.GlaDecIdeal.nD Cert.GlaDecIdeal.τ).loc Cert.GlaDecIdeal.main_arg0)
      ∧ m' ((c.tc : Thread Cert.GlaDecRefIdeal.nD Cert.GlaDecRefIdeal.τ).loc Cert.GlaDecRefIdeal.main_arg1) = m ((c.tc : Thread Cert.GlaDecIdeal.nD Cert.GlaDecIdeal.τ).loc Cert.GlaDecIdeal.main_arg1)
      ∧ m' ((c.tc : Thread Cert.GlaDecRefIdeal.nD Cert.GlaDecRefIdeal.τ).loc Cert.GlaDecRefIdeal.main_arg2) = m ((c.tc : Thread Cert.GlaDecIdeal.nD Cert.GlaDecIdeal.τ).loc Cert.GlaDecIdeal.main_arg2)
      ∧ m' ((c.tc : Thread Cert.GlaDecRefIdeal.nD Cert.GlaDecRefIdeal.τ).loc Cert.GlaDecRefIdeal.main_arg3) = m ((c.tc : Thread Cert.GlaDecIdeal.nD Cert.GlaDecIdeal.τ).loc Cert.GlaDecIdeal.main_arg3)
      ∧ m' ((c.tc : Thread Cert.GlaDecRefIdeal.nD Cert.GlaDecRefIdeal.τ).loc Cert.GlaDecRefIdeal.main_arg4) = m ((c.tc : Thread Cert.GlaDecIdeal.nD Cert.GlaDecIdeal.τ).loc Cert.GlaDecIdeal.main_arg4)
      ∧ m' ((c.tc : Thread Cert.GlaDecRefIdeal.nD Cert.GlaDecRefIdeal.τ).loc Cert.GlaDecRefIdeal.main_arg5) = m ((c.tc : Thread Cert.GlaDecIdeal.nD Cert.GlaDecIdeal.τ).loc Cert.GlaDecIdeal.main_arg5)
      ∧ m' ((c.tc : Thread Cert.GlaDecRefIdeal.nD Cert.GlaDecRefIdeal.τ).loc Cert.GlaDecRefIdeal.main_arg6) = m ((c.tc : Thread Cert.GlaDecIdeal.nD Cert.GlaDecIdeal.τ).loc Cert.GlaDecIdeal.main_arg6)
      ∧ m' ((c.tc : Thread Cert.GlaDecRefIdeal.nD Cert.GlaDecRefIdeal.τ).loc Cert.GlaDecRefIdeal.main_arg7) = m ((c.tc : Thread Cert.GlaDecIdeal.nD Cert.GlaDecIdeal.τ).loc Cert.GlaDecIdeal.main_arg7)
      ∧ m' ((c.tc : Thread Cert.GlaDecRefIdeal.nD Cert.GlaDecRefIdeal.τ).loc Cert.GlaDecRefIdeal.main_arg8) = m ((c.tc : Thread Cert.GlaDecIdeal.nD Cert.GlaDecIdeal.τ).loc Cert.GlaDecIdeal.main_arg8)) →
    ∃ (v0 : (c : Dev Cert.GlaDecIdeal.nD) → Buf (Elt Ideal) ((c.tc : Thread Cert.GlaDecIdeal.nD Cert.GlaDecIdeal.τ).loc Cert.GlaDecIdeal.main_v3_1)),
      θ_run (Cert.GlaDecIdeal.defs (F := Ideal)) (onTc (τ := Cert.GlaDecIdeal.τ) (Cert.GlaDecIdeal.main (F := Ideal))) ⟨m, fun _ => 0, g⟩ (fun r => ∀ c : Dev Cert.GlaDecIdeal.nD,
          r.2.mem ((c.tc : Thread Cert.GlaDecIdeal.nD Cert.GlaDecIdeal.τ).loc Cert.GlaDecIdeal.main_v3_1) = v0 c
          ∧ r.2.mem ((c.tc : Thread Cert.GlaDecIdeal.nD Cert.GlaDecIdeal.τ).loc Cert.GlaDecIdeal.main_arg0) = m ((c.tc : Thread Cert.GlaDecIdeal.nD Cert.GlaDecIdeal.τ).loc Cert.GlaDecIdeal.main_arg0)
          ∧ r.2.mem ((c.tc : Thread Cert.GlaDecIdeal.nD Cert.GlaDecIdeal.τ).loc Cert.GlaDecIdeal.main_arg1) = m ((c.tc : Thread Cert.GlaDecIdeal.nD Cert.GlaDecIdeal.τ).loc Cert.GlaDecIdeal.main_arg1)
          ∧ r.2.mem ((c.tc : Thread Cert.GlaDecIdeal.nD Cert.GlaDecIdeal.τ).loc Cert.GlaDecIdeal.main_arg2) = m ((c.tc : Thread Cert.GlaDecIdeal.nD Cert.GlaDecIdeal.τ).loc Cert.GlaDecIdeal.main_arg2)
          ∧ r.2.mem ((c.tc : Thread Cert.GlaDecIdeal.nD Cert.GlaDecIdeal.τ).loc Cert.GlaDecIdeal.main_arg3) = m ((c.tc : Thread Cert.GlaDecIdeal.nD Cert.GlaDecIdeal.τ).loc Cert.GlaDecIdeal.main_arg3)
          ∧ r.2.mem ((c.tc : Thread Cert.GlaDecIdeal.nD Cert.GlaDecIdeal.τ).loc Cert.GlaDecIdeal.main_arg4) = m ((c.tc : Thread Cert.GlaDecIdeal.nD Cert.GlaDecIdeal.τ).loc Cert.GlaDecIdeal.main_arg4)
          ∧ r.2.mem ((c.tc : Thread Cert.GlaDecIdeal.nD Cert.GlaDecIdeal.τ).loc Cert.GlaDecIdeal.main_arg5) = m ((c.tc : Thread Cert.GlaDecIdeal.nD Cert.GlaDecIdeal.τ).loc Cert.GlaDecIdeal.main_arg5)
          ∧ r.2.mem ((c.tc : Thread Cert.GlaDecIdeal.nD Cert.GlaDecIdeal.τ).loc Cert.GlaDecIdeal.main_arg6) = m ((c.tc : Thread Cert.GlaDecIdeal.nD Cert.GlaDecIdeal.τ).loc Cert.GlaDecIdeal.main_arg6)
          ∧ r.2.mem ((c.tc : Thread Cert.GlaDecIdeal.nD Cert.GlaDecIdeal.τ).loc Cert.GlaDecIdeal.main_arg7) = m ((c.tc : Thread Cert.GlaDecIdeal.nD Cert.GlaDecIdeal.τ).loc Cert.GlaDecIdeal.main_arg7)
          ∧ r.2.mem ((c.tc : Thread Cert.GlaDecIdeal.nD Cert.GlaDecIdeal.τ).loc Cert.GlaDecIdeal.main_arg8) = m ((c.tc : Thread Cert.GlaDecIdeal.nD Cert.GlaDecIdeal.τ).loc Cert.GlaDecIdeal.main_arg8))
      ∧ θ_run (Cert.GlaDecRefIdeal.defs (F := Ideal)) (onTc (τ := Cert.GlaDecRefIdeal.τ) (Cert.GlaDecRefIdeal.main (F := Ideal))) ⟨m', fun _ => 0, g'⟩ (fun r => ∀ c : Dev Cert.GlaDecRefIdeal.nD,
          r.2.mem ((c.tc : Thread Cert.GlaDecRefIdeal.nD Cert.GlaDecRefIdeal.τ).loc Cert.GlaDecRefIdeal.main_v27) = v0 c
          ∧ r.2.mem ((c.tc : Thread Cert.GlaDecRefIdeal.nD Cert.GlaDecRefIdeal.τ).loc Cert.GlaDecRefIdeal.main_arg0) = m' ((c.tc : Thread Cert.GlaDecRefIdeal.nD Cert.GlaDecRefIdeal.τ).loc Cert.GlaDecRefIdeal.main_arg0)
          ∧ r.2.mem ((c.tc : Thread Cert.GlaDecRefIdeal.nD Cert.GlaDecRefIdeal.τ).loc Cert.GlaDecRefIdeal.main_arg1) = m' ((c.tc : Thread Cert.GlaDecRefIdeal.nD Cert.GlaDecRefIdeal.τ).loc Cert.GlaDecRefIdeal.main_arg1)
          ∧ r.2.mem ((c.tc : Thread Cert.GlaDecRefIdeal.nD Cert.GlaDecRefIdeal.τ).loc Cert.GlaDecRefIdeal.main_arg2) = m' ((c.tc : Thread Cert.GlaDecRefIdeal.nD Cert.GlaDecRefIdeal.τ).loc Cert.GlaDecRefIdeal.main_arg2)
          ∧ r.2.mem ((c.tc : Thread Cert.GlaDecRefIdeal.nD Cert.GlaDecRefIdeal.τ).loc Cert.GlaDecRefIdeal.main_arg3) = m' ((c.tc : Thread Cert.GlaDecRefIdeal.nD Cert.GlaDecRefIdeal.τ).loc Cert.GlaDecRefIdeal.main_arg3)
          ∧ r.2.mem ((c.tc : Thread Cert.GlaDecRefIdeal.nD Cert.GlaDecRefIdeal.τ).loc Cert.GlaDecRefIdeal.main_arg4) = m' ((c.tc : Thread Cert.GlaDecRefIdeal.nD Cert.GlaDecRefIdeal.τ).loc Cert.GlaDecRefIdeal.main_arg4)
          ∧ r.2.mem ((c.tc : Thread Cert.GlaDecRefIdeal.nD Cert.GlaDecRefIdeal.τ).loc Cert.GlaDecRefIdeal.main_arg5) = m' ((c.tc : Thread Cert.GlaDecRefIdeal.nD Cert.GlaDecRefIdeal.τ).loc Cert.GlaDecRefIdeal.main_arg5)
          ∧ r.2.mem ((c.tc : Thread Cert.GlaDecRefIdeal.nD Cert.GlaDecRefIdeal.τ).loc Cert.GlaDecRefIdeal.main_arg6) = m' ((c.tc : Thread Cert.GlaDecRefIdeal.nD Cert.GlaDecRefIdeal.τ).loc Cert.GlaDecRefIdeal.main_arg6)
          ∧ r.2.mem ((c.tc : Thread Cert.GlaDecRefIdeal.nD Cert.GlaDecRefIdeal.τ).loc Cert.GlaDecRefIdeal.main_arg7) = m' ((c.tc : Thread Cert.GlaDecRefIdeal.nD Cert.GlaDecRefIdeal.τ).loc Cert.GlaDecRefIdeal.main_arg7)
          ∧ r.2.mem ((c.tc : Thread Cert.GlaDecRefIdeal.nD Cert.GlaDecRefIdeal.τ).loc Cert.GlaDecRefIdeal.main_arg8) = m' ((c.tc : Thread Cert.GlaDecRefIdeal.nD Cert.GlaDecRefIdeal.τ).loc Cert.GlaDecRefIdeal.main_arg8))

def Claim : Prop :=
  ∃ (hFox : Cert.Fox.Facts) (hFoxIdeal : Cert.FoxIdeal.Facts) (hFoxRefIdeal : Cert.FoxRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hNorm : Cert.Norm.Facts) (hNormIdeal : Cert.NormIdeal.Facts) (hNormRefIdeal : Cert.NormRefIdeal.Facts) (hNsaMlp : Cert.NsaMlp.Facts) (hNsaMlpIdeal : Cert.NsaMlpIdeal.Facts) (hNsaMlpRefIdeal : Cert.NsaMlpRefIdeal.Facts) (hNsaProj : Cert.NsaProj.Facts) (hNsaProjIdeal : Cert.NsaProjIdeal.Facts) (hNsaProjRefIdeal : Cert.NsaProjRefIdeal.Facts) (hGlaProj : Cert.GlaProj.Facts) (hGlaProjIdeal : Cert.GlaProjIdeal.Facts) (hGlaProjRefIdeal : Cert.GlaProjRefIdeal.Facts) (hWin : Cert.Win.Facts) (hWinIdeal : Cert.WinIdeal.Facts) (hWinRefIdeal : Cert.WinRefIdeal.Facts) (hPrep : Cert.Prep.Facts) (hPrepIdeal : Cert.PrepIdeal.Facts) (hPrepRefIdeal : Cert.PrepRefIdeal.Facts) (hGlaDec : Cert.GlaDec.Facts) (hGlaDecIdeal : Cert.GlaDecIdeal.Facts) (hGlaDecRefIdeal : Cert.GlaDecRefIdeal.Facts) (hPre_own_key_above_mask : Cert.Pre_own_key_above_mask.Facts),
    quiescent_Fox (hFox := hFox)
    ∧ quiescent_FoxIdeal (hFoxIdeal := hFoxIdeal)
    ∧ quiescent_FoxIdeal_pre_own_key_above_mask (hFoxIdeal := hFoxIdeal) (hPre_own_key_above_mask := hPre_own_key_above_mask)
    ∧ quiescent_FoxRefIdeal (hFoxRefIdeal := hFoxRefIdeal)
    ∧ quiescent_FoxRefIdeal_pre_own_key_above_mask (hFoxRefIdeal := hFoxRefIdeal) (hPre_own_key_above_mask := hPre_own_key_above_mask)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Norm (hNorm := hNorm)
    ∧ quiescent_NormIdeal (hNormIdeal := hNormIdeal)
    ∧ quiescent_NormRefIdeal (hNormRefIdeal := hNormRefIdeal)
    ∧ quiescent_NsaMlp (hNsaMlp := hNsaMlp)
    ∧ quiescent_NsaMlpIdeal (hNsaMlpIdeal := hNsaMlpIdeal)
    ∧ quiescent_NsaMlpRefIdeal (hNsaMlpRefIdeal := hNsaMlpRefIdeal)
    ∧ quiescent_NsaProj (hNsaProj := hNsaProj)
    ∧ quiescent_NsaProjIdeal (hNsaProjIdeal := hNsaProjIdeal)
    ∧ quiescent_NsaProjRefIdeal (hNsaProjRefIdeal := hNsaProjRefIdeal)
    ∧ quiescent_GlaProj (hGlaProj := hGlaProj)
    ∧ quiescent_GlaProjIdeal (hGlaProjIdeal := hGlaProjIdeal)
    ∧ quiescent_GlaProjRefIdeal (hGlaProjRefIdeal := hGlaProjRefIdeal)
    ∧ quiescent_Win (hWin := hWin)
    ∧ quiescent_WinIdeal (hWinIdeal := hWinIdeal)
    ∧ quiescent_WinRefIdeal (hWinRefIdeal := hWinRefIdeal)
    ∧ quiescent_Prep (hPrep := hPrep)
    ∧ quiescent_PrepIdeal (hPrepIdeal := hPrepIdeal)
    ∧ quiescent_PrepRefIdeal (hPrepRefIdeal := hPrepRefIdeal)
    ∧ quiescent_GlaDec (hGlaDec := hGlaDec)
    ∧ quiescent_GlaDecIdeal (hGlaDecIdeal := hGlaDecIdeal)
    ∧ quiescent_GlaDecRefIdeal (hGlaDecRefIdeal := hGlaDecRefIdeal)
    ∧ preserves_Fox_FoxIdeal
    ∧ algebraic_FoxIdeal_FoxRefIdeal_pre_own_key_above_mask (hFoxIdeal := hFoxIdeal) (hFoxRefIdeal := hFoxRefIdeal) (hPre_own_key_above_mask := hPre_own_key_above_mask)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Norm_NormIdeal
    ∧ algebraic_NormIdeal_NormRefIdeal (hNormIdeal := hNormIdeal) (hNormRefIdeal := hNormRefIdeal)
    ∧ preserves_NsaMlp_NsaMlpIdeal
    ∧ algebraic_NsaMlpIdeal_NsaMlpRefIdeal (hNsaMlpIdeal := hNsaMlpIdeal) (hNsaMlpRefIdeal := hNsaMlpRefIdeal)
    ∧ preserves_NsaProj_NsaProjIdeal
    ∧ algebraic_NsaProjIdeal_NsaProjRefIdeal (hNsaProjIdeal := hNsaProjIdeal) (hNsaProjRefIdeal := hNsaProjRefIdeal)
    ∧ preserves_GlaProj_GlaProjIdeal
    ∧ algebraic_GlaProjIdeal_GlaProjRefIdeal (hGlaProjIdeal := hGlaProjIdeal) (hGlaProjRefIdeal := hGlaProjRefIdeal)
    ∧ preserves_Win_WinIdeal
    ∧ algebraic_WinIdeal_WinRefIdeal (hWinIdeal := hWinIdeal) (hWinRefIdeal := hWinRefIdeal)
    ∧ preserves_Prep_PrepIdeal
    ∧ algebraic_PrepIdeal_PrepRefIdeal (hPrepIdeal := hPrepIdeal) (hPrepRefIdeal := hPrepRefIdeal)
    ∧ preserves_GlaDec_GlaDecIdeal
    ∧ algebraic_GlaDecIdeal_GlaDecRefIdeal (hGlaDecIdeal := hGlaDecIdeal) (hGlaDecRefIdeal := hGlaDecRefIdeal)
-- ==== Pre_own_key_above_mask.lean ====
abbrev S17408x1024 : Shape := ⟨2, ![17408, 1024]⟩
abbrev S17408x2048 : Shape := ⟨2, ![17408, 2048]⟩
abbrev S16384x16 : Shape := ⟨2, ![16384, 16]⟩
abbrev S16384x1024 : Shape := ⟨2, ![16384, 1024]⟩
abbrev S4x4096x16x64 : Shape := ⟨4, ![4, 4096, 16, 64]⟩
abbrev S16384x2048 : Shape := ⟨2, ![16384, 2048]⟩
abbrev S4x4096x2x16x64 : Shape := ⟨5, ![4, 4096, 2, 16, 64]⟩
abbrev S4x4096x1x16x64 : Shape := ⟨5, ![4, 4096, 1, 16, 64]⟩
abbrev S4x4096x16 : Shape := ⟨3, ![4, 4096, 16]⟩
abbrev S_ : Shape := ⟨0, ![]⟩

class Facts : Prop where
  slices_S17408x1024_S16384x1024_0_0 : S17408x1024.Slices ![0, 0] S16384x1024
  shapeCasts_S16384x1024_S4x4096x16x64 : S16384x1024.ShapeCasts S4x4096x16x64
  slices_S17408x2048_S16384x2048_0_0 : S17408x2048.Slices ![0, 0] S16384x2048
  shapeCasts_S16384x2048_S4x4096x2x16x64 : S16384x2048.ShapeCasts S4x4096x2x16x64
  slices_S4x4096x2x16x64_S4x4096x1x16x64_0_0_0_0_0 : S4x4096x2x16x64.Slices ![0, 0, 0, 0, 0] S4x4096x1x16x64
  shapeCasts_S4x4096x1x16x64_S4x4096x16x64 : S4x4096x1x16x64.ShapeCasts S4x4096x16x64
  shapeCasts_S16384x16_S4x4096x16 : S16384x16.ShapeCasts S4x4096x16
  reducesTo_S4x4096x16x64_S4x4096x16_d3 : S4x4096x16x64.ReducesTo [3] S4x4096x16
  h_S_ : 0 < S_.numel
  bcast_S_S4x4096x16 : S_.BroadcastsInDim S4x4096x16 (![] : Fin 0 → Fin S4x4096x16.rank)

variable [Facts]

def fn {F : FTy → Type} [FloatOps F] (main_arg0 : FVec F S17408x1024 .f32) (main_arg1 : FVec F S17408x2048 .f32) (main_arg2 : FVec F S16384x16 .f32) : IVec S4x4096x16 1 :=
  let main_v0 : FVec F S16384x1024 .f32 := (extractStridedSlice S16384x1024 ![0, 0] · slices_S17408x1024_S16384x1024_0_0) main_arg0
  let main_v1 : FVec F S4x4096x16x64 .f32 := shapeCast S4x4096x16x64 main_v0 shapeCasts_S16384x1024_S4x4096x16x64
  let main_v2 : FVec F S16384x2048 .f32 := (extractStridedSlice S16384x2048 ![0, 0] · slices_S17408x2048_S16384x2048_0_0) main_arg1
  let main_v3 : FVec F S4x4096x2x16x64 .f32 := shapeCast S4x4096x2x16x64 main_v2 shapeCasts_S16384x2048_S4x4096x2x16x64
  let main_v4 : FVec F S4x4096x1x16x64 .f32 := (extractStridedSlice S4x4096x1x16x64 ![0, 0, 0, 0, 0] · slices_S4x4096x2x16x64_S4x4096x1x16x64_0_0_0_0_0) main_v3
  let main_v5 : FVec F S4x4096x16x64 .f32 := shapeCast S4x4096x16x64 main_v4 shapeCasts_S4x4096x1x16x64_S4x4096x16x64
  let main_v6 : FVec F S4x4096x16 .f32 := shapeCast S4x4096x16 main_arg2 shapeCasts_S16384x16_S4x4096x16
  let main_v7 : FVec F S4x4096x16x64 .f32 := mulf main_v1 main_v5
  let main_cst : FVec F S_ .f32 := constant S_ .f32 0x00000000#32
  let main_v8 : FVec F S4x4096x16 .f32 := (fun x v => Host.reduceAdd x v reducesTo_S4x4096x16x64_S4x4096x16_d3 h_S_) main_v7 main_cst
  let main_cst_0 : FVec F S_ .f32 := constant S_ .f32 0x3E000000#32
  let main_v9 : FVec F S4x4096x16 .f32 := broadcastInDim S4x4096x16 ![] bcast_S_S4x4096x16 main_cst_0
  let main_v10 : FVec F S4x4096x16 .f32 := mulf main_v8 main_v9
  let main_v11 : FVec F S4x4096x16 .f32 := addf main_v10 main_v6
  let main_v12 : FVec F S4x4096x16 .f32 := subf main_v11 main_v6
  let main_cst_1 : FVec F S_ .f32 := constant S_ .f32 0xF149F2CA#32
  let main_v13 : FVec F S4x4096x16 .f32 := broadcastInDim S4x4096x16 ![] bcast_S_S4x4096x16 main_cst_1
  let main_v14 : IVec S4x4096x16 1 := cmpf .oge main_v12 main_v13
  main_v14
-- ==== Fox.lean ====
abbrev S17408x1024 : Shape := ⟨2, ![17408, 1024]⟩
abbrev S17408x2048 : Shape := ⟨2, ![17408, 2048]⟩
abbrev S16384x16 : Shape := ⟨2, ![16384, 16]⟩
abbrev S1024x17408 : Shape := ⟨2, ![1024, 17408]⟩
abbrev S4x4096x2x8 : Shape := ⟨4, ![4, 4096, 2, 8]⟩
abbrev S4x2x4096x8 : Shape := ⟨4, ![4, 2, 4096, 8]⟩
abbrev S4x2x8x4096 : Shape := ⟨4, ![4, 2, 8, 4096]⟩
abbrev S16384x1024 : Shape := ⟨2, ![16384, 1024]⟩
abbrev S512x256 : Shape := ⟨2, ![512, 256]⟩
abbrev S4096x512 : Shape := ⟨2, ![4096, 512]⟩
abbrev S512x4096 : Shape := ⟨2, ![512, 4096]⟩
abbrev S1x1x8x256 : Shape := ⟨4, ![1, 1, 8, 256]⟩
abbrev S1x1x4096x8 : Shape := ⟨4, ![1, 1, 4096, 8]⟩
abbrev S256x512 : Shape := ⟨2, ![256, 512]⟩
abbrev S2x256x1024 : Shape := ⟨3, ![2, 256, 1024]⟩
abbrev S8x1x256 : Shape := ⟨3, ![8, 1, 256]⟩
abbrev S8x64x256 : Shape := ⟨3, ![8, 64, 256]⟩
abbrev S256x256 : Shape := ⟨2, ![256, 256]⟩
abbrev S256x1024 : Shape := ⟨2, ![256, 1024]⟩
abbrev S1x256x1024 : Shape := ⟨3, ![1, 256, 1024]⟩
abbrev S64x256 : Shape := ⟨2, ![64, 256]⟩
abbrev S1x64x256 : Shape := ⟨3, ![1, 64, 256]⟩
abbrev S1x1x256x1 : Shape := ⟨4, ![1, 1, 256, 1]⟩
abbrev S256x1 : Shape := ⟨2, ![256, 1]⟩
abbrev S1x1x256 : Shape := ⟨3, ![1, 1, 256]⟩
abbrev S1x256 : Shape := ⟨2, ![1, 256]⟩
abbrev S256x128 : Shape := ⟨2, ![256, 128]⟩
abbrev S1x1x1x128 : Shape := ⟨4, ![1, 1, 1, 128]⟩
abbrev S1x128 : Shape := ⟨2, ![1, 128]⟩
abbrev S128 : Shape := ⟨1, ![128]⟩
abbrev S1x256x128 : Shape := ⟨3, ![1, 256, 128]⟩
abbrev S1x256x256 : Shape := ⟨3, ![1, 256, 256]⟩

abbrev nBuf : Space → Nat
  | .hbm => 14
  | .vmem => 17
  | .smem => 0
  | _ => 0

abbrev bufTy : (tb : Table) → Fin (tcTables nBuf tb) → BufTy
  | .hbm, ⟨0, _⟩ => ⟨S17408x1024, .f32⟩
  | .hbm, ⟨1, _⟩ => ⟨S17408x2048, .f32⟩
  | .hbm, ⟨2, _⟩ => ⟨S16384x16, .f32⟩
  | .hbm, ⟨3, _⟩ => ⟨S17408x1024, .bf16⟩
  | .hbm, ⟨4, _⟩ => ⟨S1024x17408, .bf16⟩
  | .hbm, ⟨5, _⟩ => ⟨S17408x1024, .f32⟩
  | .hbm, ⟨6, _⟩ => ⟨S17408x1024, .bf16⟩
  | .hbm, ⟨7, _⟩ => ⟨S17408x1024, .f32⟩
  | .hbm, ⟨8, _⟩ => ⟨S17408x1024, .bf16⟩
  | .hbm, ⟨9, _⟩ => ⟨S1024x17408, .bf16⟩
  | .hbm, ⟨10, _⟩ => ⟨S4x4096x2x8, .f32⟩
  | .hbm, ⟨11, _⟩ => ⟨S4x2x4096x8, .f32⟩
  | .hbm, ⟨12, _⟩ => ⟨S4x2x8x4096, .f32⟩
  | .hbm, ⟨13, _⟩ => ⟨S16384x1024, .f32⟩
  | .local _ .vmem, ⟨0, _⟩ => ⟨S512x256, .bf16⟩
  | .local _ .vmem, ⟨1, _⟩ => ⟨S512x256, .bf16⟩
  | .local _ .vmem, ⟨2, _⟩ => ⟨S4096x512, .bf16⟩
  | .local _ .vmem, ⟨3, _⟩ => ⟨S4096x512, .bf16⟩
  | .local _ .vmem, ⟨4, _⟩ => ⟨S512x4096, .bf16⟩
  | .local _ .vmem, ⟨5, _⟩ => ⟨S512x4096, .bf16⟩
  | .local _ .vmem, ⟨6, _⟩ => ⟨S1x1x8x256, .f32⟩
  | .local _ .vmem, ⟨7, _⟩ => ⟨S1x1x8x256, .f32⟩
  | .local _ .vmem, ⟨8, _⟩ => ⟨S1x1x4096x8, .f32⟩
  | .local _ .vmem, ⟨9, _⟩ => ⟨S1x1x4096x8, .f32⟩
  | .local _ .vmem, ⟨10, _⟩ => ⟨S256x512, .f32⟩
  | .local _ .vmem, ⟨11, _⟩ => ⟨S256x512, .f32⟩
  | .local _ .vmem, ⟨12, _⟩ => ⟨S2x256x1024, .bf16⟩
  | .local _ .vmem, ⟨13, _⟩ => ⟨S8x1x256, .f32⟩
  | .local _ .vmem, ⟨14, _⟩ => ⟨S8x1x256, .f32⟩
  | .local _ .vmem, ⟨15, _⟩ => ⟨S8x64x256, .f32⟩
  | .local _ .vmem, ⟨16, _⟩ => ⟨S2x256x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

def k0_mult1 (i : grid0.Coords) : BitVec 32 :=
  let arg2 : BitVec 32 := BitVec.ofNat 32 (i 2).val
  let c256_i32 : BitVec 32 := 256#32
  let v111 : BitVec 32 := Scalar.muli arg2 c256_i32
  v111
def k0_off1 (i : grid0.Coords) : Fin 2 → Nat :=
  let arg2 : BitVec 32 := BitVec.ofNat 32 (i 2).val
  let c256_i32 : BitVec 32 := 256#32
  let v111 : BitVec 32 := Scalar.muli arg2 c256_i32
  let v112 : BitVec 32 := v111
  let v113 : Index := Scalar.indexCast v112
  let c0_70 : Index := 0#32
  ![v113.toNat, 0]
def k0_off2 (i : grid0.Coords) : Fin 4 → Nat :=
  let c0_79 : Index := 0#32
  let c0_80 : Index := 0#32
  let arg2 : BitVec 32 := BitVec.ofNat 32 (i 2).val
  let c256_i32 : BitVec 32 := 256#32
  let v111 : BitVec 32 := Scalar.muli arg2 c256_i32
  let v112 : BitVec 32 := v111
  let v124 : Index := Scalar.indexCast v112
  let c0_81 : Index := 0#32
  ![0, 0, v124.toNat, 0]
def k0_off3 (i : grid0.Coords) : Fin 4 → Nat :=
  let c0_118 : Index := 0#32
  let c0_119 : Index := 0#32
  let arg2 : BitVec 32 := BitVec.ofNat 32 (i 2).val
  let c256_i32 : BitVec 32 := 256#32
  let v111 : BitVec 32 := Scalar.muli arg2 c256_i32
  let v112 : BitVec 32 := v111
  let v200 : Index := Scalar.indexCast v112
  let c1_120 : Index := 1#32
  ![0, 0, v200.toNat, 1]
def k0_off4 (i : grid0.Coords) : Fin 4 → Nat :=
  let c0_157 : Index := 0#32
  let c0_158 : Index := 0#32
  let arg2 : BitVec 32 := BitVec.ofNat 32 (i 2).val
  let c256_i32 : BitVec 32 := 256#32
  let v111 : BitVec 32 := Scalar.muli arg2 c256_i32
  let v112 : BitVec 32 := v111
  let v276 : Index := Scalar.indexCast v112
  let c2 : Index := 2#32
  ![0, 0, v276.toNat, 2]
def k0_off5 (i : grid0.Coords) : Fin 4 → Nat :=
  let c0_194 : Index := 0#32
  let c0_195 : Index := 0#32
  let arg2 : BitVec 32 := BitVec.ofNat 32 (i 2).val
  let c256_i32 : BitVec 32 := 256#32
  let v111 : BitVec 32 := Scalar.muli arg2 c256_i32
  let v112 : BitVec 32 := v111
  let v352 : Index := Scalar.indexCast v112
  let c3 : Index := 3#32
  ![0, 0, v352.toNat, 3]
def k0_off6 (i : grid0.Coords) : Fin 4 → Nat :=
  let c0_231 : Index := 0#32
  let c0_232 : Index := 0#32
  let arg2 : BitVec 32 := BitVec.ofNat 32 (i 2).val
  let c256_i32 : BitVec 32 := 256#32
  let v111 : BitVec 32 := Scalar.muli arg2 c256_i32
  let v112 : BitVec 32 := v111
  let v428 : Index := Scalar.indexCast v112
  let c4 : Index := 4#32
  ![0, 0, v428.toNat, 4]
def k0_off7 (i : grid0.Coords) : Fin 4 → Nat :=
  let c0_269 : Index := 0#32
  let c0_270 : Index := 0#32
  let arg2 : BitVec 32 := BitVec.ofNat 32 (i 2).val
  let c256_i32 : BitVec 32 := 256#32
  let v111 : BitVec 32 := Scalar.muli arg2 c256_i32
  let v112 : BitVec 32 := v111
  let v504 : Index := Scalar.indexCast v112
  let c5 : Index := 5#32
  ![0, 0, v504.toNat, 5]
def k0_off8 (i : grid0.Coords) : Fin 4 → Nat :=
  let c0_307 : Index := 0#32
  let c0_308 : Index := 0#32
  let arg2 : BitVec 32 := BitVec.ofNat 32 (i 2).val
  let c256_i32 : BitVec 32 := 256#32
  let v111 : BitVec 32 := Scalar.muli arg2 c256_i32
  let v112 : BitVec 32 := v111
  let v580 : Index := Scalar.indexCast v112
  let c6 : Index := 6#32
  ![0, 0, v580.toNat, 6]
def k0_off9 (i : grid0.Coords) : Fin 4 → Nat :=
  let c0_345 : Index := 0#32
  let c0_346 : Index := 0#32
  let arg2 : BitVec 32 := BitVec.ofNat 32 (i 2).val
  let c256_i32 : BitVec 32 := 256#32
  let v111 : BitVec 32 := Scalar.muli arg2 c256_i32
  let v112 : BitVec 32 := v111
  let v656 : Index := Scalar.indexCast v112
  let c7 : Index := 7#32
  ![0, 0, v656.toNat, 7]
def k0_off10 (i : grid0.Coords) : Fin 2 → Nat :=
  let c0_383 : Index := 0#32
  let arg2 : BitVec 32 := BitVec.ofNat 32 (i 2).val
  let c256_i32 : BitVec 32 := 256#32
  let v111 : BitVec 32 := Scalar.muli arg2 c256_i32
  let v112 : BitVec 32 := v111
  let v732 : Index := Scalar.indexCast v112
  ![0, v732.toNat]
def k0_off11 (i : grid0.Coords) : Fin 2 → Nat :=
  let c64_394 : Index := 64#32
  let arg2 : BitVec 32 := BitVec.ofNat 32 (i 2).val
  let c256_i32 : BitVec 32 := 256#32
  let v111 : BitVec 32 := Scalar.muli arg2 c256_i32
  let v112 : BitVec 32 := v111
  let v746 : Index := Scalar.indexCast v112
  ![64, v746.toNat]
def k0_off12 (i : grid0.Coords) : Fin 2 → Nat :=
  let c128_405 : Index := 128#32
  let arg2 : BitVec 32 := BitVec.ofNat 32 (i 2).val
  let c256_i32 : BitVec 32 := 256#32
  let v111 : BitVec 32 := Scalar.muli arg2 c256_i32
  let v112 : BitVec 32 := v111
  let v760 : Index := Scalar.indexCast v112
  ![128, v760.toNat]
def k0_off13 (i : grid0.Coords) : Fin 2 → Nat :=
  let c192_416 : Index := 192#32
  let arg2 : BitVec 32 := BitVec.ofNat 32 (i 2).val
  let c256_i32 : BitVec 32 := 256#32
  let v111 : BitVec 32 := Scalar.muli arg2 c256_i32
  let v112 : BitVec 32 := v111
  let v774 : Index := Scalar.indexCast v112
  ![192, v774.toNat]
def k0_off14 (i : grid0.Coords) : Fin 2 → Nat :=
  let c256_427 : Index := 256#32
  let arg2 : BitVec 32 := BitVec.ofNat 32 (i 2).val
  let c256_i32 : BitVec 32 := 256#32
  let v111 : BitVec 32 := Scalar.muli arg2 c256_i32
  let v112 : BitVec 32 := v111
  let v788 : Index := Scalar.indexCast v112
  ![256, v788.toNat]
def k0_off15 (i : grid0.Coords) : Fin 2 → Nat :=
  let c320_438 : Index := 320#32
  let arg2 : BitVec 32 := BitVec.ofNat 32 (i 2).val
  let c256_i32 : BitVec 32 := 256#32
  let v111 : BitVec 32 := Scalar.muli arg2 c256_i32
  let v112 : BitVec 32 := v111
  let v802 : Index := Scalar.indexCast v112
  ![320, v802.toNat]
def k0_off16 (i : grid0.Coords) : Fin 2 → Nat :=
  let c384_449 : Index := 384#32
  let arg2 : BitVec 32 := BitVec.ofNat 32 (i 2).val
  let c256_i32 : BitVec 32 := 256#32
  let v111 : BitVec 32 := Scalar.muli arg2 c256_i32
  let v112 : BitVec 32 := v111
  let v816 : Index := Scalar.indexCast v112
  ![384, v816.toNat]
def k0_off17 (i : grid0.Coords) : Fin 2 → Nat :=
  let c448_460 : Index := 448#32
  let arg2 : BitVec 32 := BitVec.ofNat 32 (i 2).val
  let c256_i32 : BitVec 32 := 256#32
  let v111 : BitVec 32 := Scalar.muli arg2 c256_i32
  let v112 : BitVec 32 := v111
  let v830 : Index := Scalar.indexCast v112
  ![448, v830.toNat]
@[reducible] def k0_t1_loop (i : grid0.Coords) : Scf.Loop 32 :=
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_474 : BitVec 32 := 1#32
  ⟨c0_i32_472, v848, c1_i32_474⟩
def k0_mult2 (i : grid0.Coords) (k0_t1 : Fin (k0_t1_loop i).trips) : BitVec 32 :=
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  v916
def k0_off18 (i : grid0.Coords) (k0_t1 : Fin (k0_t1_loop i).trips) : Fin 2 → Nat :=
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v918 : Index := Scalar.indexCast v917
  let c0_535 : Index := 0#32
  ![v918.toNat, 0]
def k0_off19 (i : grid0.Coords) (k0_t1 : Fin (k0_t1_loop i).trips) : Fin 4 → Nat :=
  let c0_544 : Index := 0#32
  let c0_545 : Index := 0#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v929 : Index := Scalar.indexCast v917
  let c0_546 : Index := 0#32
  ![0, 0, v929.toNat, 0]
def k0_off20 (i : grid0.Coords) (k0_t1 : Fin (k0_t1_loop i).trips) : Fin 4 → Nat :=
  let c0_581 : Index := 0#32
  let c0_582 : Index := 0#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v999 : Index := Scalar.indexCast v917
  let c1_583 : Index := 1#32
  ![0, 0, v999.toNat, 1]
def k0_off21 (i : grid0.Coords) (k0_t1 : Fin (k0_t1_loop i).trips) : Fin 4 → Nat :=
  let c0_618 : Index := 0#32
  let c0_619 : Index := 0#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1069 : Index := Scalar.indexCast v917
  let c2_620 : Index := 2#32
  ![0, 0, v1069.toNat, 2]
def k0_off22 (i : grid0.Coords) (k0_t1 : Fin (k0_t1_loop i).trips) : Fin 4 → Nat :=
  let c0_655 : Index := 0#32
  let c0_656 : Index := 0#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1139 : Index := Scalar.indexCast v917
  let c3_657 : Index := 3#32
  ![0, 0, v1139.toNat, 3]
def k0_off23 (i : grid0.Coords) (k0_t1 : Fin (k0_t1_loop i).trips) : Fin 4 → Nat :=
  let c0_692 : Index := 0#32
  let c0_693 : Index := 0#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1209 : Index := Scalar.indexCast v917
  let c4_694 : Index := 4#32
  ![0, 0, v1209.toNat, 4]
def k0_off24 (i : grid0.Coords) (k0_t1 : Fin (k0_t1_loop i).trips) : Fin 4 → Nat :=
  let c0_729 : Index := 0#32
  let c0_730 : Index := 0#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1279 : Index := Scalar.indexCast v917
  let c5_731 : Index := 5#32
  ![0, 0, v1279.toNat, 5]
def k0_off25 (i : grid0.Coords) (k0_t1 : Fin (k0_t1_loop i).trips) : Fin 4 → Nat :=
  let c0_766 : Index := 0#32
  let c0_767 : Index := 0#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1349 : Index := Scalar.indexCast v917
  let c6_768 : Index := 6#32
  ![0, 0, v1349.toNat, 6]
def k0_off26 (i : grid0.Coords) (k0_t1 : Fin (k0_t1_loop i).trips) : Fin 4 → Nat :=
  let c0_803 : Index := 0#32
  let c0_804 : Index := 0#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1419 : Index := Scalar.indexCast v917
  let c7_805 : Index := 7#32
  ![0, 0, v1419.toNat, 7]
def k0_off27 (i : grid0.Coords) (k0_t1 : Fin (k0_t1_loop i).trips) : Fin 2 → Nat :=
  let c0_840 : Index := 0#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1489 : Index := Scalar.indexCast v917
  ![0, v1489.toNat]
def k0_off28 (i : grid0.Coords) (k0_t1 : Fin (k0_t1_loop i).trips) : Fin 2 → Nat :=
  let c64_851 : Index := 64#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1503 : Index := Scalar.indexCast v917
  ![64, v1503.toNat]
def k0_off29 (i : grid0.Coords) (k0_t1 : Fin (k0_t1_loop i).trips) : Fin 2 → Nat :=
  let c128_862 : Index := 128#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1517 : Index := Scalar.indexCast v917
  ![128, v1517.toNat]
def k0_off30 (i : grid0.Coords) (k0_t1 : Fin (k0_t1_loop i).trips) : Fin 2 → Nat :=
  let c192_873 : Index := 192#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1531 : Index := Scalar.indexCast v917
  ![192, v1531.toNat]
def k0_off31 (i : grid0.Coords) (k0_t1 : Fin (k0_t1_loop i).trips) : Fin 2 → Nat :=
  let c256_884 : Index := 256#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1545 : Index := Scalar.indexCast v917
  ![256, v1545.toNat]
def k0_off32 (i : grid0.Coords) (k0_t1 : Fin (k0_t1_loop i).trips) : Fin 2 → Nat :=
  let c320_895 : Index := 320#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1559 : Index := Scalar.indexCast v917
  ![320, v1559.toNat]
def k0_off33 (i : grid0.Coords) (k0_t1 : Fin (k0_t1_loop i).trips) : Fin 2 → Nat :=
  let c384_906 : Index := 384#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1573 : Index := Scalar.indexCast v917
  ![384, v1573.toNat]
def k0_off34 (i : grid0.Coords) (k0_t1 : Fin (k0_t1_loop i).trips) : Fin 2 → Nat :=
  let c448_917 : Index := 448#32
  let c0_i32_472 : BitVec 32 := 0#32
  let c1_i32_474 : BitVec 32 := 1#32
  let arg14 : BitVec 32 := Scf.iv c0_i32_472 c1_i32_474 k0_t1
  let c256_i32_534 : BitVec 32 := 256#32
  let v916 : BitVec 32 := Scalar.muli arg14 c256_i32_534
  let v917 : BitVec 32 := v916
  let v1587 : Index := Scalar.indexCast v917
  ![448, v1587.toNat]
@[reducible] def k0_t2_loop (i : grid0.Coords) : Scf.Loop 32 :=
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let v845 : BitVec 32 := Scalar.addi c0_i32_472 v844
  let c1_i32_475 : BitVec 32 := 1#32
  ⟨v848, v845, c1_i32_475⟩
def k0_mult3 (i : grid0.Coords) (k0_t2 : Fin (k0_t2_loop i).trips) : BitVec 32 :=
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  v916
def k0_off35 (i : grid0.Coords) (k0_t2 : Fin (k0_t2_loop i).trips) : Fin 2 → Nat :=
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v918 : Index := Scalar.indexCast v917
  let c0_535 : Index := 0#32
  ![v918.toNat, 0]
def k0_off36 (i : grid0.Coords) (k0_t2 : Fin (k0_t2_loop i).trips) : Fin 4 → Nat :=
  let c0_544 : Index := 0#32
  let c0_545 : Index := 0#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v929 : Index := Scalar.indexCast v917
  let c0_546 : Index := 0#32
  ![0, 0, v929.toNat, 0]
def k0_off37 (i : grid0.Coords) (k0_t2 : Fin (k0_t2_loop i).trips) : Fin 4 → Nat :=
  let c0_581 : Index := 0#32
  let c0_582 : Index := 0#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v999 : Index := Scalar.indexCast v917
  let c1_583 : Index := 1#32
  ![0, 0, v999.toNat, 1]
def k0_off38 (i : grid0.Coords) (k0_t2 : Fin (k0_t2_loop i).trips) : Fin 4 → Nat :=
  let c0_618 : Index := 0#32
  let c0_619 : Index := 0#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1069 : Index := Scalar.indexCast v917
  let c2_620 : Index := 2#32
  ![0, 0, v1069.toNat, 2]
def k0_off39 (i : grid0.Coords) (k0_t2 : Fin (k0_t2_loop i).trips) : Fin 4 → Nat :=
  let c0_655 : Index := 0#32
  let c0_656 : Index := 0#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1139 : Index := Scalar.indexCast v917
  let c3_657 : Index := 3#32
  ![0, 0, v1139.toNat, 3]
def k0_off40 (i : grid0.Coords) (k0_t2 : Fin (k0_t2_loop i).trips) : Fin 4 → Nat :=
  let c0_692 : Index := 0#32
  let c0_693 : Index := 0#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1209 : Index := Scalar.indexCast v917
  let c4_694 : Index := 4#32
  ![0, 0, v1209.toNat, 4]
def k0_off41 (i : grid0.Coords) (k0_t2 : Fin (k0_t2_loop i).trips) : Fin 4 → Nat :=
  let c0_729 : Index := 0#32
  let c0_730 : Index := 0#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1279 : Index := Scalar.indexCast v917
  let c5_731 : Index := 5#32
  ![0, 0, v1279.toNat, 5]
def k0_off42 (i : grid0.Coords) (k0_t2 : Fin (k0_t2_loop i).trips) : Fin 4 → Nat :=
  let c0_766 : Index := 0#32
  let c0_767 : Index := 0#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1349 : Index := Scalar.indexCast v917
  let c6_768 : Index := 6#32
  ![0, 0, v1349.toNat, 6]
def k0_off43 (i : grid0.Coords) (k0_t2 : Fin (k0_t2_loop i).trips) : Fin 4 → Nat :=
  let c0_803 : Index := 0#32
  let c0_804 : Index := 0#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1419 : Index := Scalar.indexCast v917
  let c7_805 : Index := 7#32
  ![0, 0, v1419.toNat, 7]
def k0_off44 (i : grid0.Coords) (k0_t2 : Fin (k0_t2_loop i).trips) : Fin 2 → Nat :=
  let c0_840 : Index := 0#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1489 : Index := Scalar.indexCast v917
  ![0, v1489.toNat]
def k0_off45 (i : grid0.Coords) (k0_t2 : Fin (k0_t2_loop i).trips) : Fin 2 → Nat :=
  let c64_851 : Index := 64#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1503 : Index := Scalar.indexCast v917
  ![64, v1503.toNat]
def k0_off46 (i : grid0.Coords) (k0_t2 : Fin (k0_t2_loop i).trips) : Fin 2 → Nat :=
  let c128_862 : Index := 128#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1517 : Index := Scalar.indexCast v917
  ![128, v1517.toNat]
def k0_off47 (i : grid0.Coords) (k0_t2 : Fin (k0_t2_loop i).trips) : Fin 2 → Nat :=
  let c192_873 : Index := 192#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1531 : Index := Scalar.indexCast v917
  ![192, v1531.toNat]
def k0_off48 (i : grid0.Coords) (k0_t2 : Fin (k0_t2_loop i).trips) : Fin 2 → Nat :=
  let c256_884 : Index := 256#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1545 : Index := Scalar.indexCast v917
  ![256, v1545.toNat]
def k0_off49 (i : grid0.Coords) (k0_t2 : Fin (k0_t2_loop i).trips) : Fin 2 → Nat :=
  let c320_895 : Index := 320#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1559 : Index := Scalar.indexCast v917
  ![320, v1559.toNat]
def k0_off50 (i : grid0.Coords) (k0_t2 : Fin (k0_t2_loop i).trips) : Fin 2 → Nat :=
  let c384_906 : Index := 384#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1573 : Index := Scalar.indexCast v917
  ![384, v1573.toNat]
def k0_off51 (i : grid0.Coords) (k0_t2 : Fin (k0_t2_loop i).trips) : Fin 2 → Nat :=
  let c448_917 : Index := 448#32
  let c0_i32_472 : BitVec 32 := 0#32
  let arg2 : BitVec 32 := BitVec.ofNat 32 (i 2).val
  let v844 : BitVec 32 := Scalar.subi arg2 c0_i32_472
  let c1_i32_473 : BitVec 32 := 1#32
  let v846 : BitVec 32 := Scalar.divsi v844 c1_i32_473
  let v847 : BitVec 32 := Scalar.muli v846 c1_i32_473
  let v848 : BitVec 32 := Scalar.addi c0_i32_472 v847
  let c1_i32_475 : BitVec 32 := 1#32
  let arg14 : BitVec 32 := Scf.iv v848 c1_i32_475 k0_t2
  let c256_i32_534 : BitVec 32 := 256#32
  let v916 : BitVec 32 := Scalar.muli arg14 c256_i32_534
  let v917 : BitVec 32 := v916
  let v1587 : Index := Scalar.indexCast v917
  ![448, v1587.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4096x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S17408x1024 : Shape := ⟨2, ![17408, 1024]⟩
abbrev S17408x2048 : Shape := ⟨2, ![17408, 2048]⟩
abbrev S16384x16 : Shape := ⟨2, ![16384, 16]⟩
abbrev S16384x1024 : Shape := ⟨2, ![16384, 1024]⟩
abbrev S4x4096x16x64 : Shape := ⟨4, ![4, 4096, 16, 64]⟩
abbrev S16384x2048 : Shape := ⟨2, ![16384, 2048]⟩
abbrev S4x4096x2x16x64 : Shape := ⟨5, ![4, 4096, 2, 16, 64]⟩
abbrev S4x4096x16 : Shape := ⟨3, ![4, 4096, 16]⟩
abbrev S4096 : Shape := ⟨1, ![4096]⟩
abbrev S4x4096x1x16x64 : Shape := ⟨5, ![4, 4096, 1, 16, 64]⟩
abbrev S4x16x4096x4096 : Shape := ⟨4, ![4, 16, 4096, 4096]⟩
abbrev S_ : Shape := ⟨0, ![]⟩
abbrev S4x16x4096 : Shape := ⟨3, ![4, 16, 4096]⟩
abbrev S4x16x4096x1 : Shape := ⟨4, ![4, 16, 4096, 1]⟩
abbrev S4x16x1x4096 : Shape := ⟨4, ![4, 16, 1, 4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S4x16x64x4096 : Shape := ⟨4, ![4, 16, 64, 4096]⟩

abbrev nBuf : Space → Nat
  | .hbm => 56
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x2048, .f32⟩
  | .hbm, ⟨2, _⟩ => ⟨S16384x16, .f32⟩
  | .hbm, ⟨3, _⟩ => ⟨S16384x1024, .f32⟩
  | .hbm, ⟨4, _⟩ => ⟨S4x4096x16x64, .f32⟩
  | .hbm, ⟨5, _⟩ => ⟨S16384x2048, .f32⟩
  | .hbm, ⟨6, _⟩ => ⟨S4x4096x2x16x64, .f32⟩
  | .hbm, ⟨7, _⟩ => ⟨S4x4096x16, .f32⟩
  | .hbm, ⟨8, _⟩ => ⟨S4096, .i32⟩
  | .hbm, ⟨9, _⟩ => ⟨S4x4096x1x16x64, .f32⟩
  | .hbm, ⟨10, _⟩ => ⟨S4x4096x16x64, .f32⟩
  | .hbm, ⟨11, _⟩ => ⟨S4x4096x1x16x64, .f32⟩
  | .hbm, ⟨12, _⟩ => ⟨S4x4096x16x64, .f32⟩
  | .hbm, ⟨13, _⟩ => ⟨S4x16x4096x4096, .f32⟩
  | .hbm, ⟨14, _⟩ => ⟨S_, .f32⟩
  | .hbm, ⟨15, _⟩ => ⟨S4x16x4096x4096, .f32⟩
  | .hbm, ⟨16, _⟩ => ⟨S4x16x4096x4096, .f32⟩
  | .hbm, ⟨17, _⟩ => ⟨S4x16x4096, .f32⟩
  | .hbm, ⟨18, _⟩ => ⟨S4x16x4096x1, .f32⟩
  | .hbm, ⟨19, _⟩ => ⟨S4x16x4096x4096, .f32⟩
  | .hbm, ⟨20, _⟩ => ⟨S4x16x4096x4096, .f32⟩
  | .hbm, ⟨21, _⟩ => ⟨S4x16x4096, .f32⟩
  | .hbm, ⟨22, _⟩ => ⟨S4x16x1x4096, .f32⟩
  | .hbm, ⟨23, _⟩ => ⟨S4x16x4096x4096, .f32⟩
  | .hbm, ⟨24, _⟩ => ⟨S4x16x4096x4096, .f32⟩
  | .hbm, ⟨25, _⟩ => ⟨S4096x1, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S4x16x4096x4096, .i1⟩
  | .hbm, ⟨33, _⟩ => ⟨S4x16x4096x4096, .f32⟩
  | .hbm, ⟨34, _⟩ => ⟨S4x16x4096x4096, .f32⟩
  | .hbm, ⟨35, _⟩ => ⟨S_, .f32⟩
  | .hbm, ⟨36, _⟩ => ⟨S4x16x4096, .f32⟩
  | .hbm, ⟨37, _⟩ => ⟨S4x16x4096x1, .f32⟩
  | .hbm, ⟨38, _⟩ => ⟨S4x16x4096x4096, .f32⟩
  | .hbm, ⟨39, _⟩ => ⟨S4x16x4096x4096, .f32⟩
  | .hbm, ⟨40, _⟩ => ⟨S4x16x4096x4096, .f32⟩
  | .hbm, ⟨41, _⟩ => ⟨S4096x4096, .f32⟩
  | .hbm, ⟨42, _⟩ => ⟨S1x1x4096x4096, .f32⟩
  | .hbm, ⟨43, _⟩ => ⟨S4x16x4096x4096, .f32⟩
  | .hbm, ⟨44, _⟩ => ⟨S4x16x4096x4096, .f32⟩
  | .hbm, ⟨45, _⟩ => ⟨S_, .f32⟩
  | .hbm, ⟨46, _⟩ => ⟨S4x16x4096, .f32⟩
  | .hbm, ⟨47, _⟩ => ⟨S4x16x4096x1, .f32⟩
  | .hbm, ⟨48, _⟩ => ⟨S_, .f32⟩
  | .hbm, ⟨49, _⟩ => ⟨S4x16x4096x1, .f32⟩
  | .hbm, ⟨50, _⟩ => ⟨S4x16x4096x1, .f32⟩
  | .hbm, ⟨51, _⟩ => ⟨S4x16x4096x4096, .f32⟩
  | .hbm, ⟨52, _⟩ => ⟨S4x16x4096x4096, .f32⟩
  | .hbm, ⟨53, _⟩ => ⟨S4x16x64x4096, .f32⟩
  | .hbm, ⟨54, _⟩ => ⟨S4x4096x16x64, .f32⟩
  | .hbm, ⟨55, _⟩ => ⟨S16384x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]

def κ : String → Option EReal := fun
  | "mask" => some ⊥
  | _ => none
-- ==== Mlp.lean ====
abbrev S17408x1024 : Shape := ⟨2, ![17408, 1024]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024x1024, .bf16⟩
  | .hbm, ⟨8, _⟩ => ⟨S1024x4096, .bf16⟩
  | .hbm, ⟨9, _⟩ => ⟨S4096x1024, .bf16⟩
  | .hbm, ⟨10, _⟩ => ⟨S1x1024, .f32⟩
  | .hbm, ⟨11, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![34, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S17408x1024 : Shape := ⟨2, ![17408, 1024]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x4096 : Shape := ⟨2, ![17408, 4096]⟩

abbrev nBuf : Space → Nat
  | .hbm => 33
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S17408x1024, .f32⟩
  | .hbm, ⟨8, _⟩ => ⟨S17408x1024, .f32⟩
  | .hbm, ⟨9, _⟩ => ⟨S17408x1024, .f32⟩
  | .hbm, ⟨10, _⟩ => ⟨S17408x1024, .f32⟩
  | .hbm, ⟨11, _⟩ => ⟨S_, .f32⟩
  | .hbm, ⟨12, _⟩ => ⟨S17408, .f32⟩
  | .hbm, ⟨13, _⟩ => ⟨S17408x1, .f32⟩
  | .hbm, ⟨14, _⟩ => ⟨S_, .f32⟩
  | .hbm, ⟨15, _⟩ => ⟨S17408x1, .f32⟩
  | .hbm, ⟨16, _⟩ => ⟨S17408x1, .f32⟩
  | .hbm, ⟨17, _⟩ => ⟨S_, .f32⟩
  | .hbm, ⟨18, _⟩ => ⟨S17408x1, .f32⟩
  | .hbm, ⟨19, _⟩ => ⟨S17408x1, .f32⟩
  | .hbm, ⟨20, _⟩ => ⟨S17408x1, .f32⟩
  | .hbm, ⟨21, _⟩ => ⟨S17408x1024, .f32⟩
  | .hbm, ⟨22, _⟩ => ⟨S17408x1024, .f32⟩
  | .hbm, ⟨23, _⟩ => ⟨S1x1024, .f32⟩
  | .hbm, ⟨24, _⟩ => ⟨S17408x1024, .f32⟩
  | .hbm, ⟨25, _⟩ => ⟨S17408x1024, .f32⟩
  | .hbm, ⟨26, _⟩ => ⟨S17408x4096, .f32⟩
  | .hbm, ⟨27, _⟩ => ⟨S_, .f32⟩
  | .hbm, ⟨28, _⟩ => ⟨S17408x4096, .f32⟩
  | .hbm, ⟨29, _⟩ => ⟨S17408x4096, .f32⟩
  | .hbm, ⟨30, _⟩ => ⟨S17408x4096, .f32⟩
  | .hbm, ⟨31, _⟩ => ⟨S17408x1024, .f32⟩
  | .hbm, ⟨32, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proj.lean ====
abbrev S17408x1024 : Shape := ⟨2, ![17408, 1024]⟩
abbrev S1024 : Shape := ⟨1, ![1024]⟩
abbrev S1024x3088 : Shape := ⟨2, ![1024, 3088]⟩
abbrev S1x1024 : Shape := ⟨2, ![1, 1024]⟩
abbrev S3088x1024 : Shape := ⟨2, ![3088, 1024]⟩
abbrev S17408x2048 : Shape := ⟨2, ![17408, 2048]⟩
abbrev S17408x16 : Shape := ⟨2, ![17408, 16]⟩
abbrev S1024x17408 : Shape := ⟨2, ![1024, 17408]⟩
abbrev S512x1024 : Shape := ⟨2, ![512, 1024]⟩
abbrev S512x2048 : Shape := ⟨2, ![512, 2048]⟩
abbrev S512x16 : Shape := ⟨2, ![512, 16]⟩
abbrev S1024x512 : Shape := ⟨2, ![1024, 512]⟩
abbrev S512 : Shape := ⟨1, ![512]⟩
abbrev S512x1 : Shape := ⟨2, ![512, 1]⟩
abbrev S1024x2048 : Shape := ⟨2, ![1024, 2048]⟩
abbrev S1024x1024 : Shape := ⟨2, ![1024, 1024]⟩
abbrev S1024x16 : Shape := ⟨2, ![1024, 16]⟩

abbrev nBuf : Space → Nat
  | .hbm => 11
  | .vmem => 15
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3088, .f32⟩
  | .hbm, ⟨3, _⟩ => ⟨S1024x3088, .bf16⟩
  | .hbm, ⟨4, _⟩ => ⟨S1x1024, .f32⟩
  | .hbm, ⟨5, _⟩ => ⟨S3088x1024, .bf16⟩
  | .hbm, ⟨6, _⟩ => ⟨S17408x2048, .f32⟩
  | .hbm, ⟨7, _⟩ => ⟨S17408x1024, .bf16⟩
  | .hbm, ⟨8, _⟩ => ⟨S17408x16, .f32⟩
  | .hbm, ⟨9, _⟩ => ⟨S1024x17408, .bf16⟩
  | .hbm, ⟨10, _⟩ => ⟨S1024x17408, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3088, .bf16⟩
  | .local _ .vmem, ⟨4, _⟩ => ⟨S3088x1024, .bf16⟩
  | .local _ .vmem, ⟨5, _⟩ => ⟨S512x2048, .f32⟩
  | .local _ .vmem, ⟨6, _⟩ => ⟨S512x2048, .f32⟩
  | .local _ .vmem, ⟨7, _⟩ => ⟨S512x1024, .bf16⟩
  | .local _ .vmem, ⟨8, _⟩ => ⟨S512x1024, .bf16⟩
  | .local _ .vmem, ⟨9, _⟩ => ⟨S512x16, .f32⟩
  | .local _ .vmem, ⟨10, _⟩ => ⟨S512x16, .f32⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3088 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3088x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjRefIdeal.lean ====
abbrev S17408x1024 : Shape := ⟨2, ![17408, 1024]⟩
abbrev S1024 : Shape := ⟨1, ![1024]⟩
abbrev S1024x3088 : Shape := ⟨2, ![1024, 3088]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x3088 : Shape := ⟨2, ![17408, 3088]⟩
abbrev S17408x2048 : Shape := ⟨2, ![17408, 2048]⟩
abbrev S17408x16 : Shape := ⟨2, ![17408, 16]⟩
abbrev S1024x17408 : Shape := ⟨2, ![1024, 17408]⟩

abbrev nBuf : Space → Nat
  | .hbm => 30
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3088, .f32⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S17408x3088, .f32⟩
  | .hbm, ⟨20, _⟩ => ⟨S17408x2048, .f32⟩
  | .hbm, ⟨21, _⟩ => ⟨S17408x1024, .f32⟩
  | .hbm, ⟨22, _⟩ => ⟨S17408x1024, .bf16⟩
  | .hbm, ⟨23, _⟩ => ⟨S17408x16, .f32⟩
  | .hbm, ⟨24, _⟩ => ⟨S17408x1024, .f32⟩
  | .hbm, ⟨25, _⟩ => ⟨S1024x17408, .f32⟩
  | .hbm, ⟨26, _⟩ => ⟨S1024x17408, .bf16⟩
  | .hbm, ⟨27, _⟩ => ⟨S17408x1024, .f32⟩
  | .hbm, ⟨28, _⟩ => ⟨S1024x17408, .f32⟩
  | .hbm, ⟨29, _⟩ => ⟨S1024x17408, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Norm.lean ====
abbrev S17408x1024 : Shape := ⟨2, ![17408, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1x1024, .f32⟩
  | .hbm, ⟨3, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S17408x1024 : Shape := ⟨2, ![17408, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S17408x1024, .f32⟩
  | .hbm, ⟨3, _⟩ => ⟨S_, .f32⟩
  | .hbm, ⟨4, _⟩ => ⟨S17408, .f32⟩
  | .hbm, ⟨5, _⟩ => ⟨S17408x1, .f32⟩
  | .hbm, ⟨6, _⟩ => ⟨S_, .f32⟩
  | .hbm, ⟨7, _⟩ => ⟨S17408x1, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S17408x1, .f32⟩
  | .hbm, ⟨13, _⟩ => ⟨S17408x1024, .f32⟩
  | .hbm, ⟨14, _⟩ => ⟨S17408x1024, .f32⟩
  | .hbm, ⟨15, _⟩ => ⟨S1x1024, .f32⟩
  | .hbm, ⟨16, _⟩ => ⟨S17408x1024, .f32⟩
  | .hbm, ⟨17, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NsaMlp.lean ====
abbrev S17408x1024 : Shape := ⟨2, ![17408, 1024]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 25
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024x1024, .bf16⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![34, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== NsaMlpRefIdeal.lean ====
abbrev S17408x1024 : Shape := ⟨2, ![17408, 1024]⟩
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x4096 : Shape := ⟨2, ![17408, 4096]⟩

abbrev nBuf : Space → Nat
  | .hbm => 41
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S16384x1024, .f32⟩
  | .hbm, ⟨12, _⟩ => ⟨S16384x1024, .f32⟩
  | .hbm, ⟨13, _⟩ => ⟨S1024x1024, .f32⟩
  | .hbm, ⟨14, _⟩ => ⟨S1024x1024, .f32⟩
  | .hbm, ⟨15, _⟩ => ⟨S17408x1024, .f32⟩
  | .hbm, ⟨16, _⟩ => ⟨S17408x1024, .f32⟩
  | .hbm, ⟨17, _⟩ => ⟨S17408x1024, .f32⟩
  | .hbm, ⟨18, _⟩ => ⟨S17408x1024, .f32⟩
  | .hbm, ⟨19, _⟩ => ⟨S_, .f32⟩
  | .hbm, ⟨20, _⟩ => ⟨S17408, .f32⟩
  | .hbm, ⟨21, _⟩ => ⟨S17408x1, .f32⟩
  | .hbm, ⟨22, _⟩ => ⟨S_, .f32⟩
  | .hbm, ⟨23, _⟩ => ⟨S17408x1, .f32⟩
  | .hbm, ⟨24, _⟩ => ⟨S17408x1, .f32⟩
  | .hbm, ⟨25, _⟩ => ⟨S_, .f32⟩
  | .hbm, ⟨26, _⟩ => ⟨S17408x1, .f32⟩
  | .hbm, ⟨27, _⟩ => ⟨S17408x1, .f32⟩
  | .hbm, ⟨28, _⟩ => ⟨S17408x1, .f32⟩
  | .hbm, ⟨29, _⟩ => ⟨S17408x1024, .f32⟩
  | .hbm, ⟨30, _⟩ => ⟨S17408x1024, .f32⟩
  | .hbm, ⟨31, _⟩ => ⟨S1x1024, .f32⟩
  | .hbm, ⟨32, _⟩ => ⟨S17408x1024, .f32⟩
  | .hbm, ⟨33, _⟩ => ⟨S17408x1024, .f32⟩
  | .hbm, ⟨34, _⟩ => ⟨S17408x4096, .f32⟩
  | .hbm, ⟨35, _⟩ => ⟨S_, .f32⟩
  | .hbm, ⟨36, _⟩ => ⟨S17408x4096, .f32⟩
  | .hbm, ⟨37, _⟩ => ⟨S17408x4096, .f32⟩
  | .hbm, ⟨38, _⟩ => ⟨S17408x4096, .f32⟩
  | .hbm, ⟨39, _⟩ => ⟨S17408x1024, .f32⟩
  | .hbm, ⟨40, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== NsaProj.lean ====
abbrev S17408x1024 : Shape := ⟨2, ![17408, 1024]⟩
abbrev S1024 : Shape := ⟨1, ![1024]⟩
abbrev S1024x2608 : Shape := ⟨2, ![1024, 2608]⟩
abbrev S1x1024 : Shape := ⟨2, ![1, 1024]⟩
abbrev S2608x1024 : Shape := ⟨2, ![2608, 1024]⟩
abbrev S17408x512 : Shape := ⟨2, ![17408, 512]⟩
abbrev S1024x17408 : Shape := ⟨2, ![1024, 17408]⟩
abbrev S256x17408 : Shape := ⟨2, ![256, 17408]⟩
abbrev S48x17408 : Shape := ⟨2, ![48, 17408]⟩
abbrev S512x1024 : Shape := ⟨2, ![512, 1024]⟩
abbrev S512x512 : Shape := ⟨2, ![512, 512]⟩
abbrev S1024x512 : Shape := ⟨2, ![1024, 512]⟩
abbrev S256x512 : Shape := ⟨2, ![256, 512]⟩
abbrev S48x512 : Shape := ⟨2, ![48, 512]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S48x1024 : Shape := ⟨2, ![48, 1024]⟩

abbrev nBuf : Space → Nat
  | .hbm => 14
  | .vmem => 21
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2608, .f32⟩
  | .hbm, ⟨3, _⟩ => ⟨S1024x2608, .bf16⟩
  | .hbm, ⟨4, _⟩ => ⟨S1x1024, .f32⟩
  | .hbm, ⟨5, _⟩ => ⟨S2608x1024, .bf16⟩
  | .hbm, ⟨6, _⟩ => ⟨S17408x1024, .f32⟩
  | .hbm, ⟨7, _⟩ => ⟨S17408x1024, .bf16⟩
  | .hbm, ⟨8, _⟩ => ⟨S17408x512, .f32⟩
  | .hbm, ⟨9, _⟩ => ⟨S17408x512, .bf16⟩
  | .hbm, ⟨10, _⟩ => ⟨S1024x17408, .bf16⟩
  | .hbm, ⟨11, _⟩ => ⟨S256x17408, .bf16⟩
  | .hbm, ⟨12, _⟩ => ⟨S256x17408, .bf16⟩
  | .hbm, ⟨13, _⟩ => ⟨S48x17408, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2608, .bf16⟩
  | .local _ .vmem, ⟨4, _⟩ => ⟨S2608x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S1024x512, .bf16⟩
  | .local _ .vmem, ⟨14, _⟩ => ⟨S1024x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S48x512, .f32⟩
  | .local _ .vmem, ⟨20, _⟩ => ⟨S48x512, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2608x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S48x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== NsaProjRefIdeal.lean ====
abbrev S17408x1024 : Shape := ⟨2, ![17408, 1024]⟩
abbrev S1024 : Shape := ⟨1, ![1024]⟩
abbrev S1024x2608 : Shape := ⟨2, ![1024, 2608]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x2608 : Shape := ⟨2, ![17408, 2608]⟩
abbrev S17408x512 : Shape := ⟨2, ![17408, 512]⟩
abbrev S1024x17408 : Shape := ⟨2, ![1024, 17408]⟩
abbrev S17408x256 : Shape := ⟨2, ![17408, 256]⟩
abbrev S256x17408 : Shape := ⟨2, ![256, 17408]⟩
abbrev S17408x48 : Shape := ⟨2, ![17408, 48]⟩
abbrev S48x17408 : Shape := ⟨2, ![48, 17408]⟩

abbrev nBuf : Space → Nat
  | .hbm => 35
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x2608, .f32⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S17408x2608, .f32⟩
  | .hbm, ⟨20, _⟩ => ⟨S17408x1024, .f32⟩
  | .hbm, ⟨21, _⟩ => ⟨S17408x512, .f32⟩
  | .hbm, ⟨22, _⟩ => ⟨S17408x1024, .bf16⟩
  | .hbm, ⟨23, _⟩ => ⟨S17408x512, .bf16⟩
  | .hbm, ⟨24, _⟩ => ⟨S17408x1024, .f32⟩
  | .hbm, ⟨25, _⟩ => ⟨S1024x17408, .f32⟩
  | .hbm, ⟨26, _⟩ => ⟨S1024x17408, .bf16⟩
  | .hbm, ⟨27, _⟩ => ⟨S17408x256, .f32⟩
  | .hbm, ⟨28, _⟩ => ⟨S256x17408, .f32⟩
  | .hbm, ⟨29, _⟩ => ⟨S256x17408, .bf16⟩
  | .hbm, ⟨30, _⟩ => ⟨S17408x256, .f32⟩
  | .hbm, ⟨31, _⟩ => ⟨S256x17408, .f32⟩
  | .hbm, ⟨32, _⟩ => ⟨S256x17408, .bf16⟩
  | .hbm, ⟨33, _⟩ => ⟨S17408x48, .f32⟩
  | .hbm, ⟨34, _⟩ => ⟨S48x17408, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== GlaProj.lean ====
abbrev S17408x1024 : Shape := ⟨2, ![17408, 1024]⟩
abbrev S1024 : Shape := ⟨1, ![1024]⟩
abbrev S1024x3088 : Shape := ⟨2, ![1024, 3088]⟩
abbrev S1x1024 : Shape := ⟨2, ![1, 1024]⟩
abbrev S3088x1024 : Shape := ⟨2, ![3088, 1024]⟩
abbrev S17408x512 : Shape := ⟨2, ![17408, 512]⟩
abbrev S17408x16 : Shape := ⟨2, ![17408, 16]⟩
abbrev S512x1024 : Shape := ⟨2, ![512, 1024]⟩
abbrev S512x512 : Shape := ⟨2, ![512, 512]⟩
abbrev S512x16 : Shape := ⟨2, ![512, 16]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩
abbrev S1024x16 : Shape := ⟨2, ![1024, 16]⟩

abbrev nBuf : Space → Nat
  | .hbm => 11
  | .vmem => 15
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3088, .f32⟩
  | .hbm, ⟨3, _⟩ => ⟨S1024x3088, .bf16⟩
  | .hbm, ⟨4, _⟩ => ⟨S1x1024, .f32⟩
  | .hbm, ⟨5, _⟩ => ⟨S3088x1024, .bf16⟩
  | .hbm, ⟨6, _⟩ => ⟨S17408x512, .f32⟩
  | .hbm, ⟨7, _⟩ => ⟨S17408x512, .f32⟩
  | .hbm, ⟨8, _⟩ => ⟨S17408x1024, .f32⟩
  | .hbm, ⟨9, _⟩ => ⟨S17408x1024, .f32⟩
  | .hbm, ⟨10, _⟩ => ⟨S17408x16, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3088, .bf16⟩
  | .local _ .vmem, ⟨4, _⟩ => ⟨S3088x1024, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x16, .f32⟩
  | .local _ .vmem, ⟨14, _⟩ => ⟨S512x16, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3088 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3088x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaProjRefIdeal.lean ====
abbrev S17408x1024 : Shape := ⟨2, ![17408, 1024]⟩
abbrev S1024 : Shape := ⟨1, ![1024]⟩
abbrev S1024x3088 : Shape := ⟨2, ![1024, 3088]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x3088 : Shape := ⟨2, ![17408, 3088]⟩
abbrev S17408x512 : Shape := ⟨2, ![17408, 512]⟩
abbrev S17408x16 : Shape := ⟨2, ![17408, 16]⟩

abbrev nBuf : Space → Nat
  | .hbm => 25
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x3088, .f32⟩
  | .hbm, ⟨3, _⟩ => ⟨S17408x1024, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x1024, .f32⟩
  | .hbm, ⟨15, _⟩ => ⟨S17408x1024, .f32⟩
  | .hbm, ⟨16, _⟩ => ⟨S1x1024, .f32⟩
  | .hbm, ⟨17, _⟩ => ⟨S17408x1024, .f32⟩
  | .hbm, ⟨18, _⟩ => ⟨S17408x1024, .f32⟩
  | .hbm, ⟨19, _⟩ => ⟨S17408x3088, .f32⟩
  | .hbm, ⟨20, _⟩ => ⟨S17408x512, .f32⟩
  | .hbm, ⟨21, _⟩ => ⟨S17408x512, .f32⟩
  | .hbm, ⟨22, _⟩ => ⟨S17408x1024, .f32⟩
  | .hbm, ⟨23, _⟩ => ⟨S17408x1024, .f32⟩
  | .hbm, ⟨24, _⟩ => ⟨S17408x16, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Win.lean ====
abbrev S128x256x128 : Shape := ⟨3, ![128, 256, 128]⟩
abbrev S2x128x512x2x4x64 : Shape := ⟨6, ![2, 128, 512, 2, 4, 64]⟩
abbrev S17408x512 : Shape := ⟨2, ![17408, 512]⟩
abbrev S128x3x1x128 : Shape := ⟨4, ![128, 3, 1, 128]⟩
abbrev S4x128x128 : Shape := ⟨3, ![4, 128, 128]⟩
abbrev S2x128x2x4x64x512 : Shape := ⟨6, ![2, 128, 2, 4, 64, 512]⟩
abbrev S2x128x512x512 : Shape := ⟨4, ![2, 128, 512, 512]⟩
abbrev S128x128x256 : Shape := ⟨3, ![128, 128, 256]⟩
abbrev S1024x1024 : Shape := ⟨2, ![1024, 1024]⟩
abbrev S128x512x512 : Shape := ⟨3, ![128, 512, 512]⟩
abbrev S1x256x128 : Shape := ⟨3, ![1, 256, 128]⟩
abbrev S1x128x256 : Shape := ⟨3, ![1, 128, 256]⟩
abbrev S1x1x512x512 : Shape := ⟨4, ![1, 1, 512, 512]⟩
abbrev S8x512 : Shape := ⟨2, ![8, 512]⟩
abbrev S1x3x1x128 : Shape := ⟨4, ![1, 3, 1, 128]⟩
abbrev S8x1024 : Shape := ⟨2, ![8, 1024]⟩
abbrev S1x512x512 : Shape := ⟨3, ![1, 512, 512]⟩
abbrev S1x1x128 : Shape := ⟨3, ![1, 1, 128]⟩
abbrev S256x128 : Shape := ⟨2, ![256, 128]⟩
abbrev S128x256 : Shape := ⟨2, ![128, 256]⟩
abbrev S128x128 : Shape := ⟨2, ![128, 128]⟩
abbrev S1x1x256x512 : Shape := ⟨4, ![1, 1, 256, 512]⟩
abbrev S256x512 : Shape := ⟨2, ![256, 512]⟩
abbrev S128x512 : Shape := ⟨2, ![128, 512]⟩
abbrev S1x128x128 : Shape := ⟨3, ![1, 128, 128]⟩
abbrev S1x1x256x128 : Shape := ⟨4, ![1, 1, 256, 128]⟩
abbrev S1x128 : Shape := ⟨2, ![1, 128]⟩
abbrev S128 : Shape := ⟨1, ![128]⟩
abbrev S120x512 : Shape := ⟨2, ![120, 512]⟩
abbrev S1x1x1x128 : Shape := ⟨4, ![1, 1, 1, 128]⟩
abbrev S64x128 : Shape := ⟨2, ![64, 128]⟩
abbrev S1024x128 : Shape := ⟨2, ![1024, 128]⟩
abbrev S128x1024 : Shape := ⟨2, ![128, 1024]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 10
  | .vmem => 18
  | .smem => 0
  | _ => 0

abbrev bufTy : (tb : Table) → Fin (tcTables nBuf tb) → BufTy
  | .hbm, ⟨0, _⟩ => ⟨S128x256x128, .bf16⟩
  | .hbm, ⟨1, _⟩ => ⟨S2x128x512x2x4x64, .f32⟩
  | .hbm, ⟨2, _⟩ => ⟨S17408x512, .f32⟩
  | .hbm, ⟨3, _⟩ => ⟨S128x3x1x128, .f32⟩
  | .hbm, ⟨4, _⟩ => ⟨S4x128x128, .f32⟩
  | .hbm, ⟨5, _⟩ => ⟨S2x128x2x4x64x512, .f32⟩
  | .hbm, ⟨6, _⟩ => ⟨S2x128x512x512, .f32⟩
  | .hbm, ⟨7, _⟩ => ⟨S128x128x256, .bf16⟩
  | .hbm, ⟨8, _⟩ => ⟨S1024x1024, .f32⟩
  | .hbm, ⟨9, _⟩ => ⟨S128x512x512, .f32⟩
  | .local _ .vmem, ⟨0, _⟩ => ⟨S1x256x128, .bf16⟩
  | .local _ .vmem, ⟨1, _⟩ => ⟨S1x256x128, .bf16⟩
  | .local _ .vmem, ⟨2, _⟩ => ⟨S1x128x256, .bf16⟩
  | .local _ .vmem, ⟨3, _⟩ => ⟨S1x128x256, .bf16⟩
  | .local _ .vmem, ⟨4, _⟩ => ⟨S1x1x512x512, .f32⟩
  | .local _ .vmem, ⟨5, _⟩ => ⟨S1x1x512x512, .f32⟩
  | .local _ .vmem, ⟨6, _⟩ => ⟨S8x512, .f32⟩
  | .local _ .vmem, ⟨7, _⟩ => ⟨S8x512, .f32⟩
  | .local _ .vmem, ⟨8, _⟩ => ⟨S1x3x1x128, .f32⟩
  | .local _ .vmem, ⟨9, _⟩ => ⟨S1x3x1x128, .f32⟩
  | .local _ .vmem, ⟨10, _⟩ => ⟨S4x128x128, .f32⟩
  | .local _ .vmem, ⟨11, _⟩ => ⟨S8x1024, .f32⟩
  | .local _ .vmem, ⟨12, _⟩ => ⟨S8x1024, .f32⟩
  | .local _ .vmem, ⟨13, _⟩ => ⟨S1x512x512, .f32⟩
  | .local _ .vmem, ⟨14, _⟩ => ⟨S1x512x512, .f32⟩
  | .local _ .vmem, ⟨15, _⟩ => ⟨S1x1x128, .f32⟩
  | .local _ .vmem, ⟨16, _⟩ => ⟨S1x1x128, .f32⟩
  | .local _ .vmem, ⟨17, _⟩ => ⟨S1x256x128, .f32⟩
  | _, _ => ⟨S128x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c2048_i32 : BitVec 32 := 2048#32
  let v0 : BitVec 32 := Scalar.addi c2048_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WinRefIdeal.lean ====
abbrev S128x256x128 : Shape := ⟨3, ![128, 256, 128]⟩
abbrev S2x128x512x2x4x64 : Shape := ⟨6, ![2, 128, 512, 2, 4, 64]⟩
abbrev S17408x512 : Shape := ⟨2, ![17408, 512]⟩
abbrev S128x3x1x128 : Shape := ⟨4, ![128, 3, 1, 128]⟩
abbrev S4x128x128 : Shape := ⟨3, ![4, 128, 128]⟩
abbrev S1024x512 : Shape := ⟨2, ![1024, 512]⟩
abbrev S128x8x2x4x64 : Shape := ⟨5, ![128, 8, 2, 4, 64]⟩
abbrev S1x128x512x2x4x64 : Shape := ⟨6, ![1, 128, 512, 2, 4, 64]⟩
abbrev S128x512x2x4x64 : Shape := ⟨5, ![128, 512, 2, 4, 64]⟩
abbrev S128x520x2x4x64 : Shape := ⟨5, ![128, 520, 2, 4, 64]⟩
abbrev S128x2x4x64x512 : Shape := ⟨5, ![128, 2, 4, 64, 512]⟩
abbrev S128x512x512 : Shape := ⟨3, ![128, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S128x256x128, .bf16⟩
  | .hbm, ⟨1, _⟩ => ⟨S2x128x512x2x4x64, .f32⟩
  | .hbm, ⟨2, _⟩ => ⟨S17408x512, .f32⟩
  | .hbm, ⟨3, _⟩ => ⟨S128x3x1x128, .f32⟩
  | .hbm, ⟨4, _⟩ => ⟨S4x128x128, .f32⟩
  | .hbm, ⟨5, _⟩ => ⟨S1024x512, .f32⟩
  | .hbm, ⟨6, _⟩ => ⟨S128x8x2x4x64, .f32⟩
  | .hbm, ⟨7, _⟩ => ⟨S1x128x512x2x4x64, .f32⟩
  | .hbm, ⟨8, _⟩ => ⟨S128x512x2x4x64, .f32⟩
  | .hbm, ⟨9, _⟩ => ⟨S128x520x2x4x64, .f32⟩
  | .hbm, ⟨10, _⟩ => ⟨S128x512x2x4x64, .f32⟩
  | .hbm, ⟨11, _⟩ => ⟨S128x2x4x64x512, .f32⟩
  | .hbm, ⟨12, _⟩ => ⟨S128x512x512, .f32⟩
  | _, _ => ⟨S128x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Prep.lean ====
abbrev S17408x16 : Shape := ⟨2, ![17408, 16]⟩
abbrev S16 : Shape := ⟨1, ![16]⟩
abbrev S1x16 : Shape := ⟨2, ![1, 16]⟩
abbrev S16384x16 : Shape := ⟨2, ![16384, 16]⟩
abbrev S4096x16 : Shape := ⟨2, ![4096, 16]⟩
abbrev S256x256 : Shape := ⟨2, ![256, 256]⟩
abbrev S256x16 : Shape := ⟨2, ![256, 16]⟩

abbrev nBuf : Space → Nat
  | .hbm => 5
  | .vmem => 7
  | .smem => 0
  | _ => 0

abbrev bufTy : (tb : Table) → Fin (tcTables nBuf tb) → BufTy
  | .hbm, ⟨0, _⟩ => ⟨S17408x16, .f32⟩
  | .hbm, ⟨1, _⟩ => ⟨S16, .f32⟩
  | .hbm, ⟨2, _⟩ => ⟨S1x16, .f32⟩
  | .hbm, ⟨3, _⟩ => ⟨S16384x16, .f32⟩
  | .hbm, ⟨4, _⟩ => ⟨S16384x16, .f32⟩
  | .local _ .vmem, ⟨0, _⟩ => ⟨S4096x16, .f32⟩
  | .local _ .vmem, ⟨1, _⟩ => ⟨S4096x16, .f32⟩
  | .local _ .vmem, ⟨2, _⟩ => ⟨S1x16, .f32⟩
  | .local _ .vmem, ⟨3, _⟩ => ⟨S4096x16, .f32⟩
  | .local _ .vmem, ⟨4, _⟩ => ⟨S4096x16, .f32⟩
  | .local _ .vmem, ⟨5, _⟩ => ⟨S4096x16, .f32⟩
  | .local _ .vmem, ⟨6, _⟩ => ⟨S4096x16, .f32⟩
  | _, _ => ⟨S17408x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrepRefIdeal.lean ====
abbrev S17408x16 : Shape := ⟨2, ![17408, 16]⟩
abbrev S16 : Shape := ⟨1, ![16]⟩
abbrev S16384x16 : Shape := ⟨2, ![16384, 16]⟩
abbrev S4x4096x16 : Shape := ⟨3, ![4, 4096, 16]⟩
abbrev S1x1x16 : Shape := ⟨3, ![1, 1, 16]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S17408x16, .f32⟩
  | .hbm, ⟨1, _⟩ => ⟨S16, .f32⟩
  | .hbm, ⟨2, _⟩ => ⟨S16384x16, .f32⟩
  | .hbm, ⟨3, _⟩ => ⟨S4x4096x16, .f32⟩
  | .hbm, ⟨4, _⟩ => ⟨S1x1x16, .f32⟩
  | .hbm, ⟨5, _⟩ => ⟨S4x4096x16, .f32⟩
  | .hbm, ⟨6, _⟩ => ⟨S4x4096x16, .f32⟩
  | .hbm, ⟨7, _⟩ => ⟨S4x4096x16, .f32⟩
  | .hbm, ⟨8, _⟩ => ⟨S_, .f32⟩
  | .hbm, ⟨9, _⟩ => ⟨S4x4096x16, .f32⟩
  | .hbm, ⟨10, _⟩ => ⟨S4x4096x16, .f32⟩
  | .hbm, ⟨11, _⟩ => ⟨S4x4096x16, .f32⟩
  | .hbm, ⟨12, _⟩ => ⟨S4x4096x16, .f32⟩
  | .hbm, ⟨13, _⟩ => ⟨S4x4096x16, .i1⟩
  | .hbm, ⟨14, _⟩ => ⟨S4x4096x16, .f32⟩
  | .hbm, ⟨15, _⟩ => ⟨S4x4096x16, .f32⟩
  | .hbm, ⟨16, _⟩ => ⟨S4x4096x16, .f32⟩
  | .hbm, ⟨17, _⟩ => ⟨S4x4096x16, .f32⟩
  | .hbm, ⟨18, _⟩ => ⟨S4x4096x16, .f32⟩
  | .hbm, ⟨19, _⟩ => ⟨S4x4096x16, .f32⟩
  | .hbm, ⟨20, _⟩ => ⟨S4x4096x16, .f32⟩
  | .hbm, ⟨21, _⟩ => ⟨S4x4096x16, .f32⟩
  | .hbm, ⟨22, _⟩ => ⟨S4x4096x16, .f32⟩
  | .hbm, ⟨23, _⟩ => ⟨S16384x16, .f32⟩
  | _, _ => ⟨S17408x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_v6 : Ref sig .tc := ⟨.hbm, 23, rfl⟩

abbrev nD : Nat := 1
abbrev τ : Topo := Topo.v7x

variable {F : FTy → Type} [FloatOps F]
-- ==== GlaDec.lean ====
abbrev S17408x512 : Shape := ⟨2, ![17408, 512]⟩
abbrev S17408x1024 : Shape := ⟨2, ![17408, 1024]⟩
abbrev S17408x16 : Shape := ⟨2, ![17408, 16]⟩
abbrev S16x512 : Shape := ⟨2, ![16, 512]⟩
abbrev S512 : Shape := ⟨1, ![512]⟩
abbrev S256 : Shape := ⟨1, ![256]⟩
abbrev S128x4x128x256 : Shape := ⟨4, ![128, 4, 128, 256]⟩
abbrev S1x512 : Shape := ⟨2, ![1, 512]⟩
abbrev S1x256 : Shape := ⟨2, ![1, 256]⟩
abbrev S1024x1024 : Shape := ⟨2, ![1024, 1024]⟩
abbrev S8x128 : Shape := ⟨2, ![8, 128]⟩
abbrev S8x256 : Shape := ⟨2, ![8, 256]⟩
abbrev S8x16 : Shape := ⟨2, ![8, 16]⟩
abbrev S16x128 : Shape := ⟨2, ![16, 128]⟩
abbrev S1x128 : Shape := ⟨2, ![1, 128]⟩
abbrev S1x1x128x256 : Shape := ⟨4, ![1, 1, 128, 256]⟩
abbrev S16x16 : Shape := ⟨2, ![16, 16]⟩
abbrev S128x256 : Shape := ⟨2, ![128, 256]⟩
abbrev S16x256 : Shape := ⟨2, ![16, 256]⟩
abbrev S8 : Shape := ⟨1, ![8]⟩
abbrev S8x1 : Shape := ⟨2, ![8, 1]⟩
abbrev S120x128 : Shape := ⟨2, ![120, 128]⟩
abbrev S128x128 : Shape := ⟨2, ![128, 128]⟩
abbrev S120x256 : Shape := ⟨2, ![120, 256]⟩

abbrev nBuf : Space → Nat
  | .hbm => 14
  | .vmem => 21
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x1024, .f32⟩
  | .hbm, ⟨3, _⟩ => ⟨S17408x1024, .f32⟩
  | .hbm, ⟨4, _⟩ => ⟨S17408x16, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S128x4x128x256, .f32⟩
  | .hbm, ⟨9, _⟩ => ⟨S16x512, .bf16⟩
  | .hbm, ⟨10, _⟩ => ⟨S1x512, .f32⟩
  | .hbm, ⟨11, _⟩ => ⟨S1x256, .f32⟩
  | .hbm, ⟨12, _⟩ => ⟨S1024x1024, .f32⟩
  | .hbm, ⟨13, _⟩ => ⟨S128x4x128x256, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x16, .f32⟩
  | .local _ .vmem, ⟨9, _⟩ => ⟨S8x16, .f32⟩
  | .local _ .vmem, ⟨10, _⟩ => ⟨S16x128, .bf16⟩
  | .local _ .vmem, ⟨11, _⟩ => ⟨S16x128, .bf16⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S1x1x128x256, .f32⟩
  | .local _ .vmem, ⟨16, _⟩ => ⟨S1x1x128x256, .f32⟩
  | .local _ .vmem, ⟨17, _⟩ => ⟨S8x256, .f32⟩
  | .local _ .vmem, ⟨18, _⟩ => ⟨S8x256, .f32⟩
  | .local _ .vmem, ⟨19, _⟩ => ⟨S1x1x128x256, .f32⟩
  | .local _ .vmem, ⟨20, _⟩ => ⟨S1x1x128x256, .f32⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![128, 4], ![false, false]⟩

def cc0_transform_0 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.addi c2048_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.addi c2048_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.addi c2048_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.addi c2048_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c2048_i32 : BitVec 32 := 2048#32
  let v0 : BitVec 32 := Scalar.addi c2048_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GlaDecRefIdeal.lean ====
abbrev S17408x512 : Shape := ⟨2, ![17408, 512]⟩
abbrev S17408x1024 : Shape := ⟨2, ![17408, 1024]⟩
abbrev S17408x16 : Shape := ⟨2, ![17408, 16]⟩
abbrev S16x512 : Shape := ⟨2, ![16, 512]⟩
abbrev S512 : Shape := ⟨1, ![512]⟩
abbrev S256 : Shape := ⟨1, ![256]⟩
abbrev S128x4x128x256 : Shape := ⟨4, ![128, 4, 128, 256]⟩
abbrev S1024x512 : Shape := ⟨2, ![1024, 512]⟩
abbrev S128x8x4x128 : Shape := ⟨4, ![128, 8, 4, 128]⟩
abbrev S1024x1024 : Shape := ⟨2, ![1024, 1024]⟩
abbrev S128x8x4x256 : Shape := ⟨4, ![128, 8, 4, 256]⟩
abbrev S1024x16 : Shape := ⟨2, ![1024, 16]⟩
abbrev S128x8x16 : Shape := ⟨3, ![128, 8, 16]⟩
abbrev S128x8x512 : Shape := ⟨3, ![128, 8, 512]⟩
abbrev S1x1x512 : Shape := ⟨3, ![1, 1, 512]⟩
abbrev S_ : Shape := ⟨0, ![]⟩
abbrev S128x1x4x128 : Shape := ⟨4, ![128, 1, 4, 128]⟩
abbrev S128x4x128 : Shape := ⟨3, ![128, 4, 128]⟩
abbrev S128x4x128x1 : Shape := ⟨4, ![128, 4, 128, 1]⟩

abbrev nBuf : Space → Nat
  | .hbm => 55
  | .vmem => 0
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x1024, .f32⟩
  | .hbm, ⟨3, _⟩ => ⟨S17408x1024, .f32⟩
  | .hbm, ⟨4, _⟩ => ⟨S17408x16, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S128x4x128x256, .f32⟩
  | .hbm, ⟨9, _⟩ => ⟨S1024x512, .f32⟩
  | .hbm, ⟨10, _⟩ => ⟨S128x8x4x128, .f32⟩
  | .hbm, ⟨11, _⟩ => ⟨S1024x1024, .f32⟩
  | .hbm, ⟨12, _⟩ => ⟨S128x8x4x256, .f32⟩
  | .hbm, ⟨13, _⟩ => ⟨S1024x16, .f32⟩
  | .hbm, ⟨14, _⟩ => ⟨S128x8x16, .f32⟩
  | .hbm, ⟨15, _⟩ => ⟨S128x8x512, .f32⟩
  | .hbm, ⟨16, _⟩ => ⟨S1x1x512, .f32⟩
  | .hbm, ⟨17, _⟩ => ⟨S128x8x512, .f32⟩
  | .hbm, ⟨18, _⟩ => ⟨S128x8x512, .f32⟩
  | .hbm, ⟨19, _⟩ => ⟨S128x8x512, .f32⟩
  | .hbm, ⟨20, _⟩ => ⟨S_, .f32⟩
  | .hbm, ⟨21, _⟩ => ⟨S128x8x512, .f32⟩
  | .hbm, ⟨22, _⟩ => ⟨S128x8x512, .f32⟩
  | .hbm, ⟨23, _⟩ => ⟨S128x8x512, .f32⟩
  | .hbm, ⟨24, _⟩ => ⟨S128x8x512, .f32⟩
  | .hbm, ⟨25, _⟩ => ⟨S128x8x512, .i1⟩
  | .hbm, ⟨26, _⟩ => ⟨S128x8x512, .f32⟩
  | .hbm, ⟨27, _⟩ => ⟨S128x8x512, .f32⟩
  | .hbm, ⟨28, _⟩ => ⟨S128x8x512, .f32⟩
  | .hbm, ⟨29, _⟩ => ⟨S128x8x512, .f32⟩
  | .hbm, ⟨30, _⟩ => ⟨S128x8x512, .f32⟩
  | .hbm, ⟨31, _⟩ => ⟨S128x8x512, .f32⟩
  | .hbm, ⟨32, _⟩ => ⟨S128x8x512, .f32⟩
  | .hbm, ⟨33, _⟩ => ⟨S128x8x512, .f32⟩
  | .hbm, ⟨34, _⟩ => ⟨S128x8x512, .f32⟩
  | .hbm, ⟨35, _⟩ => ⟨S_, .f32⟩
  | .hbm, ⟨36, _⟩ => ⟨S128x8x512, .f32⟩
  | .hbm, ⟨37, _⟩ => ⟨S128x8x512, .f32⟩
  | .hbm, ⟨38, _⟩ => ⟨S128x8x4x128, .f32⟩
  | .hbm, ⟨39, _⟩ => ⟨S_, .f32⟩
  | .hbm, ⟨40, _⟩ => ⟨S_, .f32⟩
  | .hbm, ⟨41, _⟩ => ⟨S128x8x4x128, .f32⟩
  | .hbm, ⟨42, _⟩ => ⟨S128x1x4x128, .f32⟩
  | .hbm, ⟨43, _⟩ => ⟨S128x4x128, .f32⟩
  | .hbm, ⟨44, _⟩ => ⟨S128x4x128, .f32⟩
  | .hbm, ⟨45, _⟩ => ⟨S128x4x128x1, .f32⟩
  | .hbm, ⟨46, _⟩ => ⟨S128x4x128x256, .f32⟩
  | .hbm, ⟨47, _⟩ => ⟨S128x4x128x256, .f32⟩
  | .hbm, ⟨48, _⟩ => ⟨S128x1x4x128, .f32⟩
  | .hbm, ⟨49, _⟩ => ⟨S128x8x4x128, .f32⟩
  | .hbm, ⟨50, _⟩ => ⟨S128x8x4x128, .f32⟩
  | .hbm, ⟨51, _⟩ => ⟨S128x8x4x128, .f32⟩
  | .hbm, ⟨52, _⟩ => ⟨S128x8x4x128, .f32⟩
  | .hbm, ⟨53, _⟩ => ⟨S128x4x128x256, .f32⟩
  | .hbm, ⟨54, _⟩ => ⟨S128x4x128x256, .f32⟩
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_call1_call0_cst : Ref sig .tc := ⟨.hbm, 39, rfl⟩
abbrev main_call1_call0_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩

abbrev nD : Nat := 1
abbrev τ : Topo := Topo.v7x

variable {F : FTy → Type} [FloatOps F]
-- ==== Proof.FoxIdealRun.lean ====
/- The run of the idealized attention kernel's body and the frame of its program.

   `bodyRun` is the triple of the whole body: from the input blocks in their staging buffers and anything in the
   scratch buffers it ends with the output buffer written, the inputs as they were. The rest sets this triple in the
   pipeline's proof data and reads the frame off. -/
module

public import proofs.«01_k».proof.Proof.Gen.FoxIdeal.Frame.Runs
public import Idealize.ShloMosaic.Lib.LoopRemainder
public import Idealize.ShloMosaic.Lib.Claim

@[expose] public section

set_option maxRecDepth 16384

noncomputable section

namespace Cert.FoxIdeal.Hand

open Cert.FoxIdeal Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Body

variable (c : Dev nD) (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S1x1x8x256 .f32) (harg6 : arg6.IsWhole) (arg7 : Memref sig .tc .vmem S1x1x4096x8 .f32) (harg7 : arg7.IsWhole) (arg8 : Memref sig .tc .vmem S256x512 .f32) (harg8 : arg8.IsWhole) (arg9 : Memref sig .tc .vmem S2x256x1024 .bf16) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x64x256 .f32) (harg12 : arg12.IsWhole) (arg13 : Memref sig .tc .vmem S2x256x1024 .bf16) (harg13 : arg13.IsWhole)
  (x0 : Vec F S512x256 .bf16) (x1 : Vec F S4096x512 .bf16) (x2 : Vec F S512x4096 .bf16) (x3 : Vec F S1x1x8x256 .f32) (x4 : Vec F S1x1x4096x8 .f32)

/-- What the body's one store leaves in the output's staging memref, as pieces, with the proof that it does: the
    main loop goes by its invariant (each trip's stores over the contents the trips before it left), the loop behind
    it makes no trip. -/
def bodyRun :
    { L5 : List (View.Piece (Elt F) S256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_fox_attn i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_fox_attn_eq_skeleton]; unfold cc0_fox_attn_skel
    rw [k0_part64_eq_skeleton]
    delta k0_part64_skel
    rw [k0_part62_eq_skeleton]
    beta_reduce
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-- The body's store covers the output block. -/
theorem cover (y : S256x512.Idx) :
    ∃ pc ∈ (bodyRun c i arg3 harg3 arg4 harg4 arg5 harg5 arg6 harg6 arg7 harg7 arg8 harg8 arg9 harg9 arg10 harg10 arg11 harg11 arg12 harg12 arg13 harg13 x0 x1 x2 x3 x4).1, y ∈ pc.1.set :=
  View.cover_of_tiledL (bodyRun c i arg3 harg3 arg4 harg4 arg5 harg5 arg6 harg6 arg7 harg7 arg8 harg8 arg9 harg9 arg10 harg10 arg11 harg11 arg12 harg12 arg13 harg13 x0 x1 x2 x3 x4).1 S256x512.size (by sl_kernel_rfl) y

/-- What the body leaves in the output's staging buffer. -/
def out : Vec F S256x512 .f32 :=
  VO0_5.read (Elt F) (VO0_5.writes (Elt F) VO0_5.junk (bodyRun c i arg3 harg3 arg4 harg4 arg5 harg5 arg6 harg6 arg7 harg7 arg8 harg8 arg9 harg9 arg10 harg10 arg11 harg11 arg12 harg12 arg13 harg13 x0 x1 x2 x3 x4).1)

end Body

variable (m : (ℓ : Loc nD τ sig) → Buf (Elt F) ℓ) (ρ : Dev nD → PrngReg)

/-! ## What the outputs hold after each point -/

/-- What the outputs' staging buffers hold after the body at point `t`: the run's contents at
    the point's memrefs and input blocks. -/
def outAt (c : Dev nD) (t : Fin cfg0.N) : Vec F S256x512 .f32 :=
  out c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (X0_1 m c t) (X0_2 m c t) (iblk m c 3 t) (iblk m c 4 t)

/-! ## The pipeline's proof data -/

/-- The proof data of the one pipeline on core `c`: the arrays as the region finds them (`V`); after the body at
    point `t` each input's buffer at its block and the outputs' at `outAt`; the invariant the class's
    (`ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => (outAt m c t)
  Φ _ := Pipeline.ΦA spec0 c
  q _ := fullShare
  owed _ := 0

/-- The proof data's arrays are the region-entry contents: the proof data's definition projected (`dsimp`), so that
    `V` is not unfolded. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outAt
  unfold out
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ _ _ _ _ _ _ _ _ (iblk m c 0 t) (X0_1 m c t) (X0_2 m c t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  iintro ⟨H0, H1, H2, H3, H4, ⟨%e5, H5⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover c _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_FoxIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## What the run leaves in the result array -/

/-- What point `t` writes back to the result array: the body's output at that point, read through the window's block. -/
theorem flushed (c : Dev nD) (t : Fin cfg0.N) :
    (dats m 0 c).flushed 5 t = (cfg0.win 5).cut (grid0.coords t) (outAt m c t) := by
  show (cfg0.win 5).cut (grid0.coords t) ((dats m 0 c).after 5 t) = _
  rw [after0_5]

/-- After the run the result array is the pipeline's, and the arguments are as launched. -/
theorem run_blocks : θ_run defs (onTc (τ := τ) (main (F := F))) ⟨m, fun _ => 0, ρ⟩ fun r => ∀ c : Dev nD,
      r.2.mem ((c : Thread nD τ).loc main_v10) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.FoxIdeal.Hand

end
-- ==== Proof.NormValue.lean ====
/- The value of the final norm: the result array of the idealized kernel is the reference's term of the arguments. -/
module

public import proofs.«01_k».proof.Proof.Gen.NormIdeal.Value
public import proofs.«01_k».proof.Proof.Gen.NormRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormRefIdeal.Hand

open Cert.NormRefIdeal Cert.NormRefIdeal.Gen

/-- Each row divided by the root of its mean square plus 1e-6, times the weight. -/
abbrev normed (x : FVec Ideal S17408x1024 .f32) (g : FVec Ideal S1024 .f32) : FVec Ideal S17408x1024 .f32 :=
  mulf (mulf x (broadcastInDim S17408x1024 ![0, 1] bcast_S17408x1_S17408x1024_0_1
    (Host.rsqrt (addf (Host.divf
      (broadcastInDim S17408x1 ![0] bcast_S17408_S17408x1_0
        (Host.reduceAdd (mulf x x) (constant S_ .f32 0x00000000#32) reducesTo_S17408x1024_S17408_d1 h_S_))
      (broadcastInDim S17408x1 ![] bcast_S_S17408x1 (constant S_ .f32 0x44800000#32)))
      (broadcastInDim S17408x1 ![] bcast_S_S17408x1 (constant S_ .f32 0x358637BD#32))))))
    (broadcastInDim S17408x1024 ![0, 1] bcast_S1x1024_S17408x1024_0_1 (broadcastInDim S1x1024 ![1] bcast_S1024_S1x1024_1 g))

end Cert.NormRefIdeal.Hand

namespace Cert.NormIdeal.Hand

open Cert.NormIdeal Cert.NormIdeal.Gen

variable (m : (ℓ : Loc nD τ sig) → Buf (Elt Ideal) ℓ)

/-- The row tile at point `t` is tile `t`; the weight is one block. -/
theorem idx : ∀ t : Fin cfg0.N, win0_0.index t = ![t.val, 0] ∧ win0_1.index t = ![0, 0] ∧ win0_2.index t = ![t.val, 0] :=
  (by decide +kernel : ∀ t : Fin grid0.N, _)

/-- What the body stores at `y` is the reference's normalised row at the array index `y` sits at. -/
theorem point (c : Dev nD) (t : Fin cfg0.N) (y) : k0_pay1 (iblk m c 0 t) (iblk m c 1 t) y
    = Cert.NormRefIdeal.Hand.normed (m ((c : Thread nD τ).loc main_arg0)) (m ((c : Thread nD τ).loc main_arg1))
        (((cfg0.win 2).blk t).view.emb y) := by
  pointwise [k0_pay1, Cert.NormRefIdeal.Hand.normed]
  blk_point [iblk, V, idx t]

/-- The result array after the run is the reference's result. -/
theorem final (c : Dev nD) : (dats m 0 c).arrAt 2 cfg0.N
    = Cert.NormRefIdeal.Hand.normed (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.NormIdeal.Hand

end
-- ==== Proof.ProjValue.lean ====
/- The value of the input projection: each of the five result arrays of the idealized kernel is the reference's term of
   the arguments. -/
module

public import proofs.«01_k».proof.Proof.Gen.ProjIdeal.Value
public import proofs.«01_k».proof.Proof.Gen.ProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjRefIdeal.Hand

open Cert.ProjRefIdeal Cert.ProjRefIdeal.Gen

variable (x : FVec Ideal S17408x1024 .f32) (g : FVec Ideal S1024 .f32) (w : FVec Ideal S1024x3088 .f32)

/-- Each row divided by the root of its mean square plus 1e-6, times the weight. -/
abbrev normed : FVec Ideal S17408x1024 .f32 :=
  mulf (mulf x (broadcastInDim S17408x1024 ![0, 1] bcast_S17408x1_S17408x1024_0_1
    (Host.rsqrt (addf (Host.divf
      (broadcastInDim S17408x1 ![0] bcast_S17408_S17408x1_0
        (Host.reduceAdd (mulf x x) (constant S_ .f32 0x00000000#32) reducesTo_S17408x1024_S17408_d1 h_S_))
      (broadcastInDim S17408x1 ![] bcast_S_S17408x1 (constant S_ .f32 0x44800000#32)))
      (broadcastInDim S17408x1 ![] bcast_S_S17408x1 (constant S_ .f32 0x358637BD#32))))))
    (broadcastInDim S17408x1024 ![0, 1] bcast_S1x1024_S17408x1024_0_1 (broadcastInDim S1x1024 ![1] bcast_S1024_S1x1024_1 g))

/-- The combined projection of the normalised rows. -/
abbrev proj : FVec Ideal S17408x3088 .f32 :=
  Host.dotGeneral dot_S17408x1024_S1024x3088_S17408x3088_1_0_0_1_n_n none (normed x g) w

/-- Its keys and values. -/
abbrev kvs : FVec Ideal S17408x2048 .f32 :=
  extractStridedSlice S17408x2048 ![0, 1024] (proj x g w) slices_S17408x3088_S17408x2048_0_1024

/-- The keys. -/
abbrev keys : FVec Ideal S17408x1024 .bf16 :=
  truncf .bf16 (extractStridedSlice S17408x1024 ![0, 0] (kvs x g w) slices_S17408x2048_S17408x1024_0_0) bitsLt_bf16_f32

/-- The forget gates' inputs. -/
abbrev gates : FVec Ideal S17408x16 .f32 :=
  extractStridedSlice S17408x16 ![0, 3072] (proj x g w) slices_S17408x3088_S17408x16_0_3072

/-- The queries, feature-major. -/
abbrev queriesT : FVec Ideal S1024x17408 .bf16 :=
  truncf .bf16 (transpose S1024x17408 [1, 0]
    (extractStridedSlice S17408x1024 ![0, 0] (proj x g w) slices_S17408x3088_S17408x1024_0_0)
    transposes_S17408x1024_S1024x17408_1_0) bitsLt_bf16_f32

/-- The values, feature-major. -/
abbrev valuesT : FVec Ideal S1024x17408 .bf16 :=
  truncf .bf16 (transpose S1024x17408 [1, 0]
    (extractStridedSlice S17408x1024 ![0, 1024] (kvs x g w) slices_S17408x2048_S17408x1024_0_1024)
    transposes_S17408x1024_S1024x17408_1_0) bitsLt_bf16_f32

end Cert.ProjRefIdeal.Hand

namespace Cert.ProjIdeal.Hand

open Cert.ProjIdeal Cert.ProjIdeal.Gen Cert.ProjRefIdeal.Hand

variable (m : (ℓ : Loc nD τ sig) → Buf (Elt Ideal) ℓ)

/-- The row tile at point `t` is tile `t`, in the feature-major results the column tile; the weights are one block. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![0, t.val] ∧ win0_8.index t = ![0, t.val] :=
  (by decide +kernel : ∀ t : Fin grid0.N, _)

/-- The keys and values after the run. -/
theorem final4 (c : Dev nD) : (dats m 0 c).arrAt 4 cfg0.N = kvs (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp; rw [after0_4]; frame_out
  pointwise [k0_pay4, k0_pay3, kvs, proj, normed]
  blk_point [iblk, V, idx t]

/-- The keys after the run. -/
theorem final5 (c : Dev nD) : (dats m 0 c).arrAt 5 cfg0.N = keys (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp; rw [after0_5]; frame_out
  pointwise [k0_pay5, k0_pay3, keys, kvs, proj, normed]
  blk_point [iblk, V, idx t]

/-- The forget gates' inputs after the run. -/
theorem final6 (c : Dev nD) : (dats m 0 c).arrAt 6 cfg0.N = gates (m ((c : Thread nD τ).loc main_arg0))
    (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay6, k0_pay3, gates, proj, normed]
  blk_point [iblk, V, idx t]

/-- The queries after the run. -/
theorem final7 (c : Dev nD) : (dats m 0 c).arrAt 7 cfg0.N = queriesT (m ((c : Thread nD τ).loc main_arg0))
    (m ((c : Thread nD τ).loc main_arg1)) (m ((c : Thread nD τ).loc main_arg2)) := by
  refine (dats m 0 c).arrAt_eq_of_covers 7 _ (by decide +kernel) fun t hf y => ?_
  blk_simp; rw [after0_7]; frame_out
  pointwise [k0_pay1, k0_pay7, k0_pay8, k0_pay3, queriesT, proj, normed]
  blk_point [iblk, V, idx t]

/-- The values after the run. -/
theorem final8 (c : Dev nD) : (dats m 0 c).arrAt 8 cfg0.N = valuesT (m ((c : Thread nD τ).loc main_arg0))
    (m ((c : Thread nD τ).loc main_arg1)) (m ((c : Thread nD τ).loc main_arg2)) := by
  refine (dats m 0 c).arrAt_eq_of_covers 8 _ (by decide +kernel) fun t hf y => ?_
  blk_simp; rw [after0_8]; frame_out
  pointwise [k0_pay2, k0_pay8, k0_pay3, valuesT, kvs, proj, normed]
  blk_point [iblk, V, idx t]

end Cert.ProjIdeal.Hand

end
-- ==== Proof.MlpValue.lean ====
/- The value of the joined output projection and feed-forward block: the result array of the idealized kernel is the
   reference's term of the arguments. -/
module

public import proofs.«01_k».proof.Proof.Gen.MlpIdeal.Frame
public import proofs.«01_k».proof.Proof.Gen.MlpIdeal.Value
public import proofs.«01_k».proof.Proof.Gen.MlpRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpRefIdeal.Hand

open Cert.MlpRefIdeal Cert.MlpRefIdeal.Gen

/-- The attention's rows: the prompts' above the samples'. -/
abbrev rows (o : FVec Ideal S16384x1024 .f32) (s : FVec Ideal S1024x1024 .f32) : FVec Ideal S17408x1024 .f32 :=
  concatenate S17408x1024 0 [⟨S16384x1024, o⟩, ⟨S1024x1024, s⟩] concatenates_S16384x1024_S1024x1024_S17408x1024_d0

/-- The rows times the output weight, added to the input. -/
abbrev resid (x : FVec Ideal S17408x1024 .f32) (o : FVec Ideal S16384x1024 .f32) (s : FVec Ideal S1024x1024 .f32)
    (w : FVec Ideal S1024x1024 .f32) : FVec Ideal S17408x1024 .f32 :=
  addf x (Host.dotGeneral dot_S17408x1024_S1024x1024_S17408x1024_1_0_0_1_n_n none (rows o s) w)

/-- Each row divided by the root of its mean square plus 1e-6, times the weight. -/
abbrev normed (x : FVec Ideal S17408x1024 .f32) (g : FVec Ideal S1024 .f32) : FVec Ideal S17408x1024 .f32 :=
  mulf (mulf x (broadcastInDim S17408x1024 ![0, 1] bcast_S17408x1_S17408x1024_0_1
    (Host.rsqrt (addf (Host.divf
      (broadcastInDim S17408x1 ![0] bcast_S17408_S17408x1_0
        (Host.reduceAdd (mulf x x) (constant S_ .f32 0x00000000#32) reducesTo_S17408x1024_S17408_d1 h_S_))
      (broadcastInDim S17408x1 ![] bcast_S_S17408x1 (constant S_ .f32 0x44800000#32)))
      (broadcastInDim S17408x1 ![] bcast_S_S17408x1 (constant S_ .f32 0x358637BD#32))))))
    (broadcastInDim S17408x1024 ![0, 1] bcast_S1x1024_S17408x1024_0_1 (broadcastInDim S1x1024 ![1] bcast_S1024_S1x1024_1 g))

/-- The hidden layer: the square of the positive part of the first product. -/
abbrev hidden (h : FVec Ideal S17408x1024 .f32) (w : FVec Ideal S1024x4096 .f32) : FVec Ideal S17408x4096 .f32 :=
  mulf
    (maximumf (Host.dotGeneral dot_S17408x1024_S1024x4096_S17408x4096_1_0_0_1_n_n none h w)
      (broadcastInDim S17408x4096 ![] bcast_S_S17408x4096 (constant S_ .f32 0x00000000#32)))
    (maximumf (Host.dotGeneral dot_S17408x1024_S1024x4096_S17408x4096_1_0_0_1_n_n none h w)
      (broadcastInDim S17408x4096 ![] bcast_S_S17408x4096 (constant S_ .f32 0x00000000#32)))

/-- The hidden layer times the second weight, added to the block's input. -/
abbrev added (x : FVec Ideal S17408x1024 .f32) (u : FVec Ideal S17408x4096 .f32) (w : FVec Ideal S4096x1024 .f32) :
    FVec Ideal S17408x1024 .f32 :=
  addf x (Host.dotGeneral dot_S17408x4096_S4096x1024_S17408x1024_1_0_0_1_n_n none u w)

/-- One element of the residual. -/
theorem resid_apply (x o s w r q) : resid x o s w (ix2 r q) = x (ix2 r q)
    + ∑ k : Fin 1024, (if h : r.val < 16384 then o (ix2 ⟨r.val, h⟩ k) else s (ix2 ⟨r.val - 16384, by have := r.isLt; omega⟩ k))
      * w (ix2 k q) := by
  pointwise [resid, rows]

/-- One element of a normalised row. -/
theorem normed_apply (x g r q) : normed x g (ix2 r q) = x (ix2 r q)
    * Ideal.rsqrt (Ideal.div (∑ k : Fin 1024, x (ix2 r k) * x (ix2 r k)) (Ideal.ofBits FTy.f32 1149239296#32)
      + Ideal.ofBits FTy.f32 897988541#32) * g (ix1 q) := by
  pointwise [normed]

/-- One element of the hidden layer. -/
theorem hidden_apply (h w r q) : hidden h w (ix2 r q)
    = max (∑ k : Fin 1024, h (ix2 r k) * w (ix2 k q)) 0 * max (∑ k : Fin 1024, h (ix2 r k) * w (ix2 k q)) 0 := by
  pointwise [hidden]

/-- One element of the result. -/
theorem added_apply (x u w r q) : added x u w (ix2 r q) = x (ix2 r q) + ∑ k : Fin 4096, u (ix2 r k) * w (ix2 k q) := by
  pointwise [added]

end Cert.MlpRefIdeal.Hand
namespace Cert.MlpIdeal.Hand
open Cert.MlpIdeal Cert.MlpIdeal.Gen
variable (m : (ℓ : Loc nD τ sig) → Buf (Elt Ideal) ℓ)
/-- Argument 0: the input. -/
abbrev A0 (c : Dev nD) : FVec Ideal S17408x1024 .f32 := m ((c : Thread nD τ).loc main_arg0)

/-- Argument 1: the prompts' attention. -/
abbrev A1 (c : Dev nD) : FVec Ideal S16384x1024 .f32 := m ((c : Thread nD τ).loc main_arg1)

/-- Argument 2: the samples' attention. -/
abbrev A2 (c : Dev nD) : FVec Ideal S1024x1024 .f32 := m ((c : Thread nD τ).loc main_arg2)

/-- Argument 3: the output weight. -/
abbrev A3 (c : Dev nD) : FVec Ideal S1024x1024 .f32 := m ((c : Thread nD τ).loc main_arg3)

/-- Argument 4: the norm's weight. -/
abbrev A4 (c : Dev nD) : FVec Ideal S1024 .f32 := m ((c : Thread nD τ).loc main_arg4)

/-- Argument 5: the first weight. -/
abbrev A5 (c : Dev nD) : FVec Ideal S1024x4096 .f32 := m ((c : Thread nD τ).loc main_arg5)

/-- Argument 6: the second weight. -/
abbrev A6 (c : Dev nD) : FVec Ideal S4096x1024 .f32 := m ((c : Thread nD τ).loc main_arg6)

/-- The block each window reads at point `t`: tile `t / 4` of the rows, slice `t % 4` of the hidden columns. -/
theorem idx : ∀ t : Fin cfg0.N, win0_0.index t = ![t.val / 4, 0] ∧ win0_1.index t = ![min (t.val / 4) 31, 0]
    ∧ win0_2.index t = ![t.val / 4 - 32, 0] ∧ win0_3.index t = ![0, 0] ∧ win0_4.index t = ![0, 0]
    ∧ win0_5.index t = ![0, t.val % 4] ∧ win0_6.index t = ![t.val % 4, 0] ∧ win0_7.index t = ![t.val / 4, 0] :=
  (by decide +kernel : ∀ t : Fin grid0.N, _)
/-- The comparison that chooses between the prompts' and the samples' rows. -/
theorem first : ∀ t : Fin cfg0.N, Scalar.cmpi .slt (BitVec.ofNat 32 (grid0.coords t 0).val) 32#32 = if t.val / 4 < 32 then 1#1 else 0#1 :=
  (by decide +kernel : ∀ t : Fin grid0.N, _)
/-- The array row that row `r` of the tile at point `t` is. -/
abbrev row (t : Fin cfg0.N) (r : Fin 512) : Fin 17408 :=
  ⟨t.val / 4 * 512 + r.val, by have := t.isLt; have : cfg0.N = 136 := N_0; have := r.isLt; omega⟩
/-- The hidden column that column `k` of the slice at point `t` is. -/
abbrev col (t : ℕ) (k : Fin 1024) : Fin 4096 := ⟨t % 4 * 1024 + k.val, by have := k.isLt; omega⟩

/-- An element of the block of the input, as an element of the array. -/
theorem blk0 (c : Dev nD) (t : Fin cfg0.N) (r k) : (iblk m c 0 t : FVec Ideal S512x1024 .f32) (ix2 r k)
    = A0 m c (ix2 (row t r) k) := by
  blk_point [iblk, V, idx t]
/-- An element of the block of the prompts' attention, as an element of the array. -/
theorem blk1 (c : Dev nD) (t : Fin cfg0.N) (r k) (h : t.val / 4 < 32) : (iblk m c 1 t : FVec Ideal S512x1024 .f32) (ix2 r k)
    = A1 m c (ix2 ⟨t.val / 4 * 512 + r.val, by have := r.isLt; omega⟩ k) := by
  have e : min (t.val / 4) 31 = t.val / 4 := by omega
  blk_point [iblk, V, idx t, e]
/-- An element of the block of the samples' attention, as an element of the array. -/
theorem blk2 (c : Dev nD) (t : Fin cfg0.N) (r k) (h : ¬ t.val / 4 < 32) : (iblk m c 2 t : FVec Ideal S512x1024 .f32) (ix2 r k)
    = A2 m c (ix2 ⟨t.val / 4 * 512 + r.val - 16384, by have := r.isLt; have := t.isLt; have : cfg0.N = 136 := N_0; omega⟩ k) := by
  have e : (t.val / 4 - 32) * 512 + r.val = t.val / 4 * 512 + r.val - 16384 := by omega
  blk_point [iblk, V, idx t, e]
/-- An element of the block of the output weight, as an element of the array. -/
theorem blk3 (c : Dev nD) (t : Fin cfg0.N) (r k) : (iblk m c 3 t : FVec Ideal S1024x1024 .bf16) (ix2 r k)
    = A3 m c (ix2 r k) := by
  blk_point [iblk, V, idx t]
/-- An element of the block of the norm's weight, as an element of the array. -/
theorem blk4 (c : Dev nD) (t : Fin cfg0.N) (k) : (iblk m c 4 t : FVec Ideal S1x1024 .f32) (ix2 0 k)
    = A4 m c (ix1 k) := by
  blk_point [iblk, V, idx t]
/-- An element of the block of the first weight, as an element of the array. -/
theorem blk5 (c : Dev nD) (t : Fin cfg0.N) (r k) : (iblk m c 5 t : FVec Ideal S1024x1024 .bf16) (ix2 r k)
    = A5 m c (ix2 r (col t.val k)) := by
  blk_point [iblk, V, idx t]
/-- An element of the block of the second weight, as an element of the array. -/
theorem blk6 (c : Dev nD) (t : Fin cfg0.N) (r k) : (iblk m c 6 t : FVec Ideal S1024x1024 .bf16) (ix2 r k)
    = A6 m c (ix2 (col t.val r) k) := by
  blk_point [iblk, V, idx t]

/-- The residual, of the arguments. -/
def X (c : Dev nD) : FVec Ideal S17408x1024 .f32 :=
  Cert.MlpRefIdeal.Hand.resid (A0 m c) (A1 m c)
    (A2 m c) (A3 m c)

/-- The normalised residual, of the arguments. -/
def H (c : Dev nD) : FVec Ideal S17408x1024 .f32 :=
  Cert.MlpRefIdeal.Hand.normed (X m c) (A4 m c)

/-- The hidden layer, of the arguments. -/
def U (c : Dev nD) : FVec Ideal Cert.MlpRefIdeal.S17408x4096 .f32 :=
  Cert.MlpRefIdeal.Hand.hidden (H m c) (A5 m c)

theorem X_apply (c : Dev nD) (r q) : X m c (ix2 r q) = A0 m c (ix2 r q)
    + ∑ k : Fin 1024, (if h : r.val < 16384 then A1 m c (ix2 ⟨r.val, h⟩ k)
      else A2 m c (ix2 ⟨r.val - 16384, by have := r.isLt; omega⟩ k))
      * A3 m c (ix2 k q) :=
  Cert.MlpRefIdeal.Hand.resid_apply _ _ _ _ r q

theorem H_apply (c : Dev nD) (r q) : H m c (ix2 r q) = X m c (ix2 r q)
    * Ideal.rsqrt (Ideal.div (∑ k : Fin 1024, X m c (ix2 r k) * X m c (ix2 r k)) (Ideal.ofBits FTy.f32 1149239296#32)
      + Ideal.ofBits FTy.f32 897988541#32) * A4 m c (ix1 q) :=
  Cert.MlpRefIdeal.Hand.normed_apply _ _ r q

theorem U_apply (c : Dev nD) (r q) : U m c (ix2 r q)
    = max (∑ k : Fin 1024, H m c (ix2 r k) * A5 m c (ix2 k q)) 0
      * max (∑ k : Fin 1024, H m c (ix2 r k) * A5 m c (ix2 k q)) 0 :=
  Cert.MlpRefIdeal.Hand.hidden_apply _ _ r q

/-- What the slice of hidden columns at point `n` adds to a result's element. -/
abbrev part (c : Dev nD) (r : Fin 17408) (q : Fin 1024) (n : ℕ) : EReal :=
  ∑ k : Fin 1024, U m c (ix2 r (col n k)) * A6 m c (ix2 (col n k) q)

/-- The four slices are all the hidden columns. -/
theorem parts (c : Dev nD) (r q) : ∑ p ∈ Finset.range 4, part m c r q p
    = ∑ k : Fin 4096, U m c (ix2 r k) * A6 m c (ix2 k q) := by
  rw [Finset.sum_range]
  rw [← (finProdFinEquiv (m := 4) (n := 1024)).sum_comp, Fintype.sum_prod_type]
  refine Finset.sum_congr rfl fun p _ => Finset.sum_congr rfl fun k _ => ?_
  have e : col p.val k = finProdFinEquiv (p, k) := by
    apply Fin.ext
    have := p.isLt
    simp only [finProdFinEquiv_apply_val]
    omega
  rw [e]

/-- The residual stored at a tile's first point. -/
theorem stored_resid (c : Dev nD) (t : Fin cfg0.N) (r q) :
    k0_pay3 (BitVec.ofNat 32 (grid0.coords t 0).val) (iblk m c 1 t) (iblk m c 2 t) (iblk m c 0 t) (iblk m c 3 t) (ix2 r q)
      = X m c (ix2 (row t r) q) := by
  rw [X_apply]
  pointwise [k0_pay3]
  rw [first t, blk0]
  congr 1
  refine Finset.sum_congr rfl fun k _ => ?_
  rw [blk3]
  congr 1
  have hr := r.isLt
  by_cases h : t.val / 4 < 32
  · rw [if_pos h, dif_pos (show (row t r).val < 16384 by show t.val / 4 * 512 + r.val < 16384; omega), ← blk1 m c t r k h]
    rfl
  · rw [if_neg h, dif_neg (show ¬ (row t r).val < 16384 by show ¬ t.val / 4 * 512 + r.val < 16384; omega), ← blk2 m c t r k h]
    rfl

/-- The normalised residual stored at a tile's first point. -/
theorem stored_normed (c : Dev nD) (t : Fin cfg0.N) (r q) :
    k0_pay5 (BitVec.ofNat 32 (grid0.coords t 0).val) (iblk m c 1 t) (iblk m c 2 t) (iblk m c 0 t) (iblk m c 3 t) (iblk m c 4 t)
      (ix2 r q) = H m c (ix2 (row t r) q) := by
  rw [H_apply]
  pointwise [k0_pay5]
  simp only [stored_resid, blk4]

/-- One step adds the point's slice to the sum. -/
theorem stored_sum (c : Dev nD) (t : Fin cfg0.N) (h : FVec Ideal S512x1024 .bf16) (a : FVec Ideal S512x1024 .f32) (r q)
    (hh : ∀ k, h (ix2 r k) = H m c (ix2 (row t r) k)) :
    k0_pay1 h (iblk m c 5 t) a (iblk m c 6 t) (ix2 r q) = a (ix2 r q) + part m c (row t r) q t.val := by
  pointwise [k0_pay1]
  congr 1
  refine Finset.sum_congr rfl fun k _ => ?_
  rw [U_apply, blk6]
  simp only [hh, blk5]

/-- What a tile's points leave in the scratch: the residual, its normalised rows, and the sum over the slices so far. -/
abbrev Held (c : Dev nD) (n : ℕ) (t : Fin cfg0.N)
    (s : Vec Ideal S512x1024 .f32 × Vec Ideal S512x1024 .f32 × Vec Ideal S512x1024 .bf16 × Vec Ideal S512x1024 .f32) : Prop :=
  (∀ r q, s.2.1 (ix2 r q) = X m c (ix2 (row t r) q)) ∧ (∀ r q, s.2.2.1 (ix2 r q) = H m c (ix2 (row t r) q))
    ∧ ∀ r q, s.2.2.2 (ix2 r q) = ∑ p ∈ Finset.range n, part m c (row t r) q p

theorem part_mod (c : Dev nD) (r q) (n : ℕ) : part m c r q n = part m c r q (n % 4) := by
  have e : ∀ k, col n k = col (n % 4) k := fun k => by simp [col]
  simp only [part, e]

theorem held_first (c : Dev nD) (t : Fin cfg0.N) (h : t.val % 4 = 0) : Held m c 1 t (outsAt0 m c t.val t.isLt) := by
  rw [outsAt0_A m c t h (by omega)]
  refine ⟨fun r q => ?_, fun r q => ?_, fun r q => ?_⟩
  · frame_out
    refine Eq.trans ?_ (stored_resid m c t r q)
    pointwise [k0_pay4]
  · frame_out
    exact stored_normed m c t r q
  · frame_out
    rw [stored_sum m c t _ _ r q (stored_normed m c t r), Finset.sum_range_one, part_mod m c _ _ t.val, h]
    pointwise [k0_pay6]

theorem held_next (c : Dev nD) (n : ℕ) (t u : Fin cfg0.N) (hu : u.val = t.val - 1) (h0 : t.val % 4 = n) (hn : n = 1 ∨ n = 2)
    (h : Held m c n u (outsAt0 m c u.val u.isLt)) : Held m c (n + 1) t (outsAt0 m c t.val t.isLt) := by
  obtain ⟨u, hul⟩ := u
  subst hu
  have hrow : ∀ r, row ⟨t.val - 1, hul⟩ r = row t r := fun r => by
    apply Fin.ext; show (t.val - 1) / 4 * 512 + r.val = t.val / 4 * 512 + r.val; omega
  simp only [Held, hrow] at h
  rw [outsAt0_B m c t (by omega) (by omega)]
  refine ⟨fun r q => ?_, fun r q => ?_, fun r q => ?_⟩
  · frame_out
    exact h.1 r q
  · frame_out
    exact h.2.1 r q
  · frame_out
    simp only [read_unread_whole]
    rw [stored_sum m c t _ _ r q (h.2.1 r), Finset.sum_range_succ, part_mod m c _ _ t.val, h0]
    congr 1
    exact h.2.2 r q

/-- What the last step stores is the residual plus the sum over the four slices. -/
theorem stored_result (c : Dev nD) (t : Fin cfg0.N) (h3 : t.val % 4 = 3) (x a : FVec Ideal S512x1024 .f32)
    (h : FVec Ideal S512x1024 .bf16) (r : Fin 512) (q : Fin 1024)
    (hx : x (ix2 r q) = X m c (ix2 (row t r) q))
    (hh : ∀ k, h (ix2 r k) = H m c (ix2 (row t r) k))
    (ha : a (ix2 r q) = ∑ p ∈ Finset.range 3, part m c (row t r) q p) :
    k0_pay2 x (k0_pay1 h (iblk m c 5 t) a (iblk m c 6 t)) (ix2 r q)
      = Cert.MlpRefIdeal.Hand.added (X m c) (U m c) (A6 m c) (((cfg0.win 7).blk t).view.emb (ix2 r q)) := by
  have hy : ((cfg0.win 7).blk t).view.emb (ix2 r q) = ix2 (row t r) q := by
    refine (eq_ix2 _).trans (congrArg₂ ix2 (Fin.ext ?_) (Fin.ext ?_)) <;> blk_point [idx t]
  have e : k0_pay2 x (k0_pay1 h (iblk m c 5 t) a (iblk m c 6 t)) (ix2 r q)
      = x (ix2 r q) + k0_pay1 h (iblk m c 5 t) a (iblk m c 6 t) (ix2 r q) := rfl
  rw [e, hy]
  refine Eq.trans ?_ (Cert.MlpRefIdeal.Hand.added_apply _ _ _ (row t r) q).symm
  rw [stored_sum m c t h a r q hh, hx, ha, part_mod m c _ _ t.val, h3]
  exact congrArg _ ((Finset.sum_range_succ _ 3).symm.trans (parts m c (row t r) q))

/-- The result array after the run is the reference's result. -/
theorem final (c : Dev nD) : (dats m 0 c).arrAt 7 cfg0.N
    = Cert.MlpRefIdeal.Hand.added (X m c) (U m c) (A6 m c) := by
  refine (dats m 0 c).arrAt_eq_of_covers 7 _ (by decide +kernel) fun t hf y => ?_
  have h3 : t.val % 4 = 3 := (flush0_7 t).mp hf
  have hN : t.val < 136 := lt_of_lt_of_eq t.isLt N_0
  have N : cfg0.N = 136 := N_0
  have s0 := held_first m c ⟨t.val - 3, by omega⟩ (by show (t.val - 3) % 4 = 0; omega)
  have s1 := held_next m c 1 ⟨t.val - 2, by omega⟩ _ (by show t.val - 3 = t.val - 2 - 1; omega)
    (by show (t.val - 2) % 4 = 1; omega) (.inl rfl) s0
  have s2 := held_next m c 2 ⟨t.val - 1, by omega⟩ _ (by show t.val - 2 = t.val - 1 - 1; omega)
    (by show (t.val - 1) % 4 = 2; omega) (.inr rfl) s1
  have hrow : ∀ r, row ⟨t.val - 1, by omega⟩ r = row t r := fun r => by
    apply Fin.ext; show (t.val - 1) / 4 * 512 + r.val = t.val / 4 * 512 + r.val; omega
  simp only [Held, hrow] at s2
  blk_simp
  rw [after0_7, outsAt0_C m c t (by omega) h3]
  frame_out
  simp only [read_unread_whole]
  rw [eq_ix2 y]
  exact stored_result m c t h3 _ _ _ (y 0) (y 1) (s2.1 _ _) (s2.2.1 _) (s2.2.2 _ _)

end Cert.MlpIdeal.Hand

end
-- ==== Proof.FoxHead.lean ====
/- One head's step of the running softmax, as the idealized attention kernel computes it on one tile of keys: the terms
   of one head, whatever the head, and their elements. -/
module

public import proofs.«01_k».proof.Proof.FoxIdealRun
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.FoxIdeal.Hand

open Cert.FoxIdeal Cert.FoxIdeal.Gen

/-- The products of a tile's keys with four heads' queries. -/
def scores (kr : FVec Ideal S256x512 .bf16) (qz : FVec Ideal S1x256x1024 .bf16) (o : ℕ)
    (ho : S256x512.Slices ![0, o] S256x256) : FVec Ideal S256x1024 .f32 :=
  matmul (φ₁ := .bf16) (φ₂ := .bf16) dot_S256x256_S256x1024_S256x1024_1_0_0_1_n_n none
    (extractStridedSlice S256x256 ![0, o] (shapeCast S256x512 kr shapeCasts_S256x512_S256x512) ho)
    (shapeCast S256x1024 qz shapeCasts_S1x256x1024_S256x1024) (constant S256x1024 .f32 0x00000000#32)

/-- The scores of half of one head's queries: the products plus the query's decay less the key's. -/
def half (s : FVec Ideal S256x1024 .f32) (o : ℕ) (ho : S256x1024.Slices ![0, o] S256x128)
    (dr : FVec Ideal S1x1x1x128 .f32) (dc : FVec Ideal S1x1x256x1 .f32) : FVec Ideal S256x128 .f32 :=
  subf (addf (extractStridedSlice S256x128 ![0, o] s ho)
    (broadcastTo S256x128 (shapeCast S1x128 dr shapeCasts_S1x1x1x128_S1x128) broadcasts_S1x128_S256x128))
    (broadcastTo S256x128 (shapeCast S256x1 dc shapeCasts_S1x1x256x1_S256x1) broadcasts_S256x1_S256x128)

/-- Half of a head's row of maxima after the tile. -/
def halfM (s : FVec Ideal S256x128 .f32) (m : FVec Ideal S1x128 .f32) : FVec Ideal S1x128 .f32 :=
  maximumf m (shapeCast S1x128
    (multiReduction .maximumf [0] S128 s 0xFF800000#32 reduces_S256x128_S128 (.inl rfl) rfl) shapeCasts_S128_S1x128)

/-- Half of a tile's exponentials. -/
def halfP (s : FVec Ideal S256x128 .f32) (m : FVec Ideal S1x128 .f32) : FVec Ideal S256x128 .f32 :=
  exp (subf s (broadcastTo S256x128 (halfM s m) broadcasts_S1x128_S256x128))

/-- Half of a head's row of sums after the tile. -/
def halfL (s : FVec Ideal S256x128 .f32) (m l : FVec Ideal S1x128 .f32) : FVec Ideal S1x128 .f32 :=
  addf (mulf (exp (subf m (halfM s m))) l) (shapeCast S1x128
    (multiReduction .add [0] S128 (halfP s m) 0x00000000#32 reduces_S256x128_S128 (.inl rfl) rfl) shapeCasts_S128_S1x128)

/-- The left half of a head's row. -/
abbrev left (m : FVec Ideal S1x1x256 .f32) : FVec Ideal S1x128 .f32 :=
  extractStridedSlice S1x128 ![0, 0] (shapeCast S1x256 m shapeCasts_S1x1x256_S1x256) slices_S1x256_o0_0_S1x128

/-- The right half of a head's row. -/
abbrev right (m : FVec Ideal S1x1x256 .f32) : FVec Ideal S1x128 .f32 :=
  extractStridedSlice S1x128 ![0, 128] (shapeCast S1x256 m shapeCasts_S1x1x256_S1x256) slices_S1x256_o0_128_S1x128

/-- The two halves side by side. -/
abbrev both (x y : FVec Ideal S1x128 .f32) : FVec Ideal S1x256 .f32 :=
  concatenate S1x256 1 [⟨S1x128, x⟩, ⟨S1x128, y⟩] concatenates_S1x128_S1x128_S1x256_d1

/-- A head's row of maxima after the tile. -/
def headM (s t : FVec Ideal S256x128 .f32) (m : FVec Ideal S1x1x256 .f32) : FVec Ideal S1x1x256 .f32 :=
  shapeCast S1x1x256 (both (halfM s (left m)) (halfM t (right m))) shapeCasts_S1x256_S1x1x256

/-- A head's row of sums after the tile. -/
def headL (s t : FVec Ideal S256x128 .f32) (m l : FVec Ideal S1x1x256 .f32) : FVec Ideal S1x1x256 .f32 :=
  shapeCast S1x1x256 (both (halfL s (left m) (left l)) (halfL t (right m) (right l))) shapeCasts_S1x256_S1x1x256

/-- The factor the tile puts on what a head has added up before it. -/
def headF (s t : FVec Ideal S256x128 .f32) (m : FVec Ideal S1x1x256 .f32) : FVec Ideal S1x256 .f32 :=
  both (exp (subf (left m) (halfM s (left m)))) (exp (subf (right m) (halfM t (right m))))

/-- Half of a tile's exponentials, as stored. -/
def halfS (s : FVec Ideal S256x128 .f32) (m : FVec Ideal S1x128 .f32) : FVec Ideal S1x256x128 .bf16 :=
  shapeCast S1x256x128 (shapeCast S256x128 (truncf .bf16 (halfP s m) bitsLt_bf16_f32) shapeCasts_S256x128_S256x128)
    shapeCasts_S256x128_S1x256x128

/-- A head's weighted sum of the values after the tile. -/
def headA (f : FVec Ideal S1x256 .f32) (acc : FVec Ideal S1x64x256 .f32) (vt : FVec Ideal S64x256 .bf16)
    (p : FVec Ideal S1x256x256 .bf16) : FVec Ideal S1x64x256 .f32 :=
  shapeCast S1x64x256 (addf (mulf (broadcastTo S64x256 f broadcasts_S1x256_S64x256)
      (shapeCast S64x256 acc shapeCasts_S1x64x256_S64x256))
    (matmul (φ₁ := .bf16) (φ₂ := .bf16) dot_S64x256_S256x256_S64x256_1_0_0_1_n_n none (shapeCast S64x256 vt shapeCasts_S64x256_S64x256)
      (shapeCast S256x256 p shapeCasts_S1x256x256_S256x256) (constant S64x256 .f32 0x00000000#32)))
    shapeCasts_S64x256_S1x64x256

/-- The scores of a head's two halves as one function of key and query. -/
def joined (s t : FVec Ideal S256x128 .f32) (k q : Fin 256) : EReal :=
  if h : q.val < 128 then s (ix2 k ⟨q.val, h⟩) else t (ix2 k ⟨q.val - 128, by have := q.isLt; omega⟩)

/-- One element of the products. -/
theorem scores_apply (kr qz o ho) (k : Fin 256) (q : Fin 1024) (hl : o ≤ 256) : scores kr qz o ho (ix2 k q)
    = ∑ j : Fin 256, kr (ix2 k ⟨o + j.val, by have := j.isLt; omega⟩) * qz (ix3 0 j q) := by
  pointwise [scores]

/-- One element of half of a head's scores. -/
theorem half_apply (s o ho dr dc) (k : Fin 256) (q : Fin 128) (hl : o ≤ 896) : half s o ho dr dc (ix2 k q)
    = s (ix2 k ⟨o + q.val, by have := q.isLt; omega⟩) + dr (ix4 0 0 0 q) - dc (ix4 0 0 k 0) := by
  pointwise [half]

/-- The word that starts a running maximum is minus infinity. -/
theorem least : Ideal.ofBits .f32 0xFF800000#32 = ⊥ := by
  simp [Ideal.ofBits, Ideal.ieee]

/-- A running maximum from minus infinity is the supremum. -/
theorem fold_least (f : Fin 256 → EReal) :
    Finset.univ.fold max (Ideal.ofBits FTy.f32 4286578688#32) f = Finset.univ.sup f := by
  rw [least]; rfl

/-- One element of half of the row of maxima. -/
theorem halfM_apply (s m) (q : Fin 128) : halfM s m (ix2 0 q)
    = max (m (ix2 0 q)) (Finset.univ.sup fun k : Fin 256 => s (ix2 k q)) := by
  rw [← fold_least]; pointwise [halfM]

/-- One of the tile's exponentials. -/
theorem halfP_apply (s m) (k : Fin 256) (q : Fin 128) :
    halfP s m (ix2 k q) = Ideal.exp (s (ix2 k q) - halfM s m (ix2 0 q)) := by
  pointwise [halfP]

/-- One element of half of the row of sums. -/
theorem halfL_apply (s m l) (q : Fin 128) : halfL s m l (ix2 0 q)
    = Ideal.exp (m (ix2 0 q) - halfM s m (ix2 0 q)) * l (ix2 0 q)
      + ∑ k : Fin 256, Ideal.exp (s (ix2 k q) - halfM s m (ix2 0 q)) := by
  pointwise [halfL, halfP]

/-- One of the stored exponentials. -/
theorem halfS_apply (s m) (k : Fin 256) (q : Fin 128) : halfS s m (ix3 0 k q) = halfP s m (ix2 k q) := by
  pointwise [halfS]

/-- One element of the left half of a row. -/
theorem left_apply (m) (q : Fin 128) : left m (ix2 0 q) = m (ix3 0 0 ⟨q.val, by have := q.isLt; omega⟩) := by
  pointwise [left]

/-- One element of the right half of a row. -/
theorem right_apply (m) (q : Fin 128) : right m (ix2 0 q) = m (ix3 0 0 ⟨128 + q.val, by have := q.isLt; omega⟩) := by
  pointwise [right]

/-- One element of two halves side by side. -/
theorem both_apply (x y) (q : Fin 256) : both x y (ix2 0 q)
    = if h : q.val < 128 then x (ix2 0 ⟨q.val, h⟩) else y (ix2 0 ⟨q.val - 128, by have := q.isLt; omega⟩) := by
  pointwise [both]

/-- One element of a head's row of maxima. -/
theorem headM_apply (s t m) (q : Fin 256) : headM s t m (ix3 0 0 q)
    = max (m (ix3 0 0 q)) (Finset.univ.sup fun k : Fin 256 => joined s t k q) := by
  have e : headM s t m (ix3 0 0 q) = both (halfM s (left m)) (halfM t (right m)) (ix2 0 q) := by
    pointwise [headM]
  rw [e, both_apply]; unfold joined
  split
  · rename_i h; simp only [halfM_apply, left_apply, h]
  · rename_i h; simp only [halfM_apply, right_apply, h]
    rw [show (⟨128 + (q.val - 128), _⟩ : Fin 256) = q from Fin.ext (by simp only; omega)]

/-- One element of a head's row of sums. -/
theorem headL_apply (s t m l) (q : Fin 256) : headL s t m l (ix3 0 0 q)
    = Ideal.exp (m (ix3 0 0 q) - headM s t m (ix3 0 0 q)) * l (ix3 0 0 q)
      + ∑ k : Fin 256, Ideal.exp (joined s t k q - headM s t m (ix3 0 0 q)) := by
  have e : headL s t m l (ix3 0 0 q) = both (halfL s (left m) (left l)) (halfL t (right m) (right l)) (ix2 0 q) := by
    pointwise [headL]
  rw [e, both_apply]; simp only [headM_apply]; unfold joined
  split
  · rename_i h; simp only [halfL_apply, halfM_apply, left_apply, h]
  · rename_i h; simp only [halfL_apply, halfM_apply, right_apply, h]
    rw [show (⟨128 + (q.val - 128), _⟩ : Fin 256) = q from Fin.ext (by simp only; omega)]

/-- One of a head's factors. -/
theorem headF_apply (s t m) (q : Fin 256) : headF s t m (ix2 0 q)
    = Ideal.exp (m (ix3 0 0 q) - headM s t m (ix3 0 0 q)) := by
  have el : ∀ (x y : FVec Ideal S1x128 .f32) (q : Fin 128), exp (subf x y) (ix2 0 q) = Ideal.exp (x (ix2 0 q) - y (ix2 0 q)) :=
    fun x y q => by pointwise
  unfold headF
  rw [both_apply]; simp only [headM_apply, el]; unfold joined
  split
  · rename_i h; simp only [halfM_apply, left_apply, h]
  · rename_i h; simp only [halfM_apply, right_apply, h]
    rw [show (⟨128 + (q.val - 128), _⟩ : Fin 256) = q from Fin.ext (by simp only; omega)]

/-- The stored exponentials of a head's left half, by key and query. -/
theorem halfS_left (s t m) (k q : Fin 256) (h : q.val < 128) : halfS s (left m) (ix3 0 k ⟨q.val, h⟩)
    = Ideal.exp (joined s t k q - headM s t m (ix3 0 0 q)) := by
  rw [halfS_apply, halfP_apply]; simp only [headM_apply]; unfold joined
  simp only [halfM_apply, left_apply, h]; rfl

/-- The stored exponentials of a head's right half, by key and query. -/
theorem halfS_right (s t m) (k q : Fin 256) (h : ¬ q.val < 128) :
    halfS t (right m) (ix3 0 k ⟨q.val - 128, by have := q.isLt; omega⟩)
    = Ideal.exp (joined s t k q - headM s t m (ix3 0 0 q)) := by
  rw [halfS_apply, halfP_apply]; simp only [headM_apply]; unfold joined
  simp only [halfM_apply, right_apply, h]
  rw [show (⟨128 + (q.val - 128), _⟩ : Fin 256) = q from Fin.ext (by simp only; omega)]; rfl

/-- One element of a head's weighted sum. -/
theorem headA_apply (f acc vt p) (d : Fin 64) (q : Fin 256) : headA f acc vt p (ix3 0 d q)
    = f (ix2 0 q) * acc (ix3 0 d q) + ∑ k : Fin 256, vt (ix2 d k) * p (ix3 0 k q) := by
  pointwise [headA]

end Cert.FoxIdeal.Hand
-- ==== Proof.FoxPieces.lean ====
/- The pieces one tile of keys leaves in the attention kernel's scratch buffers, head by head, and what they read as. -/
module

public import proofs.«01_k».proof.Proof.FoxHead

@[expose] public section

set_option maxRecDepth 16384

noncomputable section

open Idealize.ShloMosaic Idealize.ShloMosaic.TcCoe Idealize.SL.Sem

namespace Cert.FoxIdeal.Hand

open Cert.FoxIdeal Cert.FoxIdeal.Gen

/-- Head `a`'s row of the maxima and of the sums lies in its buffer. -/
theorem inRow (a : Fin 8) : ∀ x : Fin 3, ![a.val, 0, 0] x + S1x1x256.size x ≤ S8x1x256.size x := by
  revert a; decide
/-- Head `a`'s weighted sum lies in its buffer. -/
theorem inAcc (a : Fin 8) : ∀ x : Fin 3, ![a.val, 0, 0] x + S1x64x256.size x ≤ S8x64x256.size x := by
  revert a; decide
/-- Four heads' queries lie in their buffer. -/
theorem inQuery (b : Fin 2) : ∀ x : Fin 3, ![b.val, 0, 0] x + S1x256x1024.size x ≤ S2x256x1024.size x := by
  revert b; decide
/-- A head's exponentials lie in their buffer. -/
theorem inProb (a : Fin 8) : ∀ x : Fin 3, ![a.val / 4, 0, a.val % 4 * 256] x + S1x256x256.size x ≤ S2x256x1024.size x := by
  revert a; decide
/-- Half of a head's exponentials lies in their buffer. -/
theorem inHalf (a : Fin 8) (z : Fin 2) : ∀ x : Fin 3, ![a.val / 4, 0, a.val % 4 * 256 + z.val * 128] x + S1x256x128.size x ≤ S2x256x1024.size x := by
  revert a z; decide
/-- Half of a head's query decays lies in its buffer. -/
theorem inDecay (a : Fin 16) : ∀ x : Fin 4, ![0, 0, a.val / 2, a.val % 2 * 128] x + S1x1x1x128.size x ≤ S1x1x8x256.size x := by
  revert a; decide
/-- A tile of keys lies in the array. -/
theorem inKeys {n : ℕ} (h : n + 256 ≤ 4096) : ∀ x : Fin 2, ![n, 0] x + S256x512.size x ≤ S4096x512.size x := by
  intro x; match x with | 0 => exact h | 1 => exact le_refl 512
/-- A head's key decays lie in the array. -/
theorem inKeyDecay {n : ℕ} (h : n + 256 ≤ 4096) (a : Fin 8) :
    ∀ x : Fin 4, ![0, 0, n, a.val] x + S1x1x256x1.size x ≤ S1x1x4096x8.size x := by
  intro x; match x with | 0 => exact le_refl 1 | 1 => exact le_refl 1 | 2 => exact h | 3 => exact a.isLt
/-- A head's values lie in the array. -/
theorem inVals {n : ℕ} (h : n + 256 ≤ 4096) (a : Fin 8) :
    ∀ x : Fin 2, ![64 * a.val, n] x + S64x256.size x ≤ S512x4096.size x := by
  intro x; match x with | 0 => exact (by decide : ∀ a : Fin 8, 64 * a.val + 64 ≤ 512) a | 1 => exact h
/-- The columns of four heads lie in a tile of keys. -/
theorem cutBlock (b : Fin 2) : S256x512.Slices ![0, 256 * b.val] S256x256 := by
  revert b; decide
/-- Half of a head's row lies in it. -/
theorem cutRow (z : Fin 2) : S1x256.Slices ![0, z.val * 128] S1x128 := by
  revert z; decide
/-- The columns of half a head lie in the products. -/
theorem cutHalf (a : Fin 8) : S256x1024.Slices ![0, 128 * a.val] S256x128 := by
  revert a; decide

/-- The block of four heads that head `a` is in. -/
abbrev blockOf (a : Fin 8) : Fin 2 := ⟨a.val / 4, by have := a.isLt; omega⟩

/-- The half-heads of head `a` in the products of its block. -/
abbrev slot (a : Fin 8) (z : Fin 2) : Fin 8 := ⟨a.val % 4 * 2 + z.val, by have := z.isLt; omega⟩

/-- The half-heads of head `a` among all. -/
abbrev place (a : Fin 8) (z : Fin 2) : Fin 16 := ⟨a.val * 2 + z.val, by have := z.isLt; omega⟩

section Pieces

variable (S : Fin 8 → Fin 2 → FVec Ideal S256x128 .f32) (M L : Fin 8 → FVec Ideal S1x1x256 .f32)
  (A : Fin 8 → FVec Ideal S1x64x256 .f32) (V : Fin 8 → FVec Ideal S64x256 .bf16) (P : Fin 8 → FVec Ideal S1x256x256 .bf16)

/-- The heads' rows of maxima, as stored. -/
def maxPieces : List (View.Piece (Elt Ideal) S8x1x256 .f32) :=
  ([7, 6, 5, 4, 3, 2, 1, 0] : List (Fin 8)).map fun a =>
    ⟨Rect.unit ![a.val, 0, 0] S1x1x256.size (inRow a), headM (S a 0) (S a 1) (M a)⟩

/-- The heads' rows of sums, as stored. -/
def sumPieces : List (View.Piece (Elt Ideal) S8x1x256 .f32) :=
  ([7, 6, 5, 4, 3, 2, 1, 0] : List (Fin 8)).map fun a =>
    ⟨Rect.unit ![a.val, 0, 0] S1x1x256.size (inRow a), headL (S a 0) (S a 1) (M a) (L a)⟩

/-- The heads' weighted sums, as stored. -/
def accPieces : List (View.Piece (Elt Ideal) S8x64x256 .f32) :=
  ([7, 6, 5, 4, 3, 2, 1, 0] : List (Fin 8)).map fun a =>
    ⟨Rect.unit ![a.val, 0, 0] S1x64x256.size (inAcc a), headA (headF (S a 0) (S a 1) (M a)) (A a) (V a) (P a)⟩

/-- The half-heads' exponentials, as stored. -/
def probPieces : List (View.Piece (Elt Ideal) S2x256x1024 .bf16) :=
  ([(7, 1), (7, 0), (6, 1), (6, 0), (5, 1), (5, 0), (4, 1), (4, 0), (3, 1), (3, 0), (2, 1), (2, 0), (1, 1), (1, 0), (0, 1), (0, 0)] :
    List (Fin 8 × Fin 2)).map fun b => ⟨Rect.unit ![b.1.val / 4, 0, b.1.val % 4 * 256 + b.2.val * 128] S1x256x128.size (inHalf b.1 b.2),
      halfS (S b.1 b.2) (extractStridedSlice S1x128 ![0, b.2.val * 128]
        (shapeCast S1x256 (M b.1) shapeCasts_S1x1x256_S1x256) (cutRow b.2))⟩

/-- Head `a`'s exponentials, read back. -/
def probOf (v : View sig .tc .vmem S2x256x1024 .bf16) (a : Fin 8) : FVec Ideal S1x256x256 .bf16 :=
  v.readCov (probPieces S M) (Rect.unit (s := S2x256x1024) ![a.val / 4, 0, a.val % 4 * 256] S1x256x256.size (inProb a)).toLoadRect

/-- Head `a`'s exponential at a key and a query. -/
def probHead (a : Fin 8) (k q : Fin 256) : EReal :=
  Ideal.exp (joined (S a 0) (S a 1) k q - headM (S a 0) (S a 1) (M a) (ix3 0 0 q))

/-- The exponential at an index of their buffer. -/
def probAt (y : S2x256x1024.Idx) : EReal :=
  probHead S M ⟨(y 0).val * 4 + (y 2).val / 256, by
    have h0 : (y 0).val < 2 := (y 0).isLt; have h2 : (y 2).val < 1024 := (y 2).isLt; omega⟩ (y 1)
    ⟨(y 2).val % 256, Nat.mod_lt _ (by decide)⟩

/-- The exponential at an index, by its head and query. -/
theorem probAt_eq (b : Fin 2) (k : Fin 256) (c : Fin 1024) (a : Fin 8) (q : Fin 256)
    (ha : b.val * 4 + c.val / 256 = a.val) (hq : c.val % 256 = q.val) : probAt S M (ix3 b k c) = probHead S M a k q :=
  congrArg₂ (fun a q => probHead S M a k q) (Fin.ext ha) (Fin.ext hq)

/-- Each stored half holds its part of the exponentials. -/
theorem prob_stored : ∀ p ∈ probPieces S M, ∀ x : p.1.shape.Idx, p.2 x = probAt S M (p.1.emb x) := by
  intro p hp x
  obtain ⟨⟨a, z⟩, -, rfl⟩ := List.mem_map.mp hp
  obtain ⟨k, q, rfl⟩ : ∃ (k : Fin 256) (q : Fin 128), x = ix3 0 k q := ⟨x 1, x 2, by
    funext z
    match z with
    | 0 => exact Subsingleton.elim (α := Fin 1) _ _
    | 1 => rfl
    | 2 => rfl⟩
  have ha := a.isLt
  have hz := z.isLt
  have hq := q.isLt
  have hv : (Rect.unit (s := S2x256x1024) ![a.val / 4, 0, a.val % 4 * 256 + z.val * 128] S1x256x128.size (inHalf a z)).emb (ix3 0 k q)
      = ix3 (⟨a.val / 4, by omega⟩ : Fin 2) k (⟨a.val % 4 * 256 + z.val * 128 + q.val, by omega⟩ : Fin 1024) := by
    funext x
    refine Fin.ext ?_
    match x with
    | 0 => show a.val / 4 + 1 * 0 = a.val / 4; omega
    | 1 => show 0 + 1 * k.val = k.val; omega
    | 2 => show a.val % 4 * 256 + z.val * 128 + 1 * q.val = a.val % 4 * 256 + z.val * 128 + q.val; omega
  refine Eq.trans ?_ (congrArg (probAt S M) hv).symm
  refine Eq.trans ?_ (probAt_eq S M _ k _ a ⟨z.val * 128 + q.val, by omega⟩ (by simp only; omega) (by simp only; omega)).symm
  unfold probHead
  obtain rfl | rfl : z = 0 ∨ z = 1 := by clear hv hp hz; revert z; decide
  · refine Eq.trans ?_ (halfS_left (S a 0) (S a 1) (M a) k _ (by show (0 : ℕ) * 128 + q.val < 128; omega))
    exact congrArg (fun r => halfS (S a 0) (left (M a)) (ix3 0 k r)) (Fin.ext (by show q.val = 0 * 128 + q.val; omega))
  · refine Eq.trans ?_ (halfS_right (S a 0) (S a 1) (M a) k _ (by show ¬ (1 : ℕ) * 128 + q.val < 128; omega))
    exact congrArg (fun r => halfS (S a 1) (right (M a)) (ix3 0 k r)) (Fin.ext (by show q.val = 1 * 128 + q.val - 128; omega))

/-- The exponentials read back for one head. -/
theorem probOf_apply (v : View sig .tc .vmem S2x256x1024 .bf16) (a : Fin 8) (k q : Fin 256) : probOf S M v a (ix3 0 k q)
    = Ideal.exp (joined (S a 0) (S a 1) k q - headM (S a 0) (S a 1) (M a) (ix3 0 0 q)) := by
  have ha := a.isLt
  have hq := q.isLt
  have hv : (Rect.unit (s := S2x256x1024) ![a.val / 4, 0, a.val % 4 * 256] S1x256x256.size (inProb a)).toLoadRect.idx (ix3 0 k q)
      = ix3 (⟨a.val / 4, by omega⟩ : Fin 2) k (⟨a.val % 4 * 256 + q.val, by omega⟩ : Fin 1024) := by
    funext x
    refine Fin.ext ?_
    match x with
    | 0 => show a.val / 4 + 1 * 0 = a.val / 4; omega
    | 1 => show 0 + 1 * k.val = k.val; omega
    | 2 => show a.val % 4 * 256 + 1 * q.val = a.val % 4 * 256 + q.val; omega
  have hr := probAt_eq S M ⟨a.val / 4, by omega⟩ k ⟨a.val % 4 * 256 + q.val, by omega⟩ a q (by simp only; omega) (by simp only; omega)
  refine Eq.trans ?_ hr
  have hc : ∀ y, (∃ p ∈ probPieces S M, y ∈ p.1.set) → y = (ix3 (⟨a.val / 4, by omega⟩ : Fin 2) k (⟨a.val % 4 * 256 + q.val, by omega⟩ : Fin 1024) : S2x256x1024.Idx)
      → v.read (Elt Ideal) (v.writes (Elt Ideal) v.junk (probPieces S M)) y = probAt S M (ix3 (⟨a.val / 4, by omega⟩ : Fin 2) k (⟨a.val % 4 * 256 + q.val, by omega⟩ : Fin 1024)) :=
    fun y hy e => e ▸ View.read_writes_apply_of_pieces v v.junk (probAt S M) _ (prob_stored S M) y hy
  refine hc _ ?_ hv
  rw [hv]
  have hz : q.val / 128 < 2 := by omega
  refine ⟨_, List.mem_map.mpr ⟨(a, ⟨q.val / 128, hz⟩), ?_, rfl⟩, ?_⟩
  · generalize (⟨q.val / 128, hz⟩ : Fin 2) = z
    clear hc hr hv ha
    revert a z; decide
  · show _ ∈ (Rect.unit (s := S2x256x1024) ![a.val / 4, 0, a.val % 4 * 256 + q.val / 128 * 128] S1x256x128.size (inHalf a ⟨q.val / 128, hz⟩)).set
    rw [Rect.mem_set_unit]
    intro x
    match x with
    | 0 => exact ⟨by show a.val / 4 ≤ a.val / 4; omega, by show a.val / 4 < a.val / 4 + 1; omega⟩
    | 1 => exact ⟨Nat.zero_le _, by show k.val < 0 + 256; have := k.isLt; omega⟩
    | 2 => exact ⟨by show a.val % 4 * 256 + q.val / 128 * 128 ≤ a.val % 4 * 256 + q.val; omega,
        by show a.val % 4 * 256 + q.val < a.val % 4 * 256 + q.val / 128 * 128 + 128; omega⟩

end Pieces

/-- What eight heads' pieces leave, one head's slice each, reads as the slice stored. -/
theorem read_heads {m n : ℕ} {e : EltTy} (v : View sig .tc .vmem ⟨3, ![8, m, n]⟩ e) (f : v.ty.Contents (Elt Ideal))
    (inb : ∀ a : Fin 8, ∀ x : Fin 3, ![a.val, 0, 0] x + ![1, m, n] x ≤ ![8, m, n] x)
    (w : Fin 8 → (⟨3, ![1, m, n]⟩ : Shape).Idx → Elt Ideal e) (a : Fin 8) (d : Fin m) (q : Fin n) :
    v.read (Elt Ideal) (v.writes (Elt Ideal) f (([7, 6, 5, 4, 3, 2, 1, 0] : List (Fin 8)).map fun a =>
      (⟨Rect.unit (s := ⟨3, ![8, m, n]⟩) ![a.val, 0, 0] ![1, m, n] (inb a), w a⟩ : View.Piece (Elt Ideal) ⟨3, ![8, m, n]⟩ e)))
      (ix3 a d q) = w a (ix3 0 d q) := by
  refine View.read_writes_apply_of_pieces v f (fun y => w (y 0) (ix3 0 (y 1) (y 2))) _ ?_ (ix3 a d q) ?_
  · intro p hp x
    obtain ⟨b, -, rfl⟩ := List.mem_map.mp hp
    have e0 : (Rect.unit (s := ⟨3, ![8, m, n]⟩) ![b.val, 0, 0] ![1, m, n] (inb b)).emb x 0 = b := by
      have hx : (x 0).val = 0 := by have : (x 0).val < 1 := (x 0).isLt; omega
      refine Fin.ext ?_
      show b.val + 1 * (x 0).val = b.val
      omega
    have e1 : (Rect.unit (s := ⟨3, ![8, m, n]⟩) ![b.val, 0, 0] ![1, m, n] (inb b)).emb x 1 = x 1 := by
      refine Fin.ext ?_
      show 0 + 1 * (x 1).val = (x 1).val
      omega
    have e2 : (Rect.unit (s := ⟨3, ![8, m, n]⟩) ![b.val, 0, 0] ![1, m, n] (inb b)).emb x 2 = x 2 := by
      refine Fin.ext ?_
      show 0 + 1 * (x 2).val = (x 2).val
      omega
    have ex : x = ix3 0 (x 1) (x 2) := by
      funext z
      match z with
      | 0 => exact Subsingleton.elim (α := Fin 1) _ _
      | 1 => rfl
      | 2 => rfl
    show w b x = _
    refine (congrArg (w b) ex).trans ?_
    show _ = w ((Rect.unit (s := ⟨3, ![8, m, n]⟩) ![b.val, 0, 0] ![1, m, n] (inb b)).emb x 0) (ix3 0 _ _)
    rw [e0, e1, e2]; rfl
  · refine ⟨_, List.mem_map.mpr ⟨a, ?_, rfl⟩, ?_⟩
    · revert a; decide
    · show ix3 a d q ∈ (Rect.unit (s := ⟨3, ![8, m, n]⟩) ![a.val, 0, 0] ![1, m, n] (inb a)).set
      rw [Rect.mem_set_unit]
      intro x
      match x with
      | 0 => exact ⟨le_refl _, Nat.lt_succ_self _⟩
      | 1 => exact ⟨Nat.zero_le _, by show d.val < 0 + m; have := d.isLt; omega⟩
      | 2 => exact ⟨Nat.zero_le _, by show q.val < 0 + n; have := q.isLt; omega⟩

end Cert.FoxIdeal.Hand
-- ==== Proof.FoxTrip.lean ====
/- One trip of the idealized attention kernel's loop: the pieces it stores, head by head. -/
module

public import proofs.«01_k».proof.Proof.FoxPieces

@[expose] public section

set_option maxRecDepth 16384

noncomputable section

open Idealize.ShloMosaic Idealize.ShloMosaic.TcCoe Idealize.SL.Sem

namespace Cert.FoxIdeal.Hand

open Cert.FoxIdeal Cert.FoxIdeal.Gen

/-- A key of the tile at `n`. -/
def key {n : ℕ} (h : n + 256 ≤ 4096) : Fin 256 ↪ Fin 4096 :=
  ⟨fun k => ⟨n + k.val, by have := k.isLt; omega⟩, fun x y e => Fin.ext (by have := congrArg Fin.val e; simp only at this; omega)⟩

/-- A row of head `a`'s values. -/
abbrev feature (a : Fin 8) (d : Fin 64) : Fin 512 := ⟨64 * a.val + d.val, by have := a.isLt; have := d.isLt; omega⟩

/-- Head `a`'s score of a key for a query of the tile of queries. -/
def keyScore (K : FVec Ideal S4096x512 .bf16) (dr : FVec Ideal S1x1x8x256 .f32) (dc : FVec Ideal S1x1x4096x8 .f32)
    (Q : Fin 2 → FVec Ideal S1x256x1024 .bf16) (a : Fin 8) (q : Fin 256) (r : Fin 4096) : EReal :=
  ∑ j : Fin 256, K (ix2 r ⟨256 * (a.val / 4) + j.val, by have := a.isLt; have := j.isLt; omega⟩)
    * Q (blockOf a) (ix3 0 j ⟨256 * (a.val % 4) + q.val, by have := q.isLt; omega⟩) + dr (ix4 0 0 a q) - dc (ix4 0 0 r a)

section Reads

variable (arg4 : Memref sig .tc .vmem S4096x512 .bf16) (arg5 : Memref sig .tc .vmem S512x4096 .bf16) (arg6 : Memref sig .tc .vmem S1x1x8x256 .f32) (arg7 : Memref sig .tc .vmem S1x1x4096x8 .f32) (arg10 : Memref sig .tc .vmem S8x1x256 .f32) (arg11 : Memref sig .tc .vmem S8x1x256 .f32) (arg12 : Memref sig .tc .vmem S8x64x256 .f32)
  (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (f10 : BufTy.Contents (Elt Ideal) arg10.view.ty) (f11 : BufTy.Contents (Elt Ideal) arg11.view.ty) (f12 : BufTy.Contents (Elt Ideal) arg12.view.ty)
  (Q : Fin 2 → FVec Ideal S1x256x1024 .bf16) {n : ℕ} (h : n + 256 ≤ 4096)

/-- Head `a`'s row of a buffer of rows. -/
abbrev rowOf (a : Fin 8) : FVec Ideal S1x1x256 .f32 :=
  View.readAt (Elt Ideal) arg10.view (Rect.unit (s := S8x1x256) ![a.val, 0, 0] S1x1x256.size (inRow a)).toLoadRect f10

/-- Head `a`'s weighted sum. -/
abbrev accOf (a : Fin 8) : FVec Ideal S1x64x256 .f32 :=
  View.readAt (Elt Ideal) arg12.view (Rect.unit (s := S8x64x256) ![a.val, 0, 0] S1x64x256.size (inAcc a)).toLoadRect f12

/-- Head `a`'s values of the tile at `n`. -/
abbrev valsOf (a : Fin 8) : FVec Ideal S64x256 .bf16 :=
  View.readAt (Elt Ideal) arg5.view (Rect.unit (s := S512x4096) ![64 * a.val, n] S64x256.size (inVals h a)).toLoadRect X5

/-- Half of head `a`'s scores on the tile at `n`. -/
abbrev part (a : Fin 8) (z : Fin 2) : FVec Ideal S256x128 .f32 :=
  half (scores (View.readAt (Elt Ideal) arg4.view (Rect.unit (s := S4096x512) ![n, 0] S256x512.size (inKeys h)).toLoadRect X4)
      (Q (blockOf a)) (256 * (blockOf a).val) (cutBlock (blockOf a)))
    (128 * (slot a z).val) (cutHalf (slot a z))
    (View.readAt (Elt Ideal) arg6.view (Rect.unit (s := S1x1x8x256) ![0, 0, (place a z).val / 2, (place a z).val % 2 * 128] S1x1x1x128.size (inDecay (place a z))).toLoadRect X6)
    (View.readAt (Elt Ideal) arg7.view (Rect.unit (s := S1x1x4096x8) ![0, 0, n, a.val] S1x1x256x1.size (inKeyDecay h a)).toLoadRect X7)

/-- Head `a`'s row, by the buffer. -/
theorem rowOf_apply (a : Fin 8) (q : Fin 256) :
    rowOf arg10 f10 a (ix3 0 0 q) = arg10.view.read (Elt Ideal) f10 (ix3 a 0 q) := by
  refine (View.readAt_apply _ _ _).trans (congrArg _ ?_)
  funext x
  refine Fin.ext ?_
  match x with
  | 0 => show a.val + 1 * 0 = a.val; omega
  | 1 => rfl
  | 2 => show 0 + 1 * q.val = q.val; omega

/-- Head `a`'s weighted sum, by the buffer. -/
theorem accOf_apply (a : Fin 8) (d : Fin 64) (q : Fin 256) :
    accOf arg12 f12 a (ix3 0 d q) = arg12.view.read (Elt Ideal) f12 (ix3 a d q) := by
  refine (View.readAt_apply _ _ _).trans (congrArg _ ?_)
  funext x
  refine Fin.ext ?_
  match x with
  | 0 => show a.val + 1 * 0 = a.val; omega
  | 1 => show 0 + 1 * d.val = d.val; omega
  | 2 => show 0 + 1 * q.val = q.val; omega

/-- Head `a`'s values of the tile, by the array. -/
theorem valsOf_apply (a : Fin 8) (d : Fin 64) (k : Fin 256) :
    valsOf arg5 X5 h a (ix2 d k) = arg5.view.read (Elt Ideal) X5 (ix2 (feature a d) (key h k)) := by
  refine (View.readAt_apply _ _ _).trans (congrArg _ ?_)
  funext x
  refine Fin.ext ?_
  match x with
  | 0 => show 64 * a.val + 1 * d.val = 64 * a.val + d.val; omega
  | 1 => show n + 1 * k.val = n + k.val; omega

/-- One element of half of a head's scores. -/
theorem part_apply (a : Fin 8) (z : Fin 2) (k : Fin 256) (q : Fin 128) (p : Fin 256) (hp : p.val = 128 * z.val + q.val) :
    part arg4 arg6 arg7 X4 X6 X7 Q h a z (ix2 k q) = keyScore (arg4.view.read (Elt Ideal) X4)
      (arg6.view.read (Elt Ideal) X6) (arg7.view.read (Elt Ideal) X7) Q a p (key h k) := by
  have ha := a.isLt
  have hz := z.isLt
  have hq := q.isLt
  unfold part keyScore
  rw [half_apply _ _ _ _ _ _ _ (by show 128 * (a.val % 4 * 2 + z.val) ≤ 896; omega),
    scores_apply _ _ _ _ _ _ (by show 256 * (a.val / 4) ≤ 256; omega)]
  refine congrArg₂ (· - ·) (congrArg₂ (· + ·) (Finset.sum_congr rfl fun j _ => congrArg₂ (· * ·) ?_ (congrArg _ ?_)) ?_) ?_
  · refine (View.readAt_apply _ _ _).trans (congrArg _ ?_)
    funext x
    refine Fin.ext ?_
    match x with
    | 0 => show n + 1 * k.val = n + k.val; omega
    | 1 => show 0 + 1 * (256 * (a.val / 4) + j.val) = 256 * (a.val / 4) + j.val; omega
  · refine congrArg (ix3 0 j) (Fin.ext ?_)
    show 128 * (a.val % 4 * 2 + z.val) + q.val = 256 * (a.val % 4) + p.val
    omega
  · refine (View.readAt_apply _ _ _).trans (congrArg _ ?_)
    funext x
    refine Fin.ext ?_
    match x with
    | 0 => rfl
    | 1 => rfl
    | 2 => show (a.val * 2 + z.val) / 2 + 1 * 0 = a.val; omega
    | 3 => show (a.val * 2 + z.val) % 2 * 128 + 1 * q.val = p.val; omega
  · refine (View.readAt_apply _ _ _).trans (congrArg _ ?_)
    funext x
    refine Fin.ext ?_
    match x with
    | 0 => rfl
    | 1 => rfl
    | 2 => show n + 1 * k.val = n + k.val; omega
    | 3 => show a.val + 1 * 0 = a.val; omega

/-- A head's score of one key of the tile for one query. -/
theorem joined_part (a : Fin 8) (k q : Fin 256) :
    joined (part arg4 arg6 arg7 X4 X6 X7 Q h a 0) (part arg4 arg6 arg7 X4 X6 X7 Q h a 1) k q
      = keyScore (arg4.view.read (Elt Ideal) X4) (arg6.view.read (Elt Ideal) X6) (arg7.view.read (Elt Ideal) X7) Q a q (key h k) := by
  unfold joined
  split
  · exact part_apply arg4 arg6 arg7 X4 X6 X7 Q h a 0 k _ q (by show q.val = 128 * 0 + q.val; omega)
  · exact part_apply arg4 arg6 arg7 X4 X6 X7 Q h a 1 k _ q (by show q.val = 128 * 1 + (q.val - 128); omega)

end Reads

section Trip

variable (𝒱 : Variants) (c : Dev nD) (bd : Option 𝒱.V) (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S1x1x8x256 .f32) (harg6 : arg6.IsWhole) (arg7 : Memref sig .tc .vmem S1x1x4096x8 .f32) (harg7 : arg7.IsWhole) (arg8 : Memref sig .tc .vmem S256x512 .f32) (harg8 : arg8.IsWhole) (arg9 : Memref sig .tc .vmem S2x256x1024 .bf16) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x64x256 .f32) (harg12 : arg12.IsWhole) (arg13 : Memref sig .tc .vmem S2x256x1024 .bf16) (harg13 : arg13.IsWhole) (arg2 : BitVec 32) (v112 : BitVec 32) (v731 : FVec Ideal S1x256 .f32) (v818 : FVec Ideal S64x256 .bf16) (v822 : FVec Ideal S64x256 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg9 : BufTy.Contents (Elt Ideal) arg9.view.ty)  (k : Fin (k0_t1_loop i).trips)

/-- The first key of the trip's tile. -/
abbrev start : ℕ := k0_off18 i k 0

/-- The trip's tile lies in the array. -/
theorem start_le : start i k + 256 ≤ 4096 := k0_off18_inb i k 0

/-- The queries of a block of four heads. -/
abbrev query (b : Fin 2) : FVec Ideal S1x256x1024 .bf16 :=
  View.readAt (Elt Ideal) arg9.view (Rect.unit (s := S2x256x1024) ![b.val, 0, 0] S1x256x1024.size (inQuery b)).toLoadRect X_arg9

/-- Half of a head's scores on the trip's tile. -/
abbrev tripS (a : Fin 8) (z : Fin 2) : FVec Ideal S256x128 .f32 :=
  part arg4 arg6 arg7 X_arg4 X_arg6 X_arg7 (query arg9 X_arg9) (start_le i k) a z

/-- The trip's pieces of the maxima. -/
theorem trip_max f10 f11 f12 f13 : (trip_k0_t1 (F := Ideal) 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 k).1 f10 f11 f12 f13
    = maxPieces (tripS i arg4 arg6 arg7 arg9 X_arg4 X_arg6 X_arg7 X_arg9 k) (rowOf arg10 f10) := by
  unfold trip_k0_t1
  rfl

/-- The trip's pieces of the sums. -/
theorem trip_sum f10 f11 f12 f13 : (trip_k0_t1 (F := Ideal) 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 k).2.1 f10 f11 f12 f13
    = sumPieces (tripS i arg4 arg6 arg7 arg9 X_arg4 X_arg6 X_arg7 X_arg9 k) (rowOf arg10 f10) (rowOf arg11 f11) := by
  unfold trip_k0_t1
  rfl

/-- The trip's pieces of the weighted sums. -/
theorem trip_acc f10 f11 f12 f13 : (trip_k0_t1 (F := Ideal) 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 k).2.2.1 f10 f11 f12 f13
    = accPieces (tripS i arg4 arg6 arg7 arg9 X_arg4 X_arg6 X_arg7 X_arg9 k) (rowOf arg10 f10) (accOf arg12 f12)
      (valsOf arg5 X_arg5 (start_le i k))
      (probOf (tripS i arg4 arg6 arg7 arg9 X_arg4 X_arg6 X_arg7 X_arg9 k) (rowOf arg10 f10) arg13.view) := by
  unfold trip_k0_t1
  rfl

end Trip

end Cert.FoxIdeal.Hand
-- ==== Proof.FoxSoft.lean ====
/- The running softmax over the extended reals: a maximum, a sum of exponentials and a weighted sum kept over a growing
   set of keys are those of the whole set. -/
module

public import Idealize.ShloMosaic.Lib.Pipeline.ValueKit

@[expose] public section

noncomputable section

open Idealize.ShloMosaic

namespace Cert.FoxIdeal.Hand

/-- A nonnegative finite factor goes into a sum. -/
theorem mul_sum_of_finite {ι : Type*} (S : Finset ι) (f : ι → EReal) {c : EReal} (h0 : 0 ≤ c) (ht : c ≠ ⊤) :
    c * ∑ x ∈ S, f x = ∑ x ∈ S, c * f x := by
  classical
  induction S using Finset.induction_on with
  | empty => simp
  | insert a S ha ih =>
    rw [Finset.sum_insert ha, Finset.sum_insert ha, EReal.left_distrib_of_nonneg_of_ne_top h0 ht, ih]

/-- The exponential is nonnegative. -/
theorem exp_nonneg (x : EReal) : 0 ≤ Ideal.exp x := by
  induction x with
  | bot => exact le_refl _
  | top => exact le_top
  | coe r => exact EReal.coe_nonneg.mpr (Real.exp_pos r).le

/-- The exponential of a difference from something no smaller is finite. -/
theorem exp_sub_ne_top {x y : EReal} (h : x ≤ y) : Ideal.exp (x - y) ≠ ⊤ := by
  induction y with
  | bot => rw [le_bot_iff.mp h]; simp
  | top => simp
  | coe r =>
    induction x with
    | bot => simp
    | top => exact absurd h (by simp)
    | coe s => rw [← EReal.coe_sub, Ideal.exp_coe]; exact EReal.coe_ne_top _

/-- Two factors that move the maximum make one. -/
theorem exp_mul_exp {s M N : EReal} (hs : s ≤ M) (hM : M ≤ N) :
    Ideal.exp (M - N) * Ideal.exp (s - M) = Ideal.exp (s - N) := by
  induction N with
  | bot => rw [le_bot_iff.mp hM] at hs ⊢; rw [le_bot_iff.mp hs]; simp
  | top => simp
  | coe n =>
    induction M with
    | bot => rw [le_bot_iff.mp hs]; simp
    | top => exact absurd hM (by simp)
    | coe m =>
      induction s with
      | bot => simp
      | top => exact absurd hs (by simp)
      | coe r =>
        simp only [← EReal.coe_sub, Ideal.exp_coe, ← EReal.coe_mul, ← Real.exp_add]
        congr 2; ring

/-- The maximum `M`, the sum `L` of exponentials and the sum `A` of exponentials times `v` of the scores `s` over the
    keys `S`. -/
structure Soft (S : Finset (Fin 4096)) (s v : Fin 4096 → EReal) (M L A : EReal) : Prop where
  max : M = S.sup s
  sum : L = ∑ r ∈ S, Ideal.exp (s r - M)
  acc : A = ∑ r ∈ S, v r * Ideal.exp (s r - M)

/-- Over no keys. -/
theorem soft_empty (s v) : Soft ∅ s v ⊥ 0 0 := ⟨by simp, by simp, by simp⟩

/-- One more tile of keys. -/
theorem Soft.add {S s v M L A} (h : Soft S s v M L A) (e : Fin 256 ↪ Fin 4096) (hd : Disjoint S (Finset.univ.map e)) {N : EReal}
    (hN : N = Max.max M (Finset.univ.sup fun k => s (e k))) :
    Soft (S ∪ Finset.univ.map e) s v N
      (Ideal.exp (M - N) * L + ∑ k, Ideal.exp (s (e k) - N))
      (Ideal.exp (M - N) * A + ∑ k, v (e k) * Ideal.exp (s (e k) - N)) := by
  have hMN : M ≤ N := hN ▸ le_max_left _ _
  have h0 := exp_nonneg (M - N)
  have ht := exp_sub_ne_top hMN
  have hs : ∀ r ∈ S, s r ≤ M := fun r hr => h.max ▸ Finset.le_sup hr
  refine ⟨?_, ?_, ?_⟩
  · rw [hN, h.max, Finset.sup_union, Finset.sup_map]; rfl
  · rw [h.sum, mul_sum_of_finite _ _ h0 ht, Finset.sum_union hd, Finset.sum_map]
    refine congrArg (· + _) (Finset.sum_congr rfl fun r hr => exp_mul_exp (hs r hr) hMN)
  · rw [h.acc, mul_sum_of_finite _ _ h0 ht, Finset.sum_union hd, Finset.sum_map]
    refine congrArg (· + _) (Finset.sum_congr rfl fun r hr => ?_)
    rw [mul_left_comm, exp_mul_exp (hs r hr) hMN]

/-- Keys whose score is minus infinity count for nothing. -/
theorem Soft.univ {S s v M L A} (h : Soft S s v M L A) (hs : ∀ r ∉ S, s r = ⊥) : Soft Finset.univ s v M L A := by
  have h0 : ∀ r ∉ S, Ideal.exp (s r - M) = 0 := fun r hr => by rw [hs r hr]; simp
  refine ⟨?_, ?_, ?_⟩
  · rw [h.max]
    refine le_antisymm (Finset.sup_mono (Finset.subset_univ _)) (Finset.sup_le fun r _ => ?_)
    by_cases hr : r ∈ S
    · exact Finset.le_sup hr
    · rw [hs r hr]; exact bot_le
  · rw [h.sum]
    exact Finset.sum_subset (Finset.subset_univ _) fun r _ hr => h0 r hr
  · rw [h.acc]
    exact Finset.sum_subset (Finset.subset_univ _) fun r _ hr => by rw [h0 r hr, mul_zero]

/-- Dividing the weighted sum is weighting by the divided exponentials. -/
theorem div_sum {ι : Type*} (S : Finset ι) (v p : ι → EReal) {D : EReal} (hD : 0 < D) :
    Ideal.div (∑ r ∈ S, v r * p r) D = ∑ r ∈ S, Ideal.div (p r) D * v r := by
  have hi : 0 ≤ D⁻¹ := EReal.inv_nonneg_of_nonneg hD.le
  have ht : D⁻¹ ≠ ⊤ := by
    induction D with
    | bot => simp
    | top => simp
    | coe r => rw [← EReal.coe_inv]; exact EReal.coe_ne_top _
  unfold Ideal.div
  simp only [hD.ne', if_false]
  rw [mul_comm, mul_sum_of_finite _ _ hi ht]
  exact Finset.sum_congr rfl fun r _ => by rw [mul_comm, mul_assoc, mul_comm]

end Cert.FoxIdeal.Hand
-- ==== Proof.FoxLoop.lean ====
/- The attention kernel's loop: every trip takes its tile of keys into the running softmax of each head and query. -/
module

public import proofs.«01_k».proof.Proof.FoxTrip
public import proofs.«01_k».proof.Proof.FoxSoft

@[expose] public section

set_option maxRecDepth 16384

noncomputable section

open Idealize.ShloMosaic Idealize.ShloMosaic.TcCoe Idealize.SL.Sem

namespace Cert.FoxIdeal.Hand

open Cert.FoxIdeal Cert.FoxIdeal.Gen

/-- The three buffers hold the running softmax over the keys `S`, for each head and query. -/
def Holds (arg10 arg11 : View sig .tc .vmem S8x1x256 .f32) (arg12 : View sig .tc .vmem S8x64x256 .f32)
    (f10 : arg10.ty.Contents (Elt Ideal)) (f11 : arg11.ty.Contents (Elt Ideal)) (f12 : arg12.ty.Contents (Elt Ideal))
    (S : Finset (Fin 4096)) (s : Fin 8 → Fin 256 → Fin 4096 → EReal) (v : Fin 8 → Fin 64 → Fin 4096 → EReal) : Prop :=
  ∀ (a : Fin 8) (d : Fin 64) (q : Fin 256), Soft S (s a q) (v a d) (arg10.read (Elt Ideal) f10 (ix3 a 0 q))
    (arg11.read (Elt Ideal) f11 (ix3 a 0 q)) (arg12.read (Elt Ideal) f12 (ix3 a d q))

/-- Storing the eight heads' steps on a tile of keys adds the tile to what the buffers hold. -/
theorem holds_step (arg10 arg11 : View sig .tc .vmem S8x1x256 .f32) (arg12 : View sig .tc .vmem S8x64x256 .f32)
    (arg13 : View sig .tc .vmem S2x256x1024 .bf16) (f10 : arg10.ty.Contents (Elt Ideal)) (f11 : arg11.ty.Contents (Elt Ideal))
    (f12 : arg12.ty.Contents (Elt Ideal)) (T : Fin 8 → Fin 2 → FVec Ideal S256x128 .f32) (M L : Fin 8 → FVec Ideal S1x1x256 .f32)
    (A : Fin 8 → FVec Ideal S1x64x256 .f32) (V : Fin 8 → FVec Ideal S64x256 .bf16) {n : ℕ} (h : n + 256 ≤ 4096)
    {S : Finset (Fin 4096)} {s : Fin 8 → Fin 256 → Fin 4096 → EReal} {v : Fin 8 → Fin 64 → Fin 4096 → EReal}
    (hT : ∀ a k q, joined (T a 0) (T a 1) k q = s a q (key h k)) (hV : ∀ a d k, V a (ix2 d k) = v a d (key h k))
    (hS : ∀ r ∈ S, r.val < n ∨ n + 256 ≤ r.val)
    (hm : ∀ (a : Fin 8) (d : Fin 64) (q : Fin 256), Soft S (s a q) (v a d) (M a (ix3 0 0 q)) (L a (ix3 0 0 q)) (A a (ix3 0 d q))) :
    Holds arg10 arg11 arg12 (arg10.writes (Elt Ideal) f10 (maxPieces T M)) (arg11.writes (Elt Ideal) f11 (sumPieces T M L))
      (arg12.writes (Elt Ideal) f12 (accPieces T M A V (probOf T M arg13))) (S ∪ Finset.univ.map (key h)) s v := by
  intro a d q
  have hd : Disjoint S (Finset.univ.map (key h)) := by
    refine Finset.disjoint_left.mpr fun r hr hk => ?_
    obtain ⟨k, -, rfl⟩ := Finset.mem_map.mp hk
    have := k.isLt
    have hv : (key h k).val = n + k.val := rfl
    have := hS _ hr
    omega
  have e1 : arg10.read (Elt Ideal) (arg10.writes (Elt Ideal) f10 (maxPieces T M)) (ix3 a 0 q)
      = headM (T a 0) (T a 1) (M a) (ix3 0 0 q) := read_heads arg10 f10 inRow (fun a => headM (T a 0) (T a 1) (M a)) a 0 q
  have e2 : arg11.read (Elt Ideal) (arg11.writes (Elt Ideal) f11 (sumPieces T M L)) (ix3 a 0 q)
      = headL (T a 0) (T a 1) (M a) (L a) (ix3 0 0 q) := read_heads arg11 f11 inRow (fun a => headL (T a 0) (T a 1) (M a) (L a)) a 0 q
  have e3 : arg12.read (Elt Ideal) (arg12.writes (Elt Ideal) f12 (accPieces T M A V (probOf T M arg13))) (ix3 a d q)
      = headA (headF (T a 0) (T a 1) (M a)) (A a) (V a) (probOf T M arg13 a) (ix3 0 d q) :=
    read_heads arg12 f12 inAcc (fun a => headA (headF (T a 0) (T a 1) (M a)) (A a) (V a) (probOf T M arg13 a)) a d q
  have hN : headM (T a 0) (T a 1) (M a) (ix3 0 0 q) = max (M a (ix3 0 0 q)) (Finset.univ.sup fun k => s a q (key h k)) := by
    rw [headM_apply]; simp only [hT]
  have := (hm a d q).add (key h) hd hN
  rw [e1, e2, e3, headL_apply, headA_apply, headF_apply]
  simp only [probOf_apply, hT, hV]
  exact this

/-- The loop makes one trip per tile of keys before the queries' tile. -/
theorem trips (i : grid0.Coords) : (k0_t1_loop i).trips = (i 2).val := by
  have h : ∀ n : Fin 16, Scf.Loop.trips (w := 32) ⟨0#32, Scalar.addi 0#32 (Scalar.muli (Scalar.divsi (Scalar.subi (BitVec.ofNat 32 n.val) 0#32) 1#32) 1#32), 1#32⟩ = n.val := by
    decide +kernel
  exact h (i 2)

/-- Trip `k` takes tile `k`. -/
theorem start_eq (i : grid0.Coords) (k : Fin (k0_t1_loop i).trips) : start i k = 256 * k.val := by
  unfold start
  rw [k0_off18_eq]; rfl

/-- The keys of the queries' own tile and of the first `k` tiles. -/
def seen (i k : ℕ) : Finset (Fin 4096) :=
  Finset.univ.filter fun r => 256 * i ≤ r.val ∧ r.val < 256 * i + 256 ∨ r.val < 256 * k

/-- What that is, key by key. -/
theorem mem_seen {i k : ℕ} (r : Fin 4096) : r ∈ seen i k ↔ (256 * i ≤ r.val ∧ r.val < 256 * i + 256 ∨ r.val < 256 * k) := by
  simp [seen]

/-- One tile more. -/
theorem seen_succ (i k : ℕ) {n : ℕ} (h : n + 256 ≤ 4096) (hn : n = 256 * k) : seen i k ∪ Finset.univ.map (key h) = seen i (k + 1) := by
  ext r
  rw [Finset.mem_union, mem_seen, mem_seen, Finset.mem_map]
  constructor
  · rintro (hr | ⟨x, -, rfl⟩)
    · omega
    · have hv : (key h x).val = n + x.val := rfl
      have := x.isLt
      omega
  · intro hr
    by_cases hx : 256 * k ≤ r.val ∧ r.val < 256 * k + 256
    · exact .inr ⟨⟨r.val - 256 * k, by omega⟩, Finset.mem_univ _, Fin.ext (by show n + (r.val - 256 * k) = r.val; omega)⟩
    · exact .inl (by omega)

section Loop

variable (𝒱 : Variants) (c : Dev nD) (bd : Option 𝒱.V) (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S1x1x8x256 .f32) (harg6 : arg6.IsWhole) (arg7 : Memref sig .tc .vmem S1x1x4096x8 .f32) (harg7 : arg7.IsWhole) (arg8 : Memref sig .tc .vmem S256x512 .f32) (harg8 : arg8.IsWhole) (arg9 : Memref sig .tc .vmem S2x256x1024 .bf16) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x64x256 .f32) (harg12 : arg12.IsWhole) (arg13 : Memref sig .tc .vmem S2x256x1024 .bf16) (harg13 : arg13.IsWhole) (arg2 : BitVec 32) (v112 : BitVec 32) (v731 : FVec Ideal S1x256 .f32) (v818 : FVec Ideal S64x256 .bf16) (v822 : FVec Ideal S64x256 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg9 : BufTy.Contents (Elt Ideal) arg9.view.ty)  (k : Fin (k0_t1_loop i).trips)

/-- The pieces a trip adds to the buffers: of the maxima, the sums and the weighted sums. -/
abbrev pb (G10 : BufTy.Contents (Elt Ideal) arg10.view.ty) (G11 : BufTy.Contents (Elt Ideal) arg11.view.ty)
    (G12 : BufTy.Contents (Elt Ideal) arg12.view.ty) (G13 : BufTy.Contents (Elt Ideal) arg13.view.ty) (k : ℕ) :=
  pb_k0_t1 (F := Ideal) 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 G10 G11 G12 G13 k

/-- One trip. -/
theorem holds_trip f10 f11 f12 f13 {S : Finset (Fin 4096)} {s : Fin 8 → Fin 256 → Fin 4096 → EReal} {v : Fin 8 → Fin 64 → Fin 4096 → EReal}
    (hs : ∀ a q r, (key (start_le i k) r).val < 256 * (i 2).val → s a q (key (start_le i k) r) = keyScore (arg4.view.read (Elt Ideal) X_arg4) (arg6.view.read (Elt Ideal) X_arg6)
      (arg7.view.read (Elt Ideal) X_arg7) (query arg9 X_arg9) a q (key (start_le i k) r))
    (hv : ∀ a d r, v a d r = arg5.view.read (Elt Ideal) X_arg5 (ix2 (feature a d) r))
    (hk : start i k + 256 ≤ 256 * (i 2).val)
    (hS : ∀ r ∈ S, r.val < start i k ∨ start i k + 256 ≤ r.val)
    (hm : Holds arg10.view arg11.view arg12.view f10 f11 f12 S s v) :
    Holds arg10.view arg11.view arg12.view
      (arg10.view.writes (Elt Ideal) f10 ((trip_k0_t1 (F := Ideal) 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 k).1 f10 f11 f12 f13))
      (arg11.view.writes (Elt Ideal) f11 ((trip_k0_t1 (F := Ideal) 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 k).2.1 f10 f11 f12 f13))
      (arg12.view.writes (Elt Ideal) f12 ((trip_k0_t1 (F := Ideal) 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 k).2.2.1 f10 f11 f12 f13))
      (S ∪ Finset.univ.map (key (start_le i k))) s v := by
  rw [trip_max, trip_sum, trip_acc]
  refine holds_step arg10.view arg11.view arg12.view arg13.view f10 f11 f12 _ _ _ _ _ (start_le i k) (fun a r q => ?_)
    (fun a d r => ?_) hS fun a d q => ?_
  · rw [joined_part, hs]
    have hv : (key (start_le i k) r).val = start i k + r.val := rfl
    have := r.isLt
    omega
  · rw [valsOf_apply, hv]
  · rw [rowOf_apply, rowOf_apply, accOf_apply]
    exact hm a d q

omit k in
/-- The loop's pieces after `k` trips, added to the buffers as the loop finds them. -/
theorem holds_loop G10 G11 G12 G13 {s : Fin 8 → Fin 256 → Fin 4096 → EReal} {v : Fin 8 → Fin 64 → Fin 4096 → EReal}
    (hs : ∀ a q (r : Fin 4096), r.val < 256 * (i 2).val → s a q r = keyScore (arg4.view.read (Elt Ideal) X_arg4) (arg6.view.read (Elt Ideal) X_arg6)
      (arg7.view.read (Elt Ideal) X_arg7) (query arg9 X_arg9) a q r)
    (hv : ∀ a d r, v a d r = arg5.view.read (Elt Ideal) X_arg5 (ix2 (feature a d) r))
    (hm : Holds arg10.view arg11.view arg12.view G10 G11 G12 (seen (i 2).val 0) s v) :
    ∀ k : ℕ, k ≤ (i 2).val → Holds arg10.view arg11.view arg12.view
      (arg10.view.writes (Elt Ideal) G10 (pb 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 G10 G11 G12 G13 k).1)
      (arg11.view.writes (Elt Ideal) G11 (pb 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 G10 G11 G12 G13 k).2.1)
      (arg12.view.writes (Elt Ideal) G12 (pb 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 G10 G11 G12 G13 k).2.2.1)
      (seen (i 2).val k) s v
  | 0, _ => hm
  | k + 1, hk => by
    have ih := holds_loop G10 G11 G12 G13 hs hv hm k (by omega)
    have ht : k < (k0_t1_loop i).trips := by rw [trips]; omega
    have hk' := start_eq i ⟨k, ht⟩
    simp only at hk'
    have e : pb 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 G10 G11 G12 G13 (k + 1) = _ := pb_k0_t1_succ 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 G10 G11 G12 G13 ⟨k, ht⟩
    rw [e]
    dsimp only
    rw [View.writes_append, View.writes_append, View.writes_append]
    have := holds_trip 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 ⟨k, ht⟩ _ _ _ (arg13.view.writes (Elt Ideal) G13 (pb 𝒱 c bd i arg3 harg3 arg4 harg4 arg5 harg5 arg6 harg6 arg7 harg7 arg8 harg8 arg9 harg9 arg10 harg10 arg11 harg11 arg12 harg12 arg13 harg13 arg2 v112 v731 v818 v822 X_arg4 X_arg5 X_arg6 X_arg7 X_arg9 G10 G11 G12 G13 k).2.2.2)
      (fun a q r h => hs a q _ h) hv (by omega)
      (fun r hr => by have := (mem_seen r).mp hr; omega) ih
    rw [seen_succ _ _ (start_le i ⟨k, ht⟩) hk'] at this
    exact this

end Loop

end Cert.FoxIdeal.Hand
-- ==== Proof.FoxDiag.lean ====
/- The attention kernel before its loop: the queries' own tile, with the causal mask, taken into empty buffers. -/
module

public import proofs.«01_k».proof.Proof.FoxLoop
public import Idealize.ShloMosaic.Lib.WritesUnit

@[expose] public section

set_option maxRecDepth 16384

noncomputable section

open Idealize.ShloMosaic Idealize.ShloMosaic.TcCoe Idealize.SL.Sem

namespace Cert.FoxIdeal.Hand

open Cert.FoxIdeal Cert.FoxIdeal.Gen

/-- The heads stored before head `a`, the last first. -/
abbrev below (a : Fin 8) : List (Fin 8) := ([7, 6, 5, 4, 3, 2, 1, 0] : List (Fin 8)).drop (8 - a.val)

/-- A head's slice reads as before the heads below it were stored. -/
theorem readCov_below {m n : ℕ} {e : EltTy} (v : View sig .tc .vmem ⟨3, ![8, m, n]⟩ e)
    (inb : ∀ a : Fin 8, ∀ x : Fin 3, ![a.val, 0, 0] x + ![1, m, n] x ≤ ![8, m, n] x)
    (w : Fin 8 → (⟨3, ![1, m, n]⟩ : Shape).Idx → Elt Ideal e) (init : List (View.Piece (Elt Ideal) ⟨3, ![8, m, n]⟩ e)) (a : Fin 8) :
    ∀ l : List (Fin 8), (∀ b ∈ l, b.val < a.val) → v.readCov (l.map (fun b => (⟨Rect.unit (s := ⟨3, ![8, m, n]⟩) ![b.val, 0, 0] ![1, m, n] (inb b), w b⟩ :
        View.Piece (Elt Ideal) ⟨3, ![8, m, n]⟩ e)) ++ init) (Rect.unit (s := ⟨3, ![8, m, n]⟩) ![a.val, 0, 0] ![1, m, n] (inb a)).toLoadRect
      = v.readCov init (Rect.unit (s := ⟨3, ![8, m, n]⟩) ![a.val, 0, 0] ![1, m, n] (inb a)).toLoadRect
  | [], _ => rfl
  | b :: l, h => by
    rw [← readCov_below v inb w init a l fun b hb => h b (List.mem_cons_of_mem _ hb)]
    funext x
    have hb := h b List.mem_cons_self
    have h0 : (x (0 : Fin 3)).val < 1 := (x (0 : Fin 3)).isLt
    refine View.read_writes_cons_unit_of_not_mem v v.junk (inb b) _ _ _ rfl (0 : Fin 3) (.inr ?_)
    show b.val + 1 ≤ a.val + 1 * (x (0 : Fin 3)).val
    omega

/-- The heads below a head are below it. -/
theorem below_lt (a : Fin 8) : ∀ b ∈ below a, b.val < a.val := by
  revert a; decide

/-- A buffer filled with one value reads as that value. -/
theorem fill_read {m n : ℕ} {e : EltTy} (v : View sig .tc .vmem ⟨3, ![8, m, n]⟩ e)
    (inb : ∀ a : Fin 8, ∀ x : Fin 3, ![a.val, 0, 0] x + ![1, m, n] x ≤ ![8, m, n] x)
    (h0 : ∀ x : Fin 3, ![0, 0, 0] x + ![8, m, n] x ≤ ![8, m, n] x) (w : (⟨3, ![8, m, n]⟩ : Shape).Idx → Elt Ideal e)
    (z : Elt Ideal e) (hw : ∀ x, w x = z) (a : Fin 8) (x : (⟨3, ![1, m, n]⟩ : Shape).Idx) :
    v.readCov [(⟨Rect.unit (s := ⟨3, ![8, m, n]⟩) ![0, 0, 0] ![8, m, n] h0, w⟩ : View.Piece (Elt Ideal) ⟨3, ![8, m, n]⟩ e)]
      (Rect.unit (s := ⟨3, ![8, m, n]⟩) ![a.val, 0, 0] ![1, m, n] (inb a)).toLoadRect x = z := by
  refine (View.read_writes_cons_unit_of_mem v v.junk h0 w [] _ ((Rect.unit (s := ⟨3, ![8, m, n]⟩) ![a.val, 0, 0] ![1, m, n] (inb a)).toLoadRect.idx x)
    rfl fun y => ?_).trans (hw _)
  match y with
  | 0 => exact (Nat.zero_add _).symm
  | 1 => exact (Nat.zero_add _).symm
  | 2 => exact (Nat.zero_add _).symm

/-- The keys a query of the same tile may see. -/
def causal : IVec S256x256 1 := cmpi .sge (iota .tc S256x256 32 [1] iota_S256x256_d1_w32) (iota .tc S256x256 32 [0] iota_S256x256_d0_w32)

/-- The mask's value. -/
abbrev masked : Ideal .f32 := Named.named κ "mask" 0xF149F2CA#32

/-- The mask's value is minus infinity. -/
theorem masked_eq : masked = (⊥ : EReal) := rfl

/-- Half of a head's scores, masked. -/
def maskHalf (z : Fin 2) (s : FVec Ideal S256x128 .f32) : FVec Ideal S256x128 .f32 :=
  select (extractStridedSlice S256x128 ![0, 128 * z.val] causal (by revert z; decide)) s (broadcast S256x128 masked)

/-- A small number as a signed word. -/
theorem toInt_small (k : Fin 256) : (BitVec.ofNat 32 k.val).toInt = k.val := by
  have hk := k.isLt
  rw [BitVec.toInt_eq_toNat_of_lt]
  · rw [BitVec.toNat_ofNat]; congr 1; omega
  · rw [BitVec.toNat_ofNat]; omega

/-- A query sees the keys up to its own. -/
theorem causal_apply (k q : Fin 256) : causal (ix2 k q) = if k.val ≤ q.val then 1#1 else 0#1 := by
  have h : causal (ix2 k q) = IntOp.cmpi CmpIPredicate.sge (BitVec.ofNat 32 q.val) (BitVec.ofNat 32 k.val) := by pointwise [causal]
  rw [h]
  unfold IntOp.cmpi
  simp only [BitVec.sle_eq_decide, toInt_small]
  have e : ((k.val : ℤ) ≤ (q.val : ℤ)) ↔ k.val ≤ q.val := Int.ofNat_le
  by_cases hk : k.val ≤ q.val
  · rw [if_pos hk, decide_eq_true (e.mpr hk)]; rfl
  · rw [if_neg hk, decide_eq_false (fun h => hk (e.mp h))]; rfl

/-- One masked score. -/
theorem maskHalf_apply (z : Fin 2) (s : FVec Ideal S256x128 .f32) (k : Fin 256) (q : Fin 128) (p : Fin 256) (hp : p.val = 128 * z.val + q.val) :
    maskHalf z s (ix2 k q) = if k.val ≤ p.val then s (ix2 k q) else ⊥ := by
  have h : maskHalf z s (ix2 k q) = Scalar.select (causal (ix2 k p)) (s (ix2 k q)) masked := by
    have e : p = ⟨128 * z.val + q.val, hp ▸ p.isLt⟩ := Fin.ext hp
    rw [e]
    pointwise [maskHalf]
  rw [h, causal_apply, masked_eq]
  by_cases hk : k.val ≤ p.val
  · rw [if_pos hk, if_pos hk]; rfl
  · rw [if_neg hk, if_neg hk]; rfl

section Diag

variable (c : Dev nD) (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S1x1x8x256 .f32) (harg6 : arg6.IsWhole) (arg7 : Memref sig .tc .vmem S1x1x4096x8 .f32) (harg7 : arg7.IsWhole) (arg8 : Memref sig .tc .vmem S256x512 .f32) (harg8 : arg8.IsWhole) (arg9 : Memref sig .tc .vmem S2x256x1024 .bf16) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x64x256 .f32) (harg12 : arg12.IsWhole) (arg13 : Memref sig .tc .vmem S2x256x1024 .bf16) (harg13 : arg13.IsWhole)
  (x0 : Vec Ideal S512x256 .bf16) (x1 : Vec Ideal S4096x512 .bf16) (x2 : Vec Ideal S512x4096 .bf16) (x3 : Vec Ideal S1x1x8x256 .f32) (x4 : Vec Ideal S1x1x4096x8 .f32)

/-- The queries' own tile lies in the array. -/
theorem diag_le : k0_off1 i 0 + 256 ≤ 4096 := k0_off1_inb i 0

/-- The queries, as the kernel lays them out. -/
abbrev laidOut : BufTy.Contents (Elt Ideal) arg9.view.ty :=
  arg9.view.writes (Elt Ideal) arg9.view.junk (bodyRun.sl.HS0_10 c arg3 harg3 x0)

/-- Half of a head's masked scores on the queries' own tile. -/
abbrev diagS (a : Fin 8) (z : Fin 2) : FVec Ideal S256x128 .f32 :=
  maskHalf z (part arg4 arg6 arg7 (harg4.unread x1) (harg6.unread x3) (harg7.unread x4) (query arg9 (laidOut c arg3 harg3 arg9 x0)) (diag_le i) a z)

/-- The heads' rows of maxima, as the heads find them. -/
abbrev foundM : Fin 8 → FVec Ideal S1x1x256 .f32
  | 0 => bodyRun.sl.v127 (F := Ideal) c arg10
  | 1 => bodyRun.sl.v203 (F := Ideal) c i arg3 harg3 arg4 harg4 arg6 harg6 arg7 harg7 arg9 arg10 x0 x1 x3 x4
  | 2 => bodyRun.sl.v279 (F := Ideal) c i arg3 harg3 arg4 harg4 arg6 harg6 arg7 harg7 arg9 arg10 x0 x1 x3 x4
  | 3 => bodyRun.sl.v355 (F := Ideal) c i arg3 harg3 arg4 harg4 arg6 harg6 arg7 harg7 arg9 arg10 x0 x1 x3 x4
  | 4 => bodyRun.sl.v431 (F := Ideal) c i arg3 harg3 arg4 harg4 arg6 harg6 arg7 harg7 arg9 arg10 x0 x1 x3 x4
  | 5 => bodyRun.sl.v507 (F := Ideal) c i arg3 harg3 arg4 harg4 arg6 harg6 arg7 harg7 arg9 arg10 x0 x1 x3 x4
  | 6 => bodyRun.sl.v583 (F := Ideal) c i arg3 harg3 arg4 harg4 arg6 harg6 arg7 harg7 arg9 arg10 x0 x1 x3 x4
  | 7 => bodyRun.sl.v659 (F := Ideal) c i arg3 harg3 arg4 harg4 arg6 harg6 arg7 harg7 arg9 arg10 x0 x1 x3 x4

/-- The heads' rows of sums, as the heads find them. -/
abbrev foundL : Fin 8 → FVec Ideal S1x1x256 .f32
  | 0 => bodyRun.sl.v129 (F := Ideal) c arg11
  | 1 => bodyRun.sl.v205 (F := Ideal) c i arg3 harg3 arg4 harg4 arg6 harg6 arg7 harg7 arg9 arg10 arg11 x0 x1 x3 x4
  | 2 => bodyRun.sl.v281 (F := Ideal) c i arg3 harg3 arg4 harg4 arg6 harg6 arg7 harg7 arg9 arg10 arg11 x0 x1 x3 x4
  | 3 => bodyRun.sl.v357 (F := Ideal) c i arg3 harg3 arg4 harg4 arg6 harg6 arg7 harg7 arg9 arg10 arg11 x0 x1 x3 x4
  | 4 => bodyRun.sl.v433 (F := Ideal) c i arg3 harg3 arg4 harg4 arg6 harg6 arg7 harg7 arg9 arg10 arg11 x0 x1 x3 x4
  | 5 => bodyRun.sl.v509 (F := Ideal) c i arg3 harg3 arg4 harg4 arg6 harg6 arg7 harg7 arg9 arg10 arg11 x0 x1 x3 x4
  | 6 => bodyRun.sl.v585 (F := Ideal) c i arg3 harg3 arg4 harg4 arg6 harg6 arg7 harg7 arg9 arg10 arg11 x0 x1 x3 x4
  | 7 => bodyRun.sl.v661 (F := Ideal) c i arg3 harg3 arg4 harg4 arg6 harg6 arg7 harg7 arg9 arg10 arg11 x0 x1 x3 x4

/-- The heads' weighted sums, as the heads find them. -/
abbrev foundA : Fin 8 → FVec Ideal S1x64x256 .f32
  | 0 => bodyRun.sl.v735 (F := Ideal) c arg12
  | 1 => bodyRun.sl.v749 (F := Ideal) c i arg3 harg3 arg4 harg4 arg5 harg5 arg6 harg6 arg7 harg7 arg9 arg10 arg12 arg13 x0 x1 x2 x3 x4
  | 2 => bodyRun.sl.v763 (F := Ideal) c i arg3 harg3 arg4 harg4 arg5 harg5 arg6 harg6 arg7 harg7 arg9 arg10 arg12 arg13 x0 x1 x2 x3 x4
  | 3 => bodyRun.sl.v777 (F := Ideal) c i arg3 harg3 arg4 harg4 arg5 harg5 arg6 harg6 arg7 harg7 arg9 arg10 arg12 arg13 x0 x1 x2 x3 x4
  | 4 => bodyRun.sl.v791 (F := Ideal) c i arg3 harg3 arg4 harg4 arg5 harg5 arg6 harg6 arg7 harg7 arg9 arg10 arg12 arg13 x0 x1 x2 x3 x4
  | 5 => bodyRun.sl.v805 (F := Ideal) c i arg3 harg3 arg4 harg4 arg5 harg5 arg6 harg6 arg7 harg7 arg9 arg10 arg12 arg13 x0 x1 x2 x3 x4
  | 6 => bodyRun.sl.v819 (F := Ideal) c i arg3 harg3 arg4 harg4 arg5 harg5 arg6 harg6 arg7 harg7 arg9 arg10 arg12 arg13 x0 x1 x2 x3 x4
  | 7 => bodyRun.sl.v833 (F := Ideal) c i arg3 harg3 arg4 harg4 arg5 harg5 arg6 harg6 arg7 harg7 arg9 arg10 arg12 arg13 x0 x1 x2 x3 x4

/-- The values of the queries' own tile. -/
abbrev diagV (a : Fin 8) : FVec Ideal S64x256 .bf16 := valsOf arg5 (harg5.unread x2) (diag_le i) a

/-- The pieces of the maxima before the loop. -/
theorem diag_max : bodyRun.sl.HS1_9 c i arg3 harg3 arg4 harg4 arg6 harg6 arg7 harg7 arg9 arg10 x0 x1 x3 x4 = maxPieces (diagS c i arg3 harg3 arg4 harg4 arg6 harg6 arg7 harg7 arg9 x0 x1 x3 x4) (foundM c i arg3 harg3 arg4 harg4 arg6 harg6 arg7 harg7 arg9 arg10 x0 x1 x3 x4) ++ bodyRun.sl.HS1_1 := by
  rfl

/-- The pieces of the sums before the loop. -/
theorem diag_sum : bodyRun.sl.HS2_9 c i arg3 harg3 arg4 harg4 arg6 harg6 arg7 harg7 arg9 arg10 arg11 x0 x1 x3 x4 = sumPieces (diagS c i arg3 harg3 arg4 harg4 arg6 harg6 arg7 harg7 arg9 x0 x1 x3 x4) (foundM c i arg3 harg3 arg4 harg4 arg6 harg6 arg7 harg7 arg9 arg10 x0 x1 x3 x4) (foundL c i arg3 harg3 arg4 harg4 arg6 harg6 arg7 harg7 arg9 arg10 arg11 x0 x1 x3 x4) ++ bodyRun.sl.HS2_1 := by
  rfl

/-- The pieces of the exponentials before the loop. -/
theorem diag_prob : bodyRun.sl.HS4_16 c i arg3 harg3 arg4 harg4 arg6 harg6 arg7 harg7 arg9 arg10 x0 x1 x3 x4 = probPieces (diagS c i arg3 harg3 arg4 harg4 arg6 harg6 arg7 harg7 arg9 x0 x1 x3 x4) (foundM c i arg3 harg3 arg4 harg4 arg6 harg6 arg7 harg7 arg9 arg10 x0 x1 x3 x4) := by
  rfl

/-- The pieces of the weighted sums before the loop. -/
theorem diag_acc : bodyRun.sl.HS3_9 c i arg3 harg3 arg4 harg4 arg5 harg5 arg6 harg6 arg7 harg7 arg9 arg10 arg12 arg13 x0 x1 x2 x3 x4 = accPieces (diagS c i arg3 harg3 arg4 harg4 arg6 harg6 arg7 harg7 arg9 x0 x1 x3 x4) (foundM c i arg3 harg3 arg4 harg4 arg6 harg6 arg7 harg7 arg9 arg10 x0 x1 x3 x4) (foundA c i arg3 harg3 arg4 harg4 arg5 harg5 arg6 harg6 arg7 harg7 arg9 arg10 arg12 arg13 x0 x1 x2 x3 x4) (diagV i arg5 harg5 x2)
    (probOf (diagS c i arg3 harg3 arg4 harg4 arg6 harg6 arg7 harg7 arg9 x0 x1 x3 x4) (foundM c i arg3 harg3 arg4 harg4 arg6 harg6 arg7 harg7 arg9 arg10 x0 x1 x3 x4) arg13.view) ++ bodyRun.sl.HS3_1 := by
  rfl

/-- A head finds minus infinity for its maxima. -/
theorem foundM_apply (a : Fin 8) (x) : foundM c i arg3 harg3 arg4 harg4 arg6 harg6 arg7 harg7 arg9 arg10 x0 x1 x3 x4 a x = masked := by
  have h : foundM c i arg3 harg3 arg4 harg4 arg6 harg6 arg7 harg7 arg9 arg10 x0 x1 x3 x4 a = arg10.view.readCov ((below a).map (fun b => (⟨Rect.unit (s := S8x1x256) ![b.val, 0, 0] S1x1x256.size (inRow b), (fun b => headM ((diagS c i arg3 harg3 arg4 harg4 arg6 harg6 arg7 harg7 arg9 x0 x1 x3 x4) b 0) ((diagS c i arg3 harg3 arg4 harg4 arg6 harg6 arg7 harg7 arg9 x0 x1 x3 x4) b 1) ((foundM c i arg3 harg3 arg4 harg4 arg6 harg6 arg7 harg7 arg9 arg10 x0 x1 x3 x4) b)) b⟩ :
      View.Piece (Elt Ideal) S8x1x256 .f32)) ++ bodyRun.sl.HS1_1) (Rect.unit (s := S8x1x256) ![a.val, 0, 0] S1x1x256.size (inRow a)).toLoadRect := by
    match a with | 0 => rfl | 1 => rfl | 2 => rfl | 3 => rfl | 4 => rfl | 5 => rfl | 6 => rfl | 7 => rfl
  rw [h]
  exact (congrFun (readCov_below arg10.view inRow ((fun b => headM ((diagS c i arg3 harg3 arg4 harg4 arg6 harg6 arg7 harg7 arg9 x0 x1 x3 x4) b 0) ((diagS c i arg3 harg3 arg4 harg4 arg6 harg6 arg7 harg7 arg9 x0 x1 x3 x4) b 1) ((foundM c i arg3 harg3 arg4 harg4 arg6 harg6 arg7 harg7 arg9 arg10 x0 x1 x3 x4) b))) bodyRun.sl.HS1_1 a (below a) (below_lt a)) x).trans
    (fill_read arg10.view inRow _ _ _ (fun _ => rfl) a x)

/-- A head finds zero for its sums. -/
theorem foundL_apply (a : Fin 8) (x) : foundL c i arg3 harg3 arg4 harg4 arg6 harg6 arg7 harg7 arg9 arg10 arg11 x0 x1 x3 x4 a x = Ideal.ofBits .f32 0x00000000#32 := by
  have h : foundL c i arg3 harg3 arg4 harg4 arg6 harg6 arg7 harg7 arg9 arg10 arg11 x0 x1 x3 x4 a = arg11.view.readCov ((below a).map (fun b => (⟨Rect.unit (s := S8x1x256) ![b.val, 0, 0] S1x1x256.size (inRow b), (fun b => headL ((diagS c i arg3 harg3 arg4 harg4 arg6 harg6 arg7 harg7 arg9 x0 x1 x3 x4) b 0) ((diagS c i arg3 harg3 arg4 harg4 arg6 harg6 arg7 harg7 arg9 x0 x1 x3 x4) b 1) ((foundM c i arg3 harg3 arg4 harg4 arg6 harg6 arg7 harg7 arg9 arg10 x0 x1 x3 x4) b) ((foundL c i arg3 harg3 arg4 harg4 arg6 harg6 arg7 harg7 arg9 arg10 arg11 x0 x1 x3 x4) b)) b⟩ :
      View.Piece (Elt Ideal) S8x1x256 .f32)) ++ bodyRun.sl.HS2_1) (Rect.unit (s := S8x1x256) ![a.val, 0, 0] S1x1x256.size (inRow a)).toLoadRect := by
    match a with | 0 => rfl | 1 => rfl | 2 => rfl | 3 => rfl | 4 => rfl | 5 => rfl | 6 => rfl | 7 => rfl
  rw [h]
  exact (congrFun (readCov_below arg11.view inRow ((fun b => headL ((diagS c i arg3 harg3 arg4 harg4 arg6 harg6 arg7 harg7 arg9 x0 x1 x3 x4) b 0) ((diagS c i arg3 harg3 arg4 harg4 arg6 harg6 arg7 harg7 arg9 x0 x1 x3 x4) b 1) ((foundM c i arg3 harg3 arg4 harg4 arg6 harg6 arg7 harg7 arg9 arg10 x0 x1 x3 x4) b) ((foundL c i arg3 harg3 arg4 harg4 arg6 harg6 arg7 harg7 arg9 arg10 arg11 x0 x1 x3 x4) b))) bodyRun.sl.HS2_1 a (below a) (below_lt a)) x).trans
    (fill_read arg11.view inRow _ _ _ (fun _ => rfl) a x)

/-- A head finds zero for its weighted sums. -/
theorem foundA_apply (a : Fin 8) (x) : foundA c i arg3 harg3 arg4 harg4 arg5 harg5 arg6 harg6 arg7 harg7 arg9 arg10 arg12 arg13 x0 x1 x2 x3 x4 a x = Ideal.ofBits .f32 0x00000000#32 := by
  have h : foundA c i arg3 harg3 arg4 harg4 arg5 harg5 arg6 harg6 arg7 harg7 arg9 arg10 arg12 arg13 x0 x1 x2 x3 x4 a = arg12.view.readCov ((below a).map (fun b => (⟨Rect.unit (s := S8x64x256) ![b.val, 0, 0] S1x64x256.size (inAcc b), (fun b => headA (headF ((diagS c i arg3 harg3 arg4 harg4 arg6 harg6 arg7 harg7 arg9 x0 x1 x3 x4) b 0) ((diagS c i arg3 harg3 arg4 harg4 arg6 harg6 arg7 harg7 arg9 x0 x1 x3 x4) b 1) ((foundM c i arg3 harg3 arg4 harg4 arg6 harg6 arg7 harg7 arg9 arg10 x0 x1 x3 x4) b)) ((foundA c i arg3 harg3 arg4 harg4 arg5 harg5 arg6 harg6 arg7 harg7 arg9 arg10 arg12 arg13 x0 x1 x2 x3 x4) b) (diagV i arg5 harg5 x2 b) (probOf (diagS c i arg3 harg3 arg4 harg4 arg6 harg6 arg7 harg7 arg9 x0 x1 x3 x4) (foundM c i arg3 harg3 arg4 harg4 arg6 harg6 arg7 harg7 arg9 arg10 x0 x1 x3 x4) arg13.view b)) b⟩ :
      View.Piece (Elt Ideal) S8x64x256 .f32)) ++ bodyRun.sl.HS3_1) (Rect.unit (s := S8x64x256) ![a.val, 0, 0] S1x64x256.size (inAcc a)).toLoadRect := by
    match a with | 0 => rfl | 1 => rfl | 2 => rfl | 3 => rfl | 4 => rfl | 5 => rfl | 6 => rfl | 7 => rfl
  rw [h]
  exact (congrFun (readCov_below arg12.view inAcc ((fun b => headA (headF ((diagS c i arg3 harg3 arg4 harg4 arg6 harg6 arg7 harg7 arg9 x0 x1 x3 x4) b 0) ((diagS c i arg3 harg3 arg4 harg4 arg6 harg6 arg7 harg7 arg9 x0 x1 x3 x4) b 1) ((foundM c i arg3 harg3 arg4 harg4 arg6 harg6 arg7 harg7 arg9 arg10 x0 x1 x3 x4) b)) ((foundA c i arg3 harg3 arg4 harg4 arg5 harg5 arg6 harg6 arg7 harg7 arg9 arg10 arg12 arg13 x0 x1 x2 x3 x4) b) (diagV i arg5 harg5 x2 b) (probOf (diagS c i arg3 harg3 arg4 harg4 arg6 harg6 arg7 harg7 arg9 x0 x1 x3 x4) (foundM c i arg3 harg3 arg4 harg4 arg6 harg6 arg7 harg7 arg9 arg10 x0 x1 x3 x4) arg13.view b))) bodyRun.sl.HS3_1 a (below a) (below_lt a)) x).trans
    (fill_read arg12.view inAcc _ _ _ (fun _ => rfl) a x)

/-- One masked score of the queries' own tile. -/
theorem joined_diag (a : Fin 8) (k q : Fin 256) : joined ((diagS c i arg3 harg3 arg4 harg4 arg6 harg6 arg7 harg7 arg9 x0 x1 x3 x4) a 0) ((diagS c i arg3 harg3 arg4 harg4 arg6 harg6 arg7 harg7 arg9 x0 x1 x3 x4) a 1) k q
    = if k.val ≤ q.val then keyScore (arg4.view.read (Elt Ideal) (harg4.unread x1)) (arg6.view.read (Elt Ideal) (harg6.unread x3))
      (arg7.view.read (Elt Ideal) (harg7.unread x4)) (query arg9 (laidOut c arg3 harg3 arg9 x0)) a q (key (diag_le i) k) else ⊥ := by
  unfold joined
  split
  · exact (maskHalf_apply 0 _ k _ q (by show q.val = 128 * 0 + q.val; omega)).trans
      (if_congr Iff.rfl (part_apply _ _ _ _ _ _ _ _ a 0 k _ q (by show q.val = 128 * 0 + q.val; omega)) rfl)
  · exact (maskHalf_apply 1 _ k _ q (by show q.val = 128 * 1 + (q.val - 128); omega)).trans
      (if_congr Iff.rfl (part_apply _ _ _ _ _ _ _ _ a 1 k _ q (by show q.val = 128 * 1 + (q.val - 128); omega)) rfl)

/-- Before the loop the buffers hold the running softmax over the queries' own tile. -/
theorem holds_diag {s : Fin 8 → Fin 256 → Fin 4096 → EReal} {v : Fin 8 → Fin 64 → Fin 4096 → EReal}
    (hs : ∀ a q (r : Fin 4096), s a q r = if r.val ≤ 256 * (i 2).val + q.val then keyScore (arg4.view.read (Elt Ideal) (harg4.unread x1))
      (arg6.view.read (Elt Ideal) (harg6.unread x3)) (arg7.view.read (Elt Ideal) (harg7.unread x4)) (query arg9 (laidOut c arg3 harg3 arg9 x0)) a q r else ⊥)
    (hv : ∀ a d r, v a d r = arg5.view.read (Elt Ideal) (harg5.unread x2) (ix2 (feature a d) r)) :
    Holds arg10.view arg11.view arg12.view
      (arg10.view.writes (Elt Ideal) arg10.view.junk (bodyRun.sl.HS1_9 c i arg3 harg3 arg4 harg4 arg6 harg6 arg7 harg7 arg9 arg10 x0 x1 x3 x4))
      (arg11.view.writes (Elt Ideal) arg11.view.junk (bodyRun.sl.HS2_9 c i arg3 harg3 arg4 harg4 arg6 harg6 arg7 harg7 arg9 arg10 arg11 x0 x1 x3 x4))
      (arg12.view.writes (Elt Ideal) arg12.view.junk (bodyRun.sl.HS3_9 c i arg3 harg3 arg4 harg4 arg5 harg5 arg6 harg6 arg7 harg7 arg9 arg10 arg12 arg13 x0 x1 x2 x3 x4)) (seen (i 2).val 0) s v := by
  have hn : k0_off1 i 0 = 256 * (i 2).val := by rw [k0_off1_eq]; rfl
  have he : (∅ : Finset (Fin 4096)) ∪ Finset.univ.map (key (diag_le i)) = seen (i 2).val 0 := by
    ext r
    rw [Finset.empty_union, mem_seen, Finset.mem_map]
    constructor
    · rintro ⟨x, -, rfl⟩
      have hv : (key (diag_le i) x).val = k0_off1 i 0 + x.val := rfl
      have := x.isLt
      omega
    · intro hr
      exact ⟨⟨r.val - 256 * (i 2).val, by omega⟩, Finset.mem_univ _, Fin.ext (by show k0_off1 i 0 + (r.val - 256 * (i 2).val) = r.val; omega)⟩
  rw [diag_max, diag_sum, diag_acc, View.writes_append, View.writes_append, View.writes_append, ← he]
  refine holds_step arg10.view arg11.view arg12.view arg13.view _ _ _ _ _ _ _ _ (diag_le i) (fun a k q => ?_) (fun a d k => ?_)
    (fun r hr => absurd hr (Finset.notMem_empty r)) fun a d q => ?_
  · rw [joined_diag, hs]
    have hv : (key (diag_le i) k).val = k0_off1 i 0 + k.val := rfl
    refine if_congr ?_ rfl rfl
    omega
  · exact (valsOf_apply _ _ _ a d k).trans (hv a d _).symm
  · rw [foundM_apply, foundL_apply, foundA_apply, masked_eq, Ideal.ofBits_zero]
    exact soft_empty _ _

end Diag

end Cert.FoxIdeal.Hand
-- ==== Proof.FoxQuery.lean ====
/- The attention kernel's layout of the queries: four heads' scaled queries down a diagonal of blocks, zeros elsewhere. -/
module

public import proofs.«01_k».proof.Proof.FoxDiag

@[expose] public section

set_option maxRecDepth 16384

noncomputable section

open Idealize.ShloMosaic Idealize.ShloMosaic.TcCoe Idealize.SL.Sem

namespace Cert.FoxIdeal.Hand

open Cert.FoxIdeal Cert.FoxIdeal.Gen

/-- The scale of the scores. -/
abbrev eighth : EReal := Ideal.ofBits .f32 0x3E000000#32

/-- A head's queries, scaled. -/
def headQ (x : FVec Ideal S64x256 .bf16) : FVec Ideal S1x64x256 .bf16 :=
  shapeCast S1x64x256 (shapeCast S64x256 (truncf .bf16 (mulf (extf .f32 (shapeCast S64x256 x shapeCasts_S64x256_S64x256) bitsLt_bf16_f32)
    (broadcast S64x256 (Scalar.ofBits .f32 0x3E000000#32))) bitsLt_bf16_f32) shapeCasts_S64x256_S64x256) shapeCasts_S64x256_S1x64x256

/-- One scaled query element. -/
theorem headQ_apply (x) (d : Fin 64) (q : Fin 256) : headQ x (ix3 0 d q) = x (ix2 d q) * eighth := by
  pointwise [headQ]

/-- The zeros the layout starts from. -/
def blank : FVec Ideal S1x256x1024 .bf16 :=
  shapeCast S1x256x1024 (broadcast S256x1024 (Scalar.ofBits .bf16 0x0000#16)) shapeCasts_S256x1024_S1x256x1024

/-- A head's place in the layout. -/
theorem inPlace (a : Fin 8) : ∀ x : Fin 3, ![a.val / 4, a.val % 4 * 64, a.val % 4 * 256] x + S1x64x256.size x ≤ S2x256x1024.size x := by
  revert a; decide

/-- A head's rows of the queries. -/
theorem inRows (a : Fin 8) : ∀ x : Fin 2, ![64 * a.val, 0] x + S64x256.size x ≤ S512x256.size x := by
  revert a; decide

/-- A query of a head, among a block's columns. -/
abbrev column (h : Fin 4) (q : Fin 256) : Fin 1024 := ⟨256 * h.val + q.val, by have := h.isLt; have := q.isLt; omega⟩

/-- A head by its block and its place in the block. -/
abbrev headAt (b : Fin 2) (h : Fin 4) : Fin 8 := ⟨4 * b.val + h.val, by have := b.isLt; have := h.isLt; omega⟩

/-- A row of a head's queries. -/
abbrev queryRow (b : Fin 2) (h : Fin 4) (j : Fin 256) : Fin 512 :=
  ⟨64 * (4 * b.val + h.val) + j.val % 64, by have := b.isLt; have := h.isLt; omega⟩

section Layout

variable (c : Dev nD) (arg3 : Memref sig .tc .vmem S512x256 .bf16) (harg3 : arg3.IsWhole) (arg9 : Memref sig .tc .vmem S2x256x1024 .bf16) (x0 : Vec Ideal S512x256 .bf16)

/-- A head's piece of the layout. -/
abbrev placeQ (a : Fin 8) : View.Piece (Elt Ideal) S2x256x1024 .bf16 :=
  ⟨Rect.unit ![a.val / 4, a.val % 4 * 64, a.val % 4 * 256] S1x64x256.size (inPlace a),
    headQ (View.readAt (Elt Ideal) arg3.view (Rect.unit (s := S512x256) ![64 * a.val, 0] S64x256.size (inRows a)).toLoadRect (harg3.unread x0))⟩

/-- The zeros of a block of four heads. -/
abbrev blankQ (b : Fin 2) : View.Piece (Elt Ideal) S2x256x1024 .bf16 :=
  ⟨Rect.unit ![b.val, 0, 0] S1x256x1024.size (inQuery b), blank⟩

/-- The layout as stored. -/
theorem layout_pieces : bodyRun.sl.HS0_10 c arg3 harg3 x0 = ([7, 6, 5, 4] : List (Fin 8)).map (placeQ arg3 harg3 x0)
    ++ (blankQ 1 :: (([3, 2, 1, 0] : List (Fin 8)).map (placeQ arg3 harg3 x0) ++ [blankQ 0])) := by
  rfl

/-- Storing heads' queries, element by element: the element of a stored head, and what was there before elsewhere. -/
theorem read_placed (f : BufTy.Contents (Elt Ideal) arg9.view.ty) (tail : List (View.Piece (Elt Ideal) S2x256x1024 .bf16))
    (b : Fin 2) (j : Fin 256) (h : Fin 4) (q : Fin 256) : ∀ l : List (Fin 8),
    arg9.view.read (Elt Ideal) (arg9.view.writes (Elt Ideal) f (l.map (placeQ arg3 harg3 x0) ++ tail)) (ix3 b j (column h q))
      = if j.val / 64 = h.val ∧ headAt b h ∈ l then x0 (ix2 (queryRow b h j) q) * eighth
        else arg9.view.read (Elt Ideal) (arg9.view.writes (Elt Ideal) f tail) (ix3 b j (column h q))
  | [] => by rw [if_neg (fun h => List.not_mem_nil h.2)]; rfl
  | a :: l => by
    have hb := b.isLt
    have hh := h.isLt
    have hj := j.isLt
    have hq := q.isLt
    have ha := a.isLt
    by_cases hit : j.val / 64 = h.val ∧ headAt b h = a
    · rw [if_pos ⟨hit.1, hit.2 ▸ List.mem_cons_self⟩]
      have ea : 4 * b.val + h.val = a.val := congrArg Fin.val hit.2
      refine (View.read_writes_cons_unit_of_mem arg9.view f (inPlace a) _ _ _ (ix3 0 ⟨j.val % 64, Nat.mod_lt _ (by decide)⟩ q) rfl fun y => ?_).trans ?_
      · match y with
        | 0 => show b.val = a.val / 4 + 0; omega
        | 1 => show j.val = a.val % 4 * 64 + j.val % 64; omega
        | 2 => show 256 * h.val + q.val = a.val % 4 * 256 + q.val; omega
      · rw [headQ_apply, View.readAt_apply, harg3.read_unread]
        refine congrArg (fun z => x0 z * eighth) (funext fun y => Fin.ext ?_)
        match y with
        | 0 => show 64 * a.val + 1 * (j.val % 64) = 64 * (4 * b.val + h.val) + j.val % 64; omega
        | 1 => show 0 + 1 * q.val = q.val; omega
    · have e : (j.val / 64 = h.val ∧ headAt b h ∈ a :: l) ↔ (j.val / 64 = h.val ∧ headAt b h ∈ l) := by
        rw [List.mem_cons]
        constructor
        · rintro ⟨h1, h2 | h2⟩
          · exact absurd ⟨h1, h2⟩ hit
          · exact ⟨h1, h2⟩
        · rintro ⟨h1, h2⟩
          exact ⟨h1, .inr h2⟩
      rw [if_congr e rfl rfl, ← read_placed f tail b j h q l]
      have ne : j.val / 64 = h.val → 4 * b.val + h.val ≠ a.val := fun h1 h2 => hit ⟨h1, Fin.ext h2⟩
      by_cases h0 : a.val / 4 = b.val
      · by_cases h2 : a.val % 4 = h.val
        · refine View.read_writes_cons_unit_of_not_mem arg9.view f (inPlace a) _ _ _ rfl (1 : Fin 3) ?_
          show j.val < a.val % 4 * 64 ∨ a.val % 4 * 64 + 64 ≤ j.val
          omega
        · refine View.read_writes_cons_unit_of_not_mem arg9.view f (inPlace a) _ _ _ rfl (2 : Fin 3) ?_
          show 256 * h.val + q.val < a.val % 4 * 256 ∨ a.val % 4 * 256 + 256 ≤ 256 * h.val + q.val
          omega
      · refine View.read_writes_cons_unit_of_not_mem arg9.view f (inPlace a) _ _ _ rfl (0 : Fin 3) ?_
        show b.val < a.val / 4 ∨ a.val / 4 + 1 ≤ b.val
        omega

/-- The block of zeros reads as zero. -/
theorem read_blank (f : BufTy.Contents (Elt Ideal) arg9.view.ty) (L : List (View.Piece (Elt Ideal) S2x256x1024 .bf16))
    (b : Fin 2) (j : Fin 256) (p : Fin 1024) :
    arg9.view.read (Elt Ideal) (arg9.view.writes (Elt Ideal) f (blankQ b :: L)) (ix3 b j p) = (0 : EReal) := by
  refine (View.read_writes_cons_unit_of_mem arg9.view f (inQuery b) _ _ _ (ix3 0 j p) rfl fun y => ?_).trans Ideal.ofBits_zero_bf16
  match y with
  | 0 => rfl
  | 1 => exact (Nat.zero_add _).symm
  | 2 => exact (Nat.zero_add _).symm

/-- The layout, element by element. -/
theorem laidOut_read (b : Fin 2) (j : Fin 256) (h : Fin 4) (q : Fin 256) :
    arg9.view.read (Elt Ideal) (laidOut c arg3 harg3 arg9 x0) (ix3 b j (column h q))
      = if j.val / 64 = h.val then x0 (ix2 (queryRow b h j) q) * eighth else (0 : EReal) := by
  have hh := h.isLt
  unfold laidOut
  rw [layout_pieces, read_placed]
  obtain rfl | rfl : b = 0 ∨ b = 1 := by clear hh; revert b; decide
  · have n1 : headAt 0 h ∉ ([7, 6, 5, 4] : List (Fin 8)) := by clear hh; revert h; decide
    have n2 : headAt 0 h ∈ ([3, 2, 1, 0] : List (Fin 8)) := by clear hh n1; revert h; decide
    rw [if_neg (fun x => n1 x.2)]
    refine (View.read_writes_cons_unit_of_not_mem arg9.view _ (inQuery 1) _ _ _ rfl (0 : Fin 3) (.inl (by show 0 < 1; omega))).trans ?_
    rw [read_placed]
    exact if_congr (and_iff_left n2) rfl (read_blank arg9 _ [] 0 j _)
  · have n1 : headAt 1 h ∈ ([7, 6, 5, 4] : List (Fin 8)) := by clear hh; revert h; decide
    exact if_congr (and_iff_left n1) rfl (read_blank arg9 _ _ 1 j _)

/-- The queries of a block of four heads, element by element. -/
theorem query_laidOut (b : Fin 2) (j : Fin 256) (h : Fin 4) (q : Fin 256) :
    query arg9 (laidOut c arg3 harg3 arg9 x0) b (ix3 0 j (column h q))
      = if j.val / 64 = h.val then x0 (ix2 (queryRow b h j) q) * eighth else (0 : EReal) := by
  refine (View.readAt_apply _ _ _).trans ((congrArg _ ?_).trans (laidOut_read c arg3 harg3 arg9 x0 b j h q))
  funext x
  refine Fin.ext ?_
  match x with
  | 0 => show b.val + 1 * 0 = b.val; omega
  | 1 => show 0 + 1 * j.val = j.val; omega
  | 2 => show 0 + 1 * (256 * h.val + q.val) = 256 * h.val + q.val; omega

/-- A head's score of a key, over the head's own 64 columns. -/
theorem keyScore_laidOut (K : FVec Ideal S4096x512 .bf16) (dr : FVec Ideal S1x1x8x256 .f32) (dc : FVec Ideal S1x1x4096x8 .f32)
    (a : Fin 8) (q : Fin 256) (r : Fin 4096) : keyScore K dr dc (query arg9 (laidOut c arg3 harg3 arg9 x0)) a q r
      = ∑ d : Fin 64, K (ix2 r (feature a d)) * (x0 (ix2 (feature a d) q) * eighth) + dr (ix4 0 0 a q) - dc (ix4 0 0 r a) := by
  have ha := a.isLt
  unfold keyScore
  refine congrArg (fun z => z + dr (ix4 0 0 a q) - dc (ix4 0 0 r a)) ?_
  let e : Fin 64 ↪ Fin 256 := ⟨fun d => ⟨64 * (a.val % 4) + d.val, by have := d.isLt; omega⟩,
    fun x y h => Fin.ext (by have := congrArg Fin.val h; simp only at this; omega)⟩
  have hq := fun j => query_laidOut c arg3 harg3 arg9 x0 (blockOf a) j ⟨a.val % 4, Nat.mod_lt _ (by decide)⟩ q
  refine (Finset.sum_subset (Finset.subset_univ (Finset.univ.map e)) fun j _ hj => ?_).symm.trans ((Finset.sum_map _ _ _).trans
    (Finset.sum_congr rfl fun d _ => ?_))
  · have hn : ¬ j.val / 64 = a.val % 4 := fun h => hj (Finset.mem_map.mpr ⟨⟨j.val % 64, Nat.mod_lt _ (by decide)⟩, Finset.mem_univ _,
      Fin.ext (by show 64 * (a.val % 4) + j.val % 64 = j.val; omega)⟩)
    refine (congrArg (_ * ·) ((hq j).trans (if_neg hn))).trans (mul_zero _)
  · have hd := d.isLt
    refine congrArg₂ (· * ·) (congrArg (fun z => K (ix2 r z)) (Fin.ext ?_)) ((hq (e d)).trans ((if_pos ?_).trans
      (congrArg (fun z => x0 (ix2 z q) * eighth) (Fin.ext ?_))))
    · show 256 * (a.val / 4) + (64 * (a.val % 4) + d.val) = 64 * a.val + d.val; omega
    · show (64 * (a.val % 4) + d.val) / 64 = a.val % 4; omega
    · show 64 * (4 * (a.val / 4) + a.val % 4) + (64 * (a.val % 4) + d.val) % 64 = 64 * a.val + d.val; omega

end Layout

end Cert.FoxIdeal.Hand
-- ==== Proof.FoxOut.lean ====
/- What the attention kernel stores: every head of a query is its weighted sum over its sum. -/
module

public import proofs.«01_k».proof.Proof.FoxQuery

@[expose] public section

set_option maxRecDepth 16384

noncomputable section

open Idealize.ShloMosaic Idealize.ShloMosaic.TcCoe Idealize.SL.Sem

namespace Cert.FoxIdeal.Hand

open Cert.FoxIdeal Cert.FoxIdeal.Gen

/-- The least sum a head divides by. -/
abbrev tiny : EReal := Ideal.ofBits .f32 0x0DA24260#32

/-- A head's output: its weighted sums over its sums. -/
def headO (A : FVec Ideal S1x64x256 .f32) (L : FVec Ideal S1x1x256 .f32) : FVec Ideal S64x256 .f32 :=
  divf (shapeCast S64x256 A shapeCasts_S1x64x256_S64x256)
    (broadcastTo S64x256 (maximumf (shapeCast S1x256 L shapeCasts_S1x1x256_S1x256) (broadcast S1x256 (Scalar.ofBits .f32 0x0DA24260#32)))
      broadcasts_S1x256_S64x256)

/-- One element of a head's output. -/
theorem headO_apply (A L) (d : Fin 64) (q : Fin 256) :
    headO A L (ix2 d q) = Ideal.div (A (ix3 0 d q)) (max (L (ix3 0 0 q)) tiny) := by
  pointwise [headO]

/-- The heads' outputs, one row per query. -/
def packed (A : Fin 8 → FVec Ideal S1x64x256 .f32) (L : Fin 8 → FVec Ideal S1x1x256 .f32) : FVec Ideal S256x512 .f32 :=
  transpose S256x512 [1, 0] (concatenate S512x256 0 [⟨S64x256, headO (A 0) (L 0)⟩, ⟨S64x256, headO (A 1) (L 1)⟩, ⟨S64x256, headO (A 2) (L 2)⟩, ⟨S64x256, headO (A 3) (L 3)⟩, ⟨S64x256, headO (A 4) (L 4)⟩, ⟨S64x256, headO (A 5) (L 5)⟩, ⟨S64x256, headO (A 6) (L 6)⟩, ⟨S64x256, headO (A 7) (L 7)⟩]
    concatenates_S64x256_S64x256_S64x256_S64x256_S64x256_S64x256_S64x256_S64x256_S512x256_d0) transposes_S512x256_p1_0_S256x512

/-- The same element of the same head's output. -/
theorem headO_at (A : Fin 8 → FVec Ideal S1x64x256 .f32) (L : Fin 8 → FVec Ideal S1x1x256 .f32) (q : Fin 256) (a : Fin 8) (d : Fin 64)
    (b : Fin 8) (e : Fin 64) (hb : b.val = a.val) (he : e.val = d.val) :
    headO (A b) (L b) (ix2 e q) = headO (A a) (L a) (ix2 d q) := by
  obtain rfl := Fin.ext hb
  obtain rfl := Fin.ext he
  rfl

/-- One element of what is stored. -/
theorem packed_apply (A L) (q : Fin 256) (a : Fin 8) (d : Fin 64) : packed A L (ix2 q (feature a d)) = headO (A a) (L a) (ix2 d q) := by
  have hd := d.isLt
  have ha := a.isLt
  pointwise [packed, feature]
  split_ifs <;> refine headO_at A L q a d _ _ ?_ ?_ <;> simp <;> omega

/-- A head's row of what two lists of pieces leave. -/
theorem read_row (arg : Memref sig .tc .vmem S8x1x256 .f32) (L L' : List (View.Piece (Elt Ideal) S8x1x256 .f32)) (a : Fin 8) (q : Fin 256) :
    arg.view.readCov (L ++ L') (Rect.unit (s := S8x1x256) ![a.val, 0, 0] S1x1x256.size (inRow a)).toLoadRect (ix3 0 0 q)
      = arg.view.read (Elt Ideal) (arg.view.writes (Elt Ideal) (arg.view.writes (Elt Ideal) arg.view.junk L') L) (ix3 a 0 q) :=
  (rowOf_apply arg _ a q).trans (by rw [View.writes_append])

/-- A head's slice of what two lists of pieces leave. -/
theorem read_acc (arg : Memref sig .tc .vmem S8x64x256 .f32) (L L' : List (View.Piece (Elt Ideal) S8x64x256 .f32)) (a : Fin 8) (d : Fin 64) (q : Fin 256) :
    arg.view.readCov (L ++ L') (Rect.unit (s := S8x64x256) ![a.val, 0, 0] S1x64x256.size (inAcc a)).toLoadRect (ix3 0 d q)
      = arg.view.read (Elt Ideal) (arg.view.writes (Elt Ideal) (arg.view.writes (Elt Ideal) arg.view.junk L') L) (ix3 a d q) :=
  (accOf_apply arg _ a d q).trans (by rw [View.writes_append])

/-- The same sums under other names. -/
theorem Soft.cast {S s v M L A L' A'} (h : Soft S s v M L A) (hL : L' = L) (hA : A' = A) : Soft S s v M L' A' := hL ▸ hA ▸ h

section Out

variable (c : Dev nD) (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S1x1x8x256 .f32) (harg6 : arg6.IsWhole) (arg7 : Memref sig .tc .vmem S1x1x4096x8 .f32) (harg7 : arg7.IsWhole) (arg8 : Memref sig .tc .vmem S256x512 .f32) (harg8 : arg8.IsWhole) (arg9 : Memref sig .tc .vmem S2x256x1024 .bf16) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x64x256 .f32) (harg12 : arg12.IsWhole) (arg13 : Memref sig .tc .vmem S2x256x1024 .bf16) (harg13 : arg13.IsWhole)
  (x0 : Vec Ideal S512x256 .bf16) (x1 : Vec Ideal S4096x512 .bf16) (x2 : Vec Ideal S512x4096 .bf16) (x3 : Vec Ideal S1x1x8x256 .f32) (x4 : Vec Ideal S1x1x4096x8 .f32)

/-- What the loop leaves of the sums and of the weighted sums, as pieces. -/
abbrev looped :=
  pb Variants.none c none i arg3 harg3 arg4 harg4 arg5 harg5 arg6 harg6 arg7 harg7 arg8 harg8 arg9 harg9 arg10 harg10 arg11 harg11 arg12 harg12 arg13 harg13 (BitVec.ofNat 32 (i 2).val) (bodyRun.sl.v111 i)
    (bodyRun.sl.v731 c i arg3 harg3 arg4 harg4 arg6 harg6 arg7 harg7 arg9 arg10 x0 x1 x3 x4) (bodyRun.sl.v818 c i arg5 harg5 x2) (bodyRun.sl.v822 c i arg3 harg3 arg4 harg4 arg5 harg5 arg6 harg6 arg7 harg7 arg9 arg10 arg12 arg13 x0 x1 x2 x3 x4) (harg4.unread x1) (harg5.unread x2) (harg6.unread x3) (harg7.unread x4)
    (laidOut c arg3 harg3 arg9 x0) (arg10.view.writes (Elt Ideal) arg10.view.junk (bodyRun.sl.HS1_9 c i arg3 harg3 arg4 harg4 arg6 harg6 arg7 harg7 arg9 arg10 x0 x1 x3 x4))
    (arg11.view.writes (Elt Ideal) arg11.view.junk (bodyRun.sl.HS2_9 c i arg3 harg3 arg4 harg4 arg6 harg6 arg7 harg7 arg9 arg10 arg11 x0 x1 x3 x4)) (arg12.view.writes (Elt Ideal) arg12.view.junk (bodyRun.sl.HS3_9 c i arg3 harg3 arg4 harg4 arg5 harg5 arg6 harg6 arg7 harg7 arg9 arg10 arg12 arg13 x0 x1 x2 x3 x4))
    (arg13.view.writes (Elt Ideal) arg13.view.junk (bodyRun.sl.HS4_16 c i arg3 harg3 arg4 harg4 arg6 harg6 arg7 harg7 arg9 arg10 x0 x1 x3 x4)) (k0_t1_loop i).trips

/-- A head's row of sums after the loop. -/
abbrev finalL (a : Fin 8) : FVec Ideal S1x1x256 .f32 :=
  arg11.view.readCov ((looped c i arg3 harg3 arg4 harg4 arg5 harg5 arg6 harg6 arg7 harg7 arg8 harg8 arg9 harg9 arg10 harg10 arg11 harg11 arg12 harg12 arg13 harg13 x0 x1 x2 x3 x4).2.1 ++ bodyRun.sl.HS2_9 c i arg3 harg3 arg4 harg4 arg6 harg6 arg7 harg7 arg9 arg10 arg11 x0 x1 x3 x4)
    (Rect.unit (s := S8x1x256) ![a.val, 0, 0] S1x1x256.size (inRow a)).toLoadRect

/-- A head's weighted sums after the loop. -/
abbrev finalA (a : Fin 8) : FVec Ideal S1x64x256 .f32 :=
  arg12.view.readCov ((looped c i arg3 harg3 arg4 harg4 arg5 harg5 arg6 harg6 arg7 harg7 arg8 harg8 arg9 harg9 arg10 harg10 arg11 harg11 arg12 harg12 arg13 harg13 x0 x1 x2 x3 x4).2.2.1 ++ bodyRun.sl.HS3_9 c i arg3 harg3 arg4 harg4 arg5 harg5 arg6 harg6 arg7 harg7 arg9 arg10 arg12 arg13 x0 x1 x2 x3 x4)
    (Rect.unit (s := S8x64x256) ![a.val, 0, 0] S1x64x256.size (inAcc a)).toLoadRect

/-- The body's one store. -/
theorem stored : (bodyRun (F := Ideal) c i arg3 harg3 arg4 harg4 arg5 harg5 arg6 harg6 arg7 harg7 arg8 harg8 arg9 harg9 arg10 harg10 arg11 harg11 arg12 harg12 arg13 harg13 x0 x1 x2 x3 x4).1
    = [⟨Rect.unit ![0, 0] S256x512.size inb_S256x512_S256x512_0_0, packed (finalA c i arg3 harg3 arg4 harg4 arg5 harg5 arg6 harg6 arg7 harg7 arg8 harg8 arg9 harg9 arg10 harg10 arg11 harg11 arg12 harg12 arg13 harg13 x0 x1 x2 x3 x4) (finalL c i arg3 harg3 arg4 harg4 arg5 harg5 arg6 harg6 arg7 harg7 arg8 harg8 arg9 harg9 arg10 harg10 arg11 harg11 arg12 harg12 arg13 harg13 x0 x1 x2 x3 x4)⟩] := by
  rfl

/-- A head's score of a key for a query of the tile: of the keys up to the query's own. -/
def score (a : Fin 8) (q : Fin 256) (r : Fin 4096) : EReal :=
  if r.val ≤ 256 * (i 2).val + q.val then
    ∑ d : Fin 64, x1 (ix2 r (feature a d)) * (x0 (ix2 (feature a d) q) * eighth) + x3 (ix4 0 0 a q) - x4 (ix4 0 0 r a)
  else ⊥

/-- After the loop the buffers hold the softmax over all keys. -/
theorem final_soft (a : Fin 8) (d : Fin 64) (q : Fin 256) : ∃ M, Soft Finset.univ (score i x0 x1 x3 x4 a q) (fun r => x2 (ix2 (feature a d) r)) M
    (finalL c i arg3 harg3 arg4 harg4 arg5 harg5 arg6 harg6 arg7 harg7 arg8 harg8 arg9 harg9 arg10 harg10 arg11 harg11 arg12 harg12 arg13 harg13 x0 x1 x2 x3 x4 a (ix3 0 0 q)) (finalA c i arg3 harg3 arg4 harg4 arg5 harg5 arg6 harg6 arg7 harg7 arg8 harg8 arg9 harg9 arg10 harg10 arg11 harg11 arg12 harg12 arg13 harg13 x0 x1 x2 x3 x4 a (ix3 0 d q)) := by
  have hs : ∀ a q (r : Fin 4096), score i x0 x1 x3 x4 a q r = if r.val ≤ 256 * (i 2).val + q.val then keyScore (arg4.view.read (Elt Ideal) (harg4.unread x1))
      (arg6.view.read (Elt Ideal) (harg6.unread x3)) (arg7.view.read (Elt Ideal) (harg7.unread x4)) (query arg9 (laidOut c arg3 harg3 arg9 x0)) a q r else ⊥ := by
    intro a q r
    rw [harg4.read_unread, harg6.read_unread, harg7.read_unread, keyScore_laidOut]
    rfl
  have hv : ∀ a d r, x2 (ix2 (feature a d) r) = arg5.view.read (Elt Ideal) (harg5.unread x2) (ix2 (feature a d) r) := by
    intro a d r
    rw [harg5.read_unread]
  have hd := holds_diag c i arg3 harg3 arg4 harg4 arg5 harg5 arg6 harg6 arg7 harg7 arg9 arg10 arg11 arg12 arg13 x0 x1 x2 x3 x4 hs hv
  have hl := holds_loop Variants.none c none i arg3 harg3 arg4 harg4 arg5 harg5 arg6 harg6 arg7 harg7 arg8 harg8 arg9 harg9 arg10 harg10 arg11 harg11 arg12 harg12 arg13 harg13 (BitVec.ofNat 32 (i 2).val) (bodyRun.sl.v111 i)
    (bodyRun.sl.v731 c i arg3 harg3 arg4 harg4 arg6 harg6 arg7 harg7 arg9 arg10 x0 x1 x3 x4) (bodyRun.sl.v818 c i arg5 harg5 x2) (bodyRun.sl.v822 c i arg3 harg3 arg4 harg4 arg5 harg5 arg6 harg6 arg7 harg7 arg9 arg10 arg12 arg13 x0 x1 x2 x3 x4) (harg4.unread x1) (harg5.unread x2) (harg6.unread x3) (harg7.unread x4)
    (laidOut c arg3 harg3 arg9 x0) _ _ _ (arg13.view.writes (Elt Ideal) arg13.view.junk (bodyRun.sl.HS4_16 c i arg3 harg3 arg4 harg4 arg6 harg6 arg7 harg7 arg9 arg10 x0 x1 x3 x4))
    (fun a q r h => (hs a q r).trans (if_pos (by omega))) hv hd (k0_t1_loop i).trips (le_of_eq (trips i))
  refine ⟨_, ((hl a d q).univ fun r hr => ?_).cast (read_row arg11 _ _ a q) (read_acc arg12 _ _ a d q)⟩
  refine if_neg fun h => hr ((mem_seen r).mpr ?_)
  have ht := trips i
  have := q.isLt
  omega

/-- The softmax-weighted sum of values. -/
def attend (s v : Fin 4096 → EReal) : EReal :=
  ∑ r, Ideal.div (Ideal.exp (s r - Finset.univ.sup s)) (max (∑ r, Ideal.exp (s r - Finset.univ.sup s)) tiny) * v r

/-- The least sum is positive. -/
theorem tiny_pos : 0 < tiny := by
  simp [Ideal.ofBits, Ideal.ieee]
  rw [← EReal.coe_mul]
  exact EReal.coe_pos.mpr (by positivity)

/-- The body's output, element by element. -/
theorem stored_apply (a : Fin 8) (d : Fin 64) (q : Fin 256) :
    packed (finalA c i arg3 harg3 arg4 harg4 arg5 harg5 arg6 harg6 arg7 harg7 arg8 harg8 arg9 harg9 arg10 harg10 arg11 harg11 arg12 harg12 arg13 harg13 x0 x1 x2 x3 x4) (finalL c i arg3 harg3 arg4 harg4 arg5 harg5 arg6 harg6 arg7 harg7 arg8 harg8 arg9 harg9 arg10 harg10 arg11 harg11 arg12 harg12 arg13 harg13 x0 x1 x2 x3 x4) (ix2 q (feature a d))
      = attend (score i x0 x1 x3 x4 a q) (fun r => x2 (ix2 (feature a d) r)) := by
  obtain ⟨M, h⟩ := final_soft c i arg3 harg3 arg4 harg4 arg5 harg5 arg6 harg6 arg7 harg7 arg8 harg8 arg9 harg9 arg10 harg10 arg11 harg11 arg12 harg12 arg13 harg13 x0 x1 x2 x3 x4 a d q
  rw [packed_apply, headO_apply, h.sum, h.acc, div_sum _ _ _ (lt_max_of_lt_right tiny_pos), h.max]
  rfl

end Out

end Cert.FoxIdeal.Hand
-- ==== Proof.FoxRef.lean ====
/- The attention's reference, element by element. -/
module

public import proofs.«01_k».proof.Proof.Gen.FoxRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.FoxRefIdeal.Hand

open Cert.FoxRefIdeal Cert.FoxRefIdeal.Gen

/-- The row of the arguments that holds position `t` of batch `b`. -/
abbrev rowAt {n : ℕ} (b : Fin 4) (t : Fin 4096) (h : 16384 ≤ n := by omega) : Fin n := ⟨b.val * 4096 + t.val, by have := b.isLt; have := t.isLt; omega⟩

/-- The column that holds feature `d` of head `h`. -/
abbrev colAt (h : Fin 16) (d : Fin 64) : Fin 1024 := ⟨h.val * 64 + d.val, by have := h.isLt; have := d.isLt; omega⟩

/-- The queries, head by head. -/
def queries (q : FVec Ideal S17408x1024 .f32) : FVec Ideal S4x4096x16x64 .f32 :=
  shapeCast _ (extractStridedSlice S16384x1024 ![0, 0] q slices_S17408x1024_S16384x1024_0_0) shapeCasts_S16384x1024_S4x4096x16x64

/-- The keys and the values, head by head. -/
def pairs (kv : FVec Ideal S17408x2048 .f32) : FVec Ideal S4x4096x2x16x64 .f32 :=
  shapeCast _ (extractStridedSlice S16384x2048 ![0, 0] kv slices_S17408x2048_S16384x2048_0_0) shapeCasts_S16384x2048_S4x4096x2x16x64

/-- The keys. -/
def keys (kv : FVec Ideal S17408x2048 .f32) : FVec Ideal S4x4096x16x64 .f32 :=
  shapeCast _ (extractStridedSlice S4x4096x1x16x64 ![0, 0, 0, 0, 0] (pairs kv) slices_S4x4096x2x16x64_S4x4096x1x16x64_0_0_0_0_0) shapeCasts_S4x4096x1x16x64_S4x4096x16x64

/-- The values. -/
def values (kv : FVec Ideal S17408x2048 .f32) : FVec Ideal S4x4096x16x64 .f32 :=
  shapeCast _ (extractStridedSlice S4x4096x1x16x64 ![0, 0, 1, 0, 0] (pairs kv) slices_S4x4096x2x16x64_S4x4096x1x16x64_0_0_1_0_0) shapeCasts_S4x4096x1x16x64_S4x4096x16x64

/-- The decays, head by head. -/
def decays (cum : FVec Ideal S16384x16 .f32) : FVec Ideal S4x16x4096 .f32 :=
  transpose S4x16x4096 [0, 2, 1] (shapeCast _ cum shapeCasts_S16384x16_S4x4096x16) transposes_S4x4096x16_S4x16x4096_0_2_1

/-- The scores, decayed, before the mask. -/
def logits (q : FVec Ideal S17408x1024 .f32) (kv : FVec Ideal S17408x2048 .f32) (cum : FVec Ideal S16384x16 .f32) : FVec Ideal S4x16x4096x4096 .f32 :=
  subf (addf (mulf (Host.dotGeneral dot_S4x4096x16x64_S4x4096x16x64_S4x16x4096x4096_3_3_1_1_02_02 none (queries q) (keys kv)) (broadcastInDim S4x16x4096x4096 ![] bcast_S_S4x16x4096x4096 (constant S_ .f32 0x3E000000#32)))
    (broadcastInDim S4x16x4096x4096 ![0, 1, 2, 3] bcast_S4x16x4096x1_S4x16x4096x4096_0_1_2_3 (broadcastInDim S4x16x4096x1 ![0, 1, 2] bcast_S4x16x4096_S4x16x4096x1_0_1_2 (decays cum))))
    (broadcastInDim S4x16x4096x4096 ![0, 1, 2, 3] bcast_S4x16x1x4096_S4x16x4096x4096_0_1_2_3 (broadcastInDim S4x16x1x4096 ![0, 1, 3] bcast_S4x16x4096_S4x16x1x4096_0_1_3 (decays cum)))

/-- The visible keys of every query. -/
def seen : IVec S4096x4096 1 :=
  cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))

/-- The scores, the keys that are not visible replaced. -/
def hidden (s : FVec Ideal S4x16x4096x4096 .f32) : FVec Ideal S4x16x4096x4096 .f32 :=
  select (broadcastInDim S4x16x4096x4096 ![2, 3] bcast_S4096x4096_S4x16x4096x4096_2_3 seen) s (broadcastInDim S4x16x4096x4096 ![] bcast_S_S4x16x4096x4096 (id (constant S_ .f32 0xF149F2CA#32)))

/-- One element of a query. -/
theorem queries_apply (q b t h d) : queries q (ix4 b t h d) = q (ix2 (rowAt b t) (colAt h d)) := by
  pointwise [queries]

/-- One element of a key. -/
theorem keys_apply (kv b t h d) : keys kv (ix4 b t h d) = kv (ix2 (rowAt b t) ⟨h.val * 64 + d.val, by omega⟩) := by
  pointwise [keys, pairs]

/-- One element of a value. -/
theorem values_apply (kv b t h d) : values kv (ix4 b t h d) = kv (ix2 (rowAt b t) ⟨1024 + h.val * 64 + d.val, by omega⟩) := by
  pointwise [values, pairs]

/-- One decay. -/
theorem decays_apply (cum b h t) : decays cum (ix3 b h t) = cum (ix2 (rowAt b t) h) := by
  pointwise [decays]

/-- One score before the mask. -/
theorem logits_apply (q kv cum b h t r) : logits q kv cum (ix4 b h t r)
    = (∑ d : Fin 64, queries q (ix4 b t h d) * keys kv (ix4 b r h d)) * Ideal.ofBits .f32 0x3E000000#32 + decays cum (ix3 b h t) - decays cum (ix3 b h r) := by
  pointwise [logits]

/-- The greatest score of every query. -/
def most (s : FVec Ideal S4x16x4096x4096 .f32) : FVec Ideal S4x16x4096 .f32 :=
  Host.reduce FloatOps.maximumf s (constant S_ .f32 0xFF800000#32) reducesTo_S4x16x4096x4096_S4x16x4096_d3 h_S_

/-- The exponentials of the scores less the greatest, zero for the keys that are not visible. -/
def weights (s : FVec Ideal S4x16x4096x4096 .f32) : FVec Ideal S4x16x4096x4096 .f32 :=
  mulf (Host.exp (subf s (broadcastInDim S4x16x4096x4096 ![0, 1, 2, 3] bcast_S4x16x4096x1_S4x16x4096x4096_0_1_2_3 (broadcastInDim S4x16x4096x1 ![0, 1, 2] bcast_S4x16x4096_S4x16x4096x1_0_1_2 (most s)))))
    (broadcastInDim S4x16x4096x4096 ![0, 1, 2, 3] bcast_S1x1x4096x4096_S4x16x4096x4096_0_1_2_3 (broadcastInDim S1x1x4096x4096 ![2, 3] bcast_S4096x4096_S1x1x4096x4096_2_3 (uitofp .f32 seen)))

/-- The weights over their sum. -/
def shares (e : FVec Ideal S4x16x4096x4096 .f32) : FVec Ideal S4x16x4096x4096 .f32 :=
  Host.divf e (broadcastInDim S4x16x4096x4096 ![0, 1, 2, 3] bcast_S4x16x4096x1_S4x16x4096x4096_0_1_2_3
    (maximumf (broadcastInDim S4x16x4096x1 ![0, 1, 2] bcast_S4x16x4096_S4x16x4096x1_0_1_2 (Host.reduceAdd e (constant S_ .f32 0x00000000#32) reducesTo_S4x16x4096x4096_S4x16x4096_d3 h_S_))
      (broadcastInDim S4x16x4096x1 ![] bcast_S_S4x16x4096x1 (constant S_ .f32 0x0DA24260#32))))

/-- The shares' sums of the values, the heads of a position side by side. -/
def mixed (v : FVec Ideal S4x4096x16x64 .f32) (p : FVec Ideal S4x16x4096x4096 .f32) : FVec Ideal S16384x1024 .f32 :=
  shapeCast _ (transpose S4x4096x16x64 [0, 3, 1, 2] (Host.dotGeneral dot_S4x4096x16x64_S4x16x4096x4096_S4x16x64x4096_1_3_3_2_02_01 none v p) transposes_S4x16x64x4096_S4x4096x16x64_0_3_1_2) shapeCasts_S4x4096x16x64_S16384x1024

/-- The whole attention. -/
def result (q : FVec Ideal S17408x1024 .f32) (kv : FVec Ideal S17408x2048 .f32) (cum : FVec Ideal S16384x16 .f32) : FVec Ideal S16384x1024 .f32 :=
  mixed (values kv) (shares (weights (hidden (logits q kv cum))))

/-- The reference's result is the attention of its arguments. -/
theorem result_eq (m : (ℓ : Loc nD τ sig) → Buf (Elt Ideal) ℓ) (c : Dev nD) :
    Value.res_main_v44 m c = result (m ((c.tc : Thread nD τ).loc main_arg0)) (m ((c.tc : Thread nD τ).loc main_arg1)) (m ((c.tc : Thread nD τ).loc main_arg2)) := rfl

/-- A small position as a signed word. -/
theorem toInt_small (k : Fin 4096) : (BitVec.ofNat 32 k.val).toInt = k.val := by
  have hk := k.isLt
  rw [BitVec.toInt_eq_toNat_of_lt]
  · rw [BitVec.toNat_ofNat]; congr 1; omega
  · rw [BitVec.toNat_ofNat]; omega

/-- A query sees the keys up to its own. -/
theorem seen_apply (t r) : seen (ix2 t r) = if r.val ≤ t.val then 1#1 else 0#1 := by
  have h : seen (ix2 t r) = IntOp.cmpi CmpIPredicate.sge (BitVec.ofNat 32 t.val) (BitVec.ofNat 32 r.val) := by pointwise [seen]
  rw [h]
  unfold IntOp.cmpi
  simp only [BitVec.sle_eq_decide, toInt_small]
  have e : ((r.val : ℤ) ≤ (t.val : ℤ)) ↔ r.val ≤ t.val := Int.ofNat_le
  by_cases hk : r.val ≤ t.val
  · rw [if_pos hk, decide_eq_true (e.mpr hk)]; rfl
  · rw [if_neg hk, decide_eq_false (fun h => hk (e.mp h))]; rfl

/-- The value that stands for a masked score. -/
abbrev low : EReal := Ideal.ofBits .f32 0xF149F2CA#32

/-- One score, masked. -/
theorem hidden_apply (s b h t r) : hidden s (ix4 b h t r) = if r.val ≤ t.val then s (ix4 b h t r) else low := by
  have e : hidden s (ix4 b h t r) = Scalar.select (seen (ix2 t r)) (s (ix4 b h t r)) low := by
    pointwise [hidden]
    rfl
  rw [e, seen_apply]
  by_cases hk : r.val ≤ t.val
  · rw [if_pos hk, if_pos hk]; rfl
  · rw [if_neg hk, if_neg hk]; rfl

/-- One greatest score. -/
theorem most_apply (s b h t) : most s (ix3 b h t) = Finset.univ.sup fun r => s (ix4 b h t r) := by
  have e : Ideal.ofBits .f32 0xFF800000#32 = ⊥ := by simp [Ideal.ofBits, Ideal.ieee]
  pointwise [most]
  rw [e]
  rfl

/-- One weight. -/
theorem weights_apply (s b h t r) : weights s (ix4 b h t r) = if r.val ≤ t.val then Ideal.exp (s (ix4 b h t r) - most s (ix3 b h t)) else 0 := by
  have e : weights s (ix4 b h t r) = Ideal.exp (s (ix4 b h t r) - most s (ix3 b h t)) * FloatOps.uitofp (F := Ideal) .f32 (seen (ix2 t r)) := by
    pointwise [weights]
  rw [e, seen_apply]
  by_cases hk : r.val ≤ t.val
  · rw [if_pos hk, if_pos hk]
    exact (congrArg _ (show (((1#1).toNat : ℝ) : EReal) = 1 by norm_num)).trans (mul_one _)
  · rw [if_neg hk, if_neg hk]
    exact (congrArg _ (show (((0#1).toNat : ℝ) : EReal) = 0 by norm_num)).trans (mul_zero _)

/-- One share. -/
theorem shares_apply (e b h t r) : shares e (ix4 b h t r) = Ideal.div (e (ix4 b h t r)) (max (∑ k : Fin 4096, e (ix4 b h t k)) (Ideal.ofBits .f32 0x0DA24260#32)) := by
  pointwise [shares]

/-- One element of the values' sum. -/
theorem mixed_apply (v p b h t d) : mixed v p (ix2 (rowAt b t) (colAt h d)) = ∑ r : Fin 4096, p (ix4 b h t r) * v (ix4 b r h d) := by
  have e : mixed v p (ix2 (rowAt b t) (colAt h d)) = ∑ r : Fin 4096, v (ix4 b r h d) * p (ix4 b h t r) := by
    have ht := t.isLt
    have hd := d.isLt
    have e1 : (b.val * 4096 + t.val) / 4096 = b.val := by omega
    have e2 : (b.val * 4096 + t.val) % 4096 = t.val := by omega
    have e3 : (h.val * 64 + d.val) / 64 = h.val := by omega
    have e4 : (h.val * 64 + d.val) % 64 = d.val := by omega
    pointwise [mixed]
    simp only [e1, e2, e3, e4]
  exact e.trans (Finset.sum_congr rfl fun r _ => mul_comm _ _)

end Cert.FoxRefIdeal.Hand
-- ==== Proof.FoxValue.lean ====
/- The value of the attention: the result array of the idealized kernel is the reference's term of the arguments, where each
   query's own score is at least the value that stands for a masked one. -/
module

public import proofs.«01_k».proof.Proof.FoxOut
public import proofs.«01_k».proof.Proof.FoxRef
public import proofs.«01_k».proof.Pre_own_key_above_mask

@[expose] public section

set_option maxRecDepth 16384

noncomputable section

open Idealize.ShloMosaic Idealize.ShloMosaic.TcCoe Idealize.SL.Sem
open Idealize.ShloMosaic.Pipeline (Dat)

namespace Cert.Pre_own_key_above_mask.Hand

open Cert.Pre_own_key_above_mask

/-- The shapes the precondition's operations take fit. -/
theorem facts : Cert.Pre_own_key_above_mask.Facts := by constructor <;> decide

/-- A set bit is a true one. -/
theorem bit_true {b : Bool} (h : BitVec.ofBool b = 1#1) : b = true := by
  cases b
  · exact absurd h (by decide)
  · rfl

/-- The precondition says that each query's own score is at least the masked value. -/
theorem own_key [Facts] (q kv cum) (h : fn (F := Ideal) q kv cum = fun _ => 1#1) (b : Fin 4) (t : Fin 4096) (n : Fin 16) :
    Cert.FoxRefIdeal.Hand.low ≤ Cert.FoxRefIdeal.Hand.logits q kv cum (ix4 b n t t) := by
  have e := congrFun h (ix3 b t n)
  pointwise [fn] at e
  rw [Cert.FoxRefIdeal.Hand.logits_apply]
  simp only [Cert.FoxRefIdeal.Hand.queries_apply, Cert.FoxRefIdeal.Hand.keys_apply, Cert.FoxRefIdeal.Hand.decays_apply]
  exact of_decide_eq_true (bit_true e)

end Cert.Pre_own_key_above_mask.Hand

namespace Cert.FoxIdeal.Hand

open Cert.FoxIdeal Cert.FoxIdeal.Gen
open Cert.FoxRefIdeal.Hand (rowAt colAt queries keys values decays logits low result)

variable (m : (ℓ : Loc nD τ sig) → Buf (Elt Ideal) ℓ)

/-- Argument 0: the queries. -/
abbrev A0 (c : Dev nD) : FVec Ideal S17408x1024 .f32 := m ((c : Thread nD τ).loc main_arg0)

/-- Argument 1: the keys and the values. -/
abbrev A1 (c : Dev nD) : FVec Ideal S17408x2048 .f32 := m ((c : Thread nD τ).loc main_arg1)

/-- Argument 2: the decays. -/
abbrev A2 (c : Dev nD) : FVec Ideal S16384x16 .f32 := m ((c : Thread nD τ).loc main_arg2)

/-- The block each window reads at point `t`: batch `t / 32`, half `t / 16 % 2` of the heads, tile `t % 16` of the queries. -/
theorem idx : ∀ t : Fin cfg0.N, win0_0.index t = ![t.val / 16 % 2, t.val / 32 * 16 + t.val % 16] ∧ win0_1.index t = ![t.val / 32, t.val / 16 % 2]
    ∧ win0_2.index t = ![t.val / 16 % 2, t.val / 32] ∧ win0_3.index t = ![t.val / 32, t.val / 16 % 2, 0, t.val % 16]
    ∧ win0_4.index t = ![t.val / 32, t.val / 16 % 2, 0, 0] ∧ win0_5.index t = ![t.val / 32 * 16 + t.val % 16, t.val / 16 % 2] :=
  (by decide +kernel : ∀ t : Fin grid0.N, _)

/-- The tile of the queries at point `t`. -/
theorem tile : ∀ t : Fin cfg0.N, (grid0.coords t 2).val = t.val % 16 :=
  (by decide +kernel : ∀ t : Fin grid0.N, _)

/-- The batch at point `t`. -/
abbrev batch (t : Fin cfg0.N) : Fin 4 := ⟨t.val / 32, by have := t.isLt; have : cfg0.N = 128 := N_0; omega⟩

/-- The head that head `a` of the half at point `t` is. -/
abbrev head (t : Fin cfg0.N) (a : Fin 8) : Fin 16 := ⟨8 * (t.val / 16 % 2) + a.val, by have := a.isLt; omega⟩

/-- The position that query `q` of the tile at point `t` is. -/
abbrev pos (t : Fin cfg0.N) (q : Fin 256) : Fin 4096 := ⟨256 * (t.val % 16) + q.val, by have := q.isLt; omega⟩

/-- An element of the block of the queries, as an element of the argument. -/
theorem blk0 (c : Dev nD) (t : Fin cfg0.N) (a d q) : (iblk m c 0 t : FVec Ideal S512x256 .bf16) (ix2 (feature a d) q)
    = A0 m c (ix2 (rowAt (batch t) (pos t q)) (colAt (head t a) d)) := by
  blk_point [iblk, V, idx t]

/-- An element of the block of the keys, as an element of the argument. -/
theorem blk1 (c : Dev nD) (t : Fin cfg0.N) (a d) (r : Fin 4096) : (X0_1 m c t : FVec Ideal S4096x512 .bf16) (ix2 r (feature a d))
    = A1 m c (ix2 (rowAt (batch t) r) ⟨(head t a).val * 64 + d.val, by have := (head t a).isLt; omega⟩) := by
  unfold X0_1 Pipeline.Window.fill
  rw [dif_pos (moved0_1 t _)]
  blk_point [iblk, V, idx t]

/-- An element of the block of the values, as an element of the argument. -/
theorem blk2 (c : Dev nD) (t : Fin cfg0.N) (a d) (r : Fin 4096) : (X0_2 m c t : FVec Ideal S512x4096 .bf16) (ix2 (feature a d) r)
    = A1 m c (ix2 (rowAt (batch t) r) ⟨1024 + (head t a).val * 64 + d.val, by have := (head t a).isLt; omega⟩) := by
  unfold X0_2 Pipeline.Window.fill
  rw [dif_pos (moved0_2 t _)]
  blk_point [iblk, V, idx t]

/-- An element of the block of the queries' decays, as an element of the argument. -/
theorem blk3 (c : Dev nD) (t : Fin cfg0.N) (a : Fin 8) (q : Fin 256) : (iblk m c 3 t : FVec Ideal S1x1x8x256 .f32) (ix4 0 0 a q)
    = A2 m c (ix2 (rowAt (batch t) (pos t q)) (head t a)) := by
  blk_point [iblk, V, idx t]

/-- An element of the block of the keys' decays, as an element of the argument. -/
theorem blk4 (c : Dev nD) (t : Fin cfg0.N) (a : Fin 8) (r : Fin 4096) : (iblk m c 4 t : FVec Ideal S1x1x4096x8 .f32) (ix4 0 0 r a)
    = A2 m c (ix2 (rowAt (batch t) r) (head t a)) := by
  blk_point [iblk, V, idx t]

/-- The scores of one query, the keys it does not see at minus infinity. -/
def scored (q : FVec Ideal S17408x1024 .f32) (kv : FVec Ideal S17408x2048 .f32) (cum : FVec Ideal S16384x16 .f32) (b : Fin 4) (h : Fin 16) (t r : Fin 4096) : EReal :=
  if r.val ≤ t.val then logits q kv cum (ix4 b h t r) else ⊥

/-- Where a query's own score is at least the masked value, masking with that value and masking with minus infinity agree. -/
theorem result_apply (q kv cum b h t d) (hk : low ≤ logits q kv cum (ix4 b h t t)) :
    result q kv cum (ix2 (rowAt b t) (colAt h d)) = attend (scored q kv cum b h t) (fun r => values kv (ix4 b r h d)) := by
  have hM : Cert.FoxRefIdeal.Hand.most (Cert.FoxRefIdeal.Hand.hidden (logits q kv cum)) (ix3 b h t) = Finset.univ.sup (scored q kv cum b h t) := by
    rw [Cert.FoxRefIdeal.Hand.most_apply]
    refine le_antisymm (Finset.sup_le fun r _ => ?_) (Finset.sup_le fun r _ => ?_)
    · rw [Cert.FoxRefIdeal.Hand.hidden_apply]
      by_cases hr : r.val ≤ t.val
      · rw [if_pos hr]
        exact le_of_eq_of_le (if_pos hr).symm (Finset.le_sup (f := scored q kv cum b h t) (Finset.mem_univ r))
      · rw [if_neg hr]
        exact hk.trans (le_of_eq_of_le (if_pos le_rfl).symm (Finset.le_sup (f := scored q kv cum b h t) (Finset.mem_univ t)))
    · refine le_trans ?_ (Finset.le_sup (f := fun r => Cert.FoxRefIdeal.Hand.hidden (logits q kv cum) (ix4 b h t r)) (Finset.mem_univ r))
      show scored q kv cum b h t r ≤ Cert.FoxRefIdeal.Hand.hidden (logits q kv cum) (ix4 b h t r)
      rw [Cert.FoxRefIdeal.Hand.hidden_apply]
      by_cases hr : r.val ≤ t.val
      · exact le_of_eq ((if_pos hr).trans (if_pos hr).symm)
      · exact le_of_eq_of_le (if_neg hr) bot_le
  have hw : ∀ r, Cert.FoxRefIdeal.Hand.weights (Cert.FoxRefIdeal.Hand.hidden (logits q kv cum)) (ix4 b h t r)
      = Ideal.exp (scored q kv cum b h t r - Finset.univ.sup (scored q kv cum b h t)) := by
    intro r
    rw [Cert.FoxRefIdeal.Hand.weights_apply, hM, Cert.FoxRefIdeal.Hand.hidden_apply]
    by_cases hr : r.val ≤ t.val
    · rw [if_pos hr, if_pos hr, show scored q kv cum b h t r = _ from if_pos hr]
    · rw [if_neg hr, show scored q kv cum b h t r = ⊥ from if_neg hr]
      exact ((congrArg Ideal.exp (EReal.bot_sub _)).trans Ideal.exp_bot).symm
  unfold result attend
  rw [Cert.FoxRefIdeal.Hand.mixed_apply]
  simp only [Cert.FoxRefIdeal.Hand.shares_apply, hw]

/-- The value the kernel multiplies the queries by, after the sum instead of in each term. -/
theorem scaled (x y : Fin 64 → EReal) : ∑ d, x d * (y d * eighth) = (∑ d, y d * x d) * eighth := by
  have h0 : 0 ≤ eighth := by
    simp [Ideal.ofBits, Ideal.ieee]
    rw [← EReal.coe_mul]
    exact (EReal.coe_pos.mpr (by positivity)).le
  have h1 : eighth ≠ ⊤ := by
    simp [Ideal.ofBits, Ideal.ieee]
    rw [← EReal.coe_mul]
    exact EReal.coe_ne_top _
  rw [mul_comm (∑ d, y d * x d), mul_sum_of_finite _ _ h0 h1]
  refine Finset.sum_congr rfl fun d _ => ?_
  rw [← mul_assoc, mul_comm, mul_comm (x d)]

section Out

variable (c : Dev nD) (i : grid0.Coords) (arg3 : Memref sig .tc .vmem S512x256 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S1x1x8x256 .f32) (harg6 : arg6.IsWhole) (arg7 : Memref sig .tc .vmem S1x1x4096x8 .f32) (harg7 : arg7.IsWhole) (arg8 : Memref sig .tc .vmem S256x512 .f32) (harg8 : arg8.IsWhole) (arg9 : Memref sig .tc .vmem S2x256x1024 .bf16) (harg9 : arg9.IsWhole) (arg10 : Memref sig .tc .vmem S8x1x256 .f32) (harg10 : arg10.IsWhole) (arg11 : Memref sig .tc .vmem S8x1x256 .f32) (harg11 : arg11.IsWhole) (arg12 : Memref sig .tc .vmem S8x64x256 .f32) (harg12 : arg12.IsWhole) (arg13 : Memref sig .tc .vmem S2x256x1024 .bf16) (harg13 : arg13.IsWhole)
  (x0 : Vec Ideal S512x256 .bf16) (x1 : Vec Ideal S4096x512 .bf16) (x2 : Vec Ideal S512x4096 .bf16) (x3 : Vec Ideal S1x1x8x256 .f32) (x4 : Vec Ideal S1x1x4096x8 .f32)

/-- What the body leaves in its output, element by element. -/
theorem out_apply (a : Fin 8) (d : Fin 64) (q : Fin 256) :
    out (F := Ideal) c i arg3 harg3 arg4 harg4 arg5 harg5 arg6 harg6 arg7 harg7 arg8 harg8 arg9 harg9 arg10 harg10 arg11 harg11 arg12 harg12 arg13 harg13 x0 x1 x2 x3 x4 (ix2 q (feature a d))
      = attend (score i x0 x1 x3 x4 a q) (fun r => x2 (ix2 (feature a d) r)) := by
  unfold out
  rw [stored]
  refine (View.read_writes_cons_unit_of_mem VO0_5 _ _ _ _ _ (ix2 q (feature a d)) rfl fun y => ?_).trans
    (stored_apply c i arg3 harg3 arg4 harg4 arg5 harg5 arg6 harg6 arg7 harg7 arg8 harg8 arg9 harg9 arg10 harg10 arg11 harg11 arg12 harg12 arg13 harg13 x0 x1 x2 x3 x4 a d q)
  match y with
  | 0 => exact (Nat.zero_add _).symm
  | 1 => exact (Nat.zero_add _).symm

end Out

/-- The kernel's scores at point `t` are the reference's. -/
theorem score_blk (c : Dev nD) (t : Fin cfg0.N) (a : Fin 8) (q : Fin 256) (r : Fin 4096) :
    score (grid0.coords t) (iblk m c 0 t) (X0_1 m c t) (iblk m c 3 t) (iblk m c 4 t) a q r
      = scored (A0 m c) (A1 m c) (A2 m c) (batch t) (head t a) (pos t q) r := by
  unfold score scored
  rw [tile t]
  refine if_congr Iff.rfl ?_ rfl
  rw [Cert.FoxRefIdeal.Hand.logits_apply, scaled, blk3, blk4]
  simp only [blk0, blk1, Cert.FoxRefIdeal.Hand.queries_apply, Cert.FoxRefIdeal.Hand.keys_apply, Cert.FoxRefIdeal.Hand.decays_apply]

/-- The precondition, on the kernel's memory. -/
abbrev OwnKey (c : Dev nD) : Prop := ∀ b t n, low ≤ logits (A0 m c) (A1 m c) (A2 m c) (ix4 b n t t)

/-- What a point stores is the reference's block. -/
theorem stored_result (c : Dev nD) (hk : OwnKey m c) (t : Fin cfg0.N) (q : Fin 256) (y : Fin 512) :
    outAt m c t (ix2 q y) = result (A0 m c) (A1 m c) (A2 m c) (((cfg0.win 5).blk t).view.emb (ix2 q y)) := by
  obtain ⟨a, d, rfl⟩ : ∃ a d, y = feature a d :=
    ⟨⟨y.val / 64, by have := y.isLt; omega⟩, ⟨y.val % 64, by omega⟩, Fin.ext (by show y.val = 64 * (y.val / 64) + y.val % 64; omega)⟩
  have hy : ((cfg0.win 5).blk t).view.emb (ix2 q (feature a d)) = ix2 (rowAt (batch t) (pos t q)) (colAt (head t a) d) := by
    refine (eq_ix2 _).trans (congrArg₂ ix2 (Fin.ext ?_) (Fin.ext ?_))
    · show win0_5.index t 0 * 256 + 1 * q.val = t.val / 32 * 4096 + (256 * (t.val % 16) + q.val)
      rw [(idx t).2.2.2.2.2]
      show (t.val / 32 * 16 + t.val % 16) * 256 + 1 * q.val = _
      omega
    · show win0_5.index t 1 * 512 + 1 * (64 * a.val + d.val) = (8 * (t.val / 16 % 2) + a.val) * 64 + d.val
      rw [(idx t).2.2.2.2.2]
      show t.val / 16 % 2 * 512 + 1 * (64 * a.val + d.val) = _
      omega
  rw [hy, result_apply _ _ _ _ _ _ _ (hk _ _ _)]
  unfold outAt
  rw [out_apply]
  refine congrArg₂ attend (funext fun r => score_blk m c t a q r) (funext fun r => ?_)
  rw [blk2, Cert.FoxRefIdeal.Hand.values_apply]

/-- The result array after the run is the reference's result. -/
theorem final (c : Dev nD) (hk : OwnKey m c) : (dats m 0 c).arrAt 5 cfg0.N = result (A0 m c) (A1 m c) (A2 m c) := by
  refine (dats m 0 c).arrAt_eq_of_covers 5 _ (by decide +kernel) fun t hf y => ?_
  blk_simp
  rw [after0_5, eq_ix2 y]
  exact stored_result m c hk t (y 0) (y 1)

end Cert.FoxIdeal.Hand
-- ==== Proof.NsaMlpValue.lean ====
/- The value of the joined output projection and feed-forward block of the NSA layers, which adds up three attention
   outputs: the result array of the idealized kernel is the reference's term of the arguments. The reference's lines past the
   sum are those of the block with one attention output. -/
module

public import proofs.«01_k».proof.Proof.MlpValue
public import proofs.«01_k».proof.Proof.Gen.NsaMlpIdeal.Frame
public import proofs.«01_k».proof.Proof.Gen.NsaMlpRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NsaMlpIdeal.Hand
open Cert.NsaMlpIdeal Cert.NsaMlpIdeal.Gen
variable (m : (ℓ : Loc nD τ sig) → Buf (Elt Ideal) ℓ)
/-- Argument 0: the input. -/
abbrev A0 (c : Dev nD) : FVec Ideal S17408x1024 .f32 := m ((c : Thread nD τ).loc main_arg0)

/-- Argument 1: the prompts' compressed attention. -/
abbrev A1 (c : Dev nD) : FVec Ideal S16384x1024 .f32 := m ((c : Thread nD τ).loc main_arg1)

/-- Argument 2: the prompts' selected attention. -/
abbrev A2 (c : Dev nD) : FVec Ideal S16384x1024 .f32 := m ((c : Thread nD τ).loc main_arg2)

/-- Argument 3: the prompts' window attention. -/
abbrev A3 (c : Dev nD) : FVec Ideal S16384x1024 .f32 := m ((c : Thread nD τ).loc main_arg3)

/-- Argument 4: the samples' compressed attention. -/
abbrev A4 (c : Dev nD) : FVec Ideal S1024x1024 .f32 := m ((c : Thread nD τ).loc main_arg4)

/-- Argument 5: the samples' selected attention. -/
abbrev A5 (c : Dev nD) : FVec Ideal S1024x1024 .f32 := m ((c : Thread nD τ).loc main_arg5)

/-- Argument 6: the samples' window attention. -/
abbrev A6 (c : Dev nD) : FVec Ideal S1024x1024 .f32 := m ((c : Thread nD τ).loc main_arg6)

/-- Argument 7: the output weight. -/
abbrev A7 (c : Dev nD) : FVec Ideal S1024x1024 .f32 := m ((c : Thread nD τ).loc main_arg7)

/-- Argument 8: the norm's weight. -/
abbrev A8 (c : Dev nD) : FVec Ideal S1024 .f32 := m ((c : Thread nD τ).loc main_arg8)

/-- Argument 9: the first weight. -/
abbrev A9 (c : Dev nD) : FVec Ideal S1024x4096 .f32 := m ((c : Thread nD τ).loc main_arg9)

/-- Argument 10: the second weight. -/
abbrev A10 (c : Dev nD) : FVec Ideal S4096x1024 .f32 := m ((c : Thread nD τ).loc main_arg10)

/-- The prompts' attention: the sum of the three. -/
abbrev P (c : Dev nD) : FVec Ideal S16384x1024 .f32 := addf (addf (A1 m c) (A2 m c)) (A3 m c)

/-- The samples' attention: the sum of the three. -/
abbrev Q (c : Dev nD) : FVec Ideal S1024x1024 .f32 := addf (addf (A4 m c) (A5 m c)) (A6 m c)

/-- The block each window reads at point `t`: tile `t / 4` of the rows, slice `t % 4` of the hidden columns. -/
theorem idx : ∀ t : Fin cfg0.N, win0_0.index t = ![t.val / 4, 0]
    ∧ win0_1.index t = ![min (t.val / 4) 31, 0]
    ∧ win0_2.index t = ![min (t.val / 4) 31, 0]
    ∧ win0_3.index t = ![min (t.val / 4) 31, 0]
    ∧ win0_4.index t = ![t.val / 4 - 32, 0]
    ∧ win0_5.index t = ![t.val / 4 - 32, 0]
    ∧ win0_6.index t = ![t.val / 4 - 32, 0]
    ∧ win0_7.index t = ![0, 0] ∧ win0_8.index t = ![0, 0] ∧ win0_9.index t = ![0, t.val % 4]
    ∧ win0_10.index t = ![t.val % 4, 0] ∧ win0_11.index t = ![t.val / 4, 0] :=
  (by decide +kernel : ∀ t : Fin grid0.N, _)
/-- The comparison that chooses between the prompts' and the samples' rows. -/
theorem first : ∀ t : Fin cfg0.N, Scalar.cmpi .slt (BitVec.ofNat 32 (grid0.coords t 0).val) 32#32 = if t.val / 4 < 32 then 1#1 else 0#1 :=
  (by decide +kernel : ∀ t : Fin grid0.N, _)
/-- The array row that row `r` of the tile at point `t` is. -/
abbrev row (t : Fin cfg0.N) (r : Fin 512) : Fin 17408 :=
  ⟨t.val / 4 * 512 + r.val, by have := t.isLt; have : cfg0.N = 136 := N_0; have := r.isLt; omega⟩
/-- The hidden column that column `k` of the slice at point `t` is. -/
abbrev col (t : ℕ) (k : Fin 1024) : Fin 4096 := ⟨t % 4 * 1024 + k.val, by have := k.isLt; omega⟩

/-- An element of the block of the input, as an element of the array. -/
theorem blk0 (c : Dev nD) (t : Fin cfg0.N) (r k) : (iblk m c 0 t : FVec Ideal S512x1024 .f32) (ix2 r k)
    = A0 m c (ix2 (row t r) k) := by
  blk_point [iblk, V, idx t]
/-- The sum of the three blocks of the prompts' attention, as an element of the arrays' sum. -/
theorem blkP (c : Dev nD) (t : Fin cfg0.N) (r k) (h : t.val / 4 < 32) :
    (addf (addf (iblk m c 1 t) (iblk m c 2 t)) (iblk m c 3 t) : FVec Ideal S512x1024 .f32) (ix2 r k)
    = P m c (ix2 ⟨t.val / 4 * 512 + r.val, by have := r.isLt; omega⟩ k) := by
  have e : min (t.val / 4) 31 = t.val / 4 := by omega
  pointwise [P]
  blk_point [iblk, V, idx t, e]
/-- The sum of the three blocks of the samples' attention, as an element of the arrays' sum. -/
theorem blkQ (c : Dev nD) (t : Fin cfg0.N) (r k) (h : ¬ t.val / 4 < 32) :
    (addf (addf (iblk m c 4 t) (iblk m c 5 t)) (iblk m c 6 t) : FVec Ideal S512x1024 .f32) (ix2 r k)
    = Q m c (ix2 ⟨t.val / 4 * 512 + r.val - 16384, by have := r.isLt; have := t.isLt; have : cfg0.N = 136 := N_0; omega⟩ k) := by
  have e : (t.val / 4 - 32) * 512 + r.val = t.val / 4 * 512 + r.val - 16384 := by omega
  pointwise [Q]
  blk_point [iblk, V, idx t, e]
/-- An element of the block of the output weight, as an element of the array. -/
theorem blk7 (c : Dev nD) (t : Fin cfg0.N) (r k) : (iblk m c 7 t : FVec Ideal S1024x1024 .bf16) (ix2 r k)
    = A7 m c (ix2 r k) := by
  blk_point [iblk, V, idx t]
/-- An element of the block of the norm's weight, as an element of the array. -/
theorem blk8 (c : Dev nD) (t : Fin cfg0.N) (k) : (iblk m c 8 t : FVec Ideal S1x1024 .f32) (ix2 0 k)
    = A8 m c (ix1 k) := by
  blk_point [iblk, V, idx t]
/-- An element of the block of the first weight, as an element of the array. -/
theorem blk9 (c : Dev nD) (t : Fin cfg0.N) (r k) : (iblk m c 9 t : FVec Ideal S1024x1024 .bf16) (ix2 r k)
    = A9 m c (ix2 r (col t.val k)) := by
  blk_point [iblk, V, idx t]
/-- An element of the block of the second weight, as an element of the array. -/
theorem blk10 (c : Dev nD) (t : Fin cfg0.N) (r k) : (iblk m c 10 t : FVec Ideal S1024x1024 .bf16) (ix2 r k)
    = A10 m c (ix2 (col t.val r) k) := by
  blk_point [iblk, V, idx t]

/-- The residual, of the arguments. -/
def X (c : Dev nD) : FVec Ideal S17408x1024 .f32 :=
  Cert.MlpRefIdeal.Hand.resid (A0 m c) (P m c)
    (Q m c) (A7 m c)

/-- The normalised residual, of the arguments. -/
def H (c : Dev nD) : FVec Ideal S17408x1024 .f32 :=
  Cert.MlpRefIdeal.Hand.normed (X m c) (A8 m c)

/-- The hidden layer, of the arguments. -/
def U (c : Dev nD) : FVec Ideal Cert.MlpRefIdeal.S17408x4096 .f32 :=
  Cert.MlpRefIdeal.Hand.hidden (H m c) (A9 m c)

theorem X_apply (c : Dev nD) (r q) : X m c (ix2 r q) = A0 m c (ix2 r q)
    + ∑ k : Fin 1024, (if h : r.val < 16384 then P m c (ix2 ⟨r.val, h⟩ k)
      else Q m c (ix2 ⟨r.val - 16384, by have := r.isLt; omega⟩ k))
      * A7 m c (ix2 k q) :=
  Cert.MlpRefIdeal.Hand.resid_apply _ _ _ _ r q

theorem H_apply (c : Dev nD) (r q) : H m c (ix2 r q) = X m c (ix2 r q)
    * Ideal.rsqrt (Ideal.div (∑ k : Fin 1024, X m c (ix2 r k) * X m c (ix2 r k)) (Ideal.ofBits FTy.f32 1149239296#32)
      + Ideal.ofBits FTy.f32 897988541#32) * A8 m c (ix1 q) :=
  Cert.MlpRefIdeal.Hand.normed_apply _ _ r q

theorem U_apply (c : Dev nD) (r q) : U m c (ix2 r q)
    = max (∑ k : Fin 1024, H m c (ix2 r k) * A9 m c (ix2 k q)) 0
      * max (∑ k : Fin 1024, H m c (ix2 r k) * A9 m c (ix2 k q)) 0 :=
  Cert.MlpRefIdeal.Hand.hidden_apply _ _ r q

/-- What the slice of hidden columns at point `n` adds to a result's element. -/
abbrev part (c : Dev nD) (r : Fin 17408) (q : Fin 1024) (n : ℕ) : EReal :=
  ∑ k : Fin 1024, U m c (ix2 r (col n k)) * A10 m c (ix2 (col n k) q)

/-- The four slices are all the hidden columns. -/
theorem parts (c : Dev nD) (r q) : ∑ p ∈ Finset.range 4, part m c r q p
    = ∑ k : Fin 4096, U m c (ix2 r k) * A10 m c (ix2 k q) := by
  rw [Finset.sum_range]
  rw [← (finProdFinEquiv (m := 4) (n := 1024)).sum_comp, Fintype.sum_prod_type]
  refine Finset.sum_congr rfl fun p _ => Finset.sum_congr rfl fun k _ => ?_
  have e : col p.val k = finProdFinEquiv (p, k) := by
    apply Fin.ext
    have := p.isLt
    simp only [finProdFinEquiv_apply_val]
    omega
  rw [e]

/-- The residual stored at a tile's first point. -/
theorem stored_resid (c : Dev nD) (t : Fin cfg0.N) (r q) :
    k0_pay5 (BitVec.ofNat 32 (grid0.coords t 0).val) (iblk m c 1 t) (iblk m c 4 t) (iblk m c 2 t) (iblk m c 5 t) (iblk m c 3 t)
        (iblk m c 6 t) (iblk m c 0 t) (iblk m c 7 t) (ix2 r q)
      = X m c (ix2 (row t r) q) := by
  rw [X_apply]
  pointwise [k0_pay5]
  rw [first t, blk0]
  congr 1
  refine Finset.sum_congr rfl fun k _ => ?_
  rw [blk7]
  congr 1
  have hr := r.isLt
  by_cases h : t.val / 4 < 32
  · rw [dif_pos (show (row t r).val < 16384 by show t.val / 4 * 512 + r.val < 16384; omega)]
    refine Eq.trans ?_ (blkP m c t r k h)
    simp only [if_pos h]
    rfl
  · rw [dif_neg (show ¬ (row t r).val < 16384 by show ¬ t.val / 4 * 512 + r.val < 16384; omega)]
    refine Eq.trans ?_ (blkQ m c t r k h)
    simp only [if_neg h]
    rfl

/-- The normalised residual stored at a tile's first point. -/
theorem stored_normed (c : Dev nD) (t : Fin cfg0.N) (r q) :
    k0_pay1 (k0_pay7 (BitVec.ofNat 32 (grid0.coords t 0).val) (iblk m c 1 t) (iblk m c 4 t) (iblk m c 2 t) (iblk m c 5 t)
        (iblk m c 3 t) (iblk m c 6 t) (iblk m c 0 t) (iblk m c 7 t)) (k0_pay8 (iblk m c 8 t)) (ix2 r q) = H m c (ix2 (row t r) q) := by
  rw [H_apply]
  pointwise [k0_pay1, k0_pay7, k0_pay8]
  simp only [stored_resid, blk8]

/-- One step adds the point's slice to the sum. -/
theorem stored_sum (c : Dev nD) (t : Fin cfg0.N) (h : FVec Ideal S512x1024 .bf16) (a : FVec Ideal S512x1024 .f32) (r q)
    (hh : ∀ k, h (ix2 r k) = H m c (ix2 (row t r) k)) :
    k0_pay3 h (iblk m c 9 t) a (iblk m c 10 t) (ix2 r q) = a (ix2 r q) + part m c (row t r) q t.val := by
  pointwise [k0_pay3]
  congr 1
  refine Finset.sum_congr rfl fun k _ => ?_
  rw [U_apply, blk10]
  simp only [hh, blk9]

/-- What a tile's points leave in the scratch: the residual, its normalised rows, and the sum over the slices so far. -/
abbrev Held (c : Dev nD) (n : ℕ) (t : Fin cfg0.N)
    (s : Vec Ideal S512x1024 .f32 × Vec Ideal S512x1024 .f32 × Vec Ideal S512x1024 .bf16 × Vec Ideal S512x1024 .f32) : Prop :=
  (∀ r q, s.2.1 (ix2 r q) = X m c (ix2 (row t r) q)) ∧ (∀ r q, s.2.2.1 (ix2 r q) = H m c (ix2 (row t r) q))
    ∧ ∀ r q, s.2.2.2 (ix2 r q) = ∑ p ∈ Finset.range n, part m c (row t r) q p

theorem part_mod (c : Dev nD) (r q) (n : ℕ) : part m c r q n = part m c r q (n % 4) := by
  have e : ∀ k, col n k = col (n % 4) k := fun k => by simp [col]
  simp only [part, e]

theorem held_first (c : Dev nD) (t : Fin cfg0.N) (h : t.val % 4 = 0) : Held m c 1 t (outsAt0 m c t.val t.isLt) := by
  rw [outsAt0_A m c t h (by omega)]
  refine ⟨fun r q => ?_, fun r q => ?_, fun r q => ?_⟩
  · frame_out
    refine Eq.trans ?_ (stored_resid m c t r q)
    pointwise [k0_pay6]
  · frame_out
    exact stored_normed m c t r q
  · frame_out
    rw [stored_sum m c t _ _ r q (stored_normed m c t r), Finset.sum_range_one, part_mod m c _ _ t.val, h]
    pointwise [k0_pay2]

theorem held_next (c : Dev nD) (n : ℕ) (t u : Fin cfg0.N) (hu : u.val = t.val - 1) (h0 : t.val % 4 = n) (hn : n = 1 ∨ n = 2)
    (h : Held m c n u (outsAt0 m c u.val u.isLt)) : Held m c (n + 1) t (outsAt0 m c t.val t.isLt) := by
  obtain ⟨u, hul⟩ := u
  subst hu
  have hrow : ∀ r, row ⟨t.val - 1, hul⟩ r = row t r := fun r => by
    apply Fin.ext; show (t.val - 1) / 4 * 512 + r.val = t.val / 4 * 512 + r.val; omega
  simp only [Held, hrow] at h
  rw [outsAt0_B m c t (by omega) (by omega)]
  refine ⟨fun r q => ?_, fun r q => ?_, fun r q => ?_⟩
  · frame_out
    exact h.1 r q
  · frame_out
    exact h.2.1 r q
  · frame_out
    simp only [read_unread_whole]
    rw [stored_sum m c t _ _ r q (h.2.1 r), Finset.sum_range_succ, part_mod m c _ _ t.val, h0]
    congr 1
    exact h.2.2 r q

/-- What the last step stores is the residual plus the sum over the four slices. -/
theorem stored_result (c : Dev nD) (t : Fin cfg0.N) (h3 : t.val % 4 = 3) (x a : FVec Ideal S512x1024 .f32)
    (h : FVec Ideal S512x1024 .bf16) (r : Fin 512) (q : Fin 1024)
    (hx : x (ix2 r q) = X m c (ix2 (row t r) q))
    (hh : ∀ k, h (ix2 r k) = H m c (ix2 (row t r) k))
    (ha : a (ix2 r q) = ∑ p ∈ Finset.range 3, part m c (row t r) q p) :
    k0_pay4 x (k0_pay3 h (iblk m c 9 t) a (iblk m c 10 t)) (ix2 r q)
      = Cert.MlpRefIdeal.Hand.added (X m c) (U m c) (A10 m c) (((cfg0.win 11).blk t).view.emb (ix2 r q)) := by
  have hy : ((cfg0.win 11).blk t).view.emb (ix2 r q) = ix2 (row t r) q := by
    refine (eq_ix2 _).trans (congrArg₂ ix2 (Fin.ext ?_) (Fin.ext ?_)) <;> blk_point [idx t]
  have e : k0_pay4 x (k0_pay3 h (iblk m c 9 t) a (iblk m c 10 t)) (ix2 r q)
      = x (ix2 r q) + k0_pay3 h (iblk m c 9 t) a (iblk m c 10 t) (ix2 r q) := rfl
  rw [e, hy]
  refine Eq.trans ?_ (Cert.MlpRefIdeal.Hand.added_apply _ _ _ (row t r) q).symm
  rw [stored_sum m c t h a r q hh, hx, ha, part_mod m c _ _ t.val, h3]
  exact congrArg _ ((Finset.sum_range_succ _ 3).symm.trans (parts m c (row t r) q))

/-- The result array after the run is the reference's result. -/
theorem final (c : Dev nD) : (dats m 0 c).arrAt 11 cfg0.N
    = Cert.MlpRefIdeal.Hand.added (X m c) (U m c) (A10 m c) := by
  refine (dats m 0 c).arrAt_eq_of_covers 11 _ (by decide +kernel) fun t hf y => ?_
  have h3 : t.val % 4 = 3 := (flush0_11 t).mp hf
  have hN : t.val < 136 := lt_of_lt_of_eq t.isLt N_0
  have N : cfg0.N = 136 := N_0
  have s0 := held_first m c ⟨t.val - 3, by omega⟩ (by show (t.val - 3) % 4 = 0; omega)
  have s1 := held_next m c 1 ⟨t.val - 2, by omega⟩ _ (by show t.val - 3 = t.val - 2 - 1; omega)
    (by show (t.val - 2) % 4 = 1; omega) (.inl rfl) s0
  have s2 := held_next m c 2 ⟨t.val - 1, by omega⟩ _ (by show t.val - 2 = t.val - 1 - 1; omega)
    (by show (t.val - 1) % 4 = 2; omega) (.inr rfl) s1
  have hrow : ∀ r, row ⟨t.val - 1, by omega⟩ r = row t r := fun r => by
    apply Fin.ext; show (t.val - 1) / 4 * 512 + r.val = t.val / 4 * 512 + r.val; omega
  simp only [Held, hrow] at s2
  blk_simp
  rw [after0_11, outsAt0_C m c t (by omega) h3]
  frame_out
  simp only [read_unread_whole]
  rw [eq_ix2 y]
  exact stored_result m c t h3 _ _ _ (y 0) (y 1) (s2.1 _ _) (s2.2.1 _) (s2.2.2 _ _)

/-- The idealized kernel ends with the result array as the grid's points wrote it, and the arguments as they were. -/
theorem ran (g : Dev nD → PrngReg) :
    θ_run defs (onTc (τ := τ) (main (F := Ideal))) ⟨m, fun _ => 0, g⟩ fun r =>
      (∀ c : Dev nD, r.2.mem ((c : Thread nD τ).loc main_v4) = (dats m 0 c).arrAt 11 cfg0.N)
      ∧ ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10) :=
  θ_run_and ((θ_run defs _ _).mono (fun _ h c => (h c).1 11) (run_main m g)) (unchanged m g)

end Cert.NsaMlpIdeal.Hand

end
-- ==== Proof.NsaProjValue.lean ====
/- The value of the NSA layers' input projection: each of the eight result arrays of the idealized kernel is the
   reference's term of the arguments. -/
module

public import proofs.«01_k».proof.Proof.Gen.NsaProjIdeal.Value
public import proofs.«01_k».proof.Proof.Gen.NsaProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NsaProjRefIdeal.Hand

open Cert.NsaProjRefIdeal Cert.NsaProjRefIdeal.Gen

variable (x : FVec Ideal S17408x1024 .f32) (g : FVec Ideal S1024 .f32) (w : FVec Ideal S1024x2608 .f32)

/-- Each row divided by the root of its mean square plus 1e-6, times the weight. -/
abbrev normed : FVec Ideal S17408x1024 .f32 :=
  mulf (mulf x (broadcastInDim S17408x1024 ![0, 1] bcast_S17408x1_S17408x1024_0_1
    (Host.rsqrt (addf (Host.divf
      (broadcastInDim S17408x1 ![0] bcast_S17408_S17408x1_0
        (Host.reduceAdd (mulf x x) (constant S_ .f32 0x00000000#32) reducesTo_S17408x1024_S17408_d1 h_S_))
      (broadcastInDim S17408x1 ![] bcast_S_S17408x1 (constant S_ .f32 0x44800000#32)))
      (broadcastInDim S17408x1 ![] bcast_S_S17408x1 (constant S_ .f32 0x358637BD#32))))))
    (broadcastInDim S17408x1024 ![0, 1] bcast_S1x1024_S17408x1024_0_1 (broadcastInDim S1x1024 ![1] bcast_S1024_S1x1024_1 g))

/-- The combined projection of the normalised rows. -/
abbrev proj : FVec Ideal S17408x2608 .f32 :=
  Host.dotGeneral dot_S17408x1024_S1024x2608_S17408x2608_1_0_0_1_n_n none (normed x g) w

/-- The keys and values of the compressed and the selected branch. -/
abbrev kvs : FVec Ideal S17408x1024 .f32 :=
  extractStridedSlice S17408x1024 ![0, 1024] (proj x g w) slices_S17408x2608_S17408x1024_0_1024

/-- The same as bfloat16. -/
abbrev kvsBf : FVec Ideal S17408x1024 .bf16 :=
  truncf .bf16 (kvs x g w) bitsLt_bf16_f32

/-- The keys and values of the window branch. -/
abbrev wins : FVec Ideal S17408x512 .f32 :=
  extractStridedSlice S17408x512 ![0, 2048] (proj x g w) slices_S17408x2608_S17408x512_0_2048

/-- The same as bfloat16. -/
abbrev winsBf : FVec Ideal S17408x512 .bf16 :=
  truncf .bf16 (wins x g w) bitsLt_bf16_f32

/-- The queries, feature-major. -/
abbrev queriesT : FVec Ideal S1024x17408 .bf16 :=
  truncf .bf16 (transpose S1024x17408 [1, 0] (extractStridedSlice S17408x1024 ![0, 0] (proj x g w) slices_S17408x2608_S17408x1024_0_0)
    transposes_S17408x1024_S1024x17408_1_0) bitsLt_bf16_f32

/-- The selected branch's values, feature-major. -/
abbrev selectedT : FVec Ideal S256x17408 .bf16 :=
  truncf .bf16 (transpose S256x17408 [1, 0]
    (extractStridedSlice S17408x256 ![0, 768] (kvs x g w) slices_S17408x1024_S17408x256_0_768)
    transposes_S17408x256_S256x17408_1_0) bitsLt_bf16_f32

/-- The window branch's values, feature-major. -/
abbrev windowT : FVec Ideal S256x17408 .bf16 :=
  truncf .bf16 (transpose S256x17408 [1, 0]
    (extractStridedSlice S17408x256 ![0, 256] (wins x g w) slices_S17408x512_S17408x256_0_256)
    transposes_S17408x256_S256x17408_1_0) bitsLt_bf16_f32

/-- The branch gates' inputs, feature-major. -/
abbrev gatesT : FVec Ideal S48x17408 .f32 :=
  transpose S48x17408 [1, 0] (extractStridedSlice S17408x48 ![0, 2560] (proj x g w) slices_S17408x2608_S17408x48_0_2560)
    transposes_S17408x48_S48x17408_1_0

end Cert.NsaProjRefIdeal.Hand

namespace Cert.NsaProjIdeal.Hand

open Cert.NsaProjIdeal Cert.NsaProjIdeal.Gen Cert.NsaProjRefIdeal.Hand

variable (m : (ℓ : Loc nD τ sig) → Buf (Elt Ideal) ℓ)

/-- The row tile at point `t` is tile `t`, in the feature-major results the column tile; the weights are one block. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] ∧ win0_8.index t = ![0, t.val]
    ∧ win0_9.index t = ![0, t.val] ∧ win0_10.index t = ![0, t.val] ∧ win0_11.index t = ![0, t.val] :=
  (by decide +kernel : ∀ t : Fin grid0.N, _)

/-- The keys and values of the compressed and the selected branch after the run. -/
theorem final4 (c : Dev nD) : (dats m 0 c).arrAt 4 cfg0.N = kvs (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp; rw [after0_4]; frame_out
  pointwise [k0_pay7, k0_pay6, kvs, proj, normed]
  blk_point [iblk, V, idx t]

/-- Their bfloat16 copy after the run. -/
theorem final5 (c : Dev nD) : (dats m 0 c).arrAt 5 cfg0.N = kvsBf (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp; rw [after0_5]; frame_out
  pointwise [k0_pay8, k0_pay7, k0_pay6, kvsBf, kvs, proj, normed]
  blk_point [iblk, V, idx t]

/-- The keys and values of the window branch after the run. -/
theorem final6 (c : Dev nD) : (dats m 0 c).arrAt 6 cfg0.N = wins (m ((c : Thread nD τ).loc main_arg0))
    (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay9, k0_pay6, wins, proj, normed]
  blk_point [iblk, V, idx t]

/-- Their bfloat16 copy after the run. -/
theorem final7 (c : Dev nD) : (dats m 0 c).arrAt 7 cfg0.N = winsBf (m ((c : Thread nD τ).loc main_arg0))
    (m ((c : Thread nD τ).loc main_arg1)) (m ((c : Thread nD τ).loc main_arg2)) := by
  refine (dats m 0 c).arrAt_eq_of_covers 7 _ (by decide +kernel) fun t hf y => ?_
  blk_simp; rw [after0_7]; frame_out
  pointwise [k0_pay1, k0_pay10, k0_pay11, k0_pay6, winsBf, wins, proj, normed]
  blk_point [iblk, V, idx t]

/-- The queries after the run. -/
theorem final8 (c : Dev nD) : (dats m 0 c).arrAt 8 cfg0.N = queriesT (m ((c : Thread nD τ).loc main_arg0))
    (m ((c : Thread nD τ).loc main_arg1)) (m ((c : Thread nD τ).loc main_arg2)) := by
  refine (dats m 0 c).arrAt_eq_of_covers 8 _ (by decide +kernel) fun t hf y => ?_
  blk_simp; rw [after0_8]; frame_out
  pointwise [k0_pay2, k0_pay11, k0_pay6, queriesT, proj, normed]
  blk_point [iblk, V, idx t]

/-- The selected branch's values after the run. -/
theorem final9 (c : Dev nD) : (dats m 0 c).arrAt 9 cfg0.N = selectedT (m ((c : Thread nD τ).loc main_arg0))
    (m ((c : Thread nD τ).loc main_arg1)) (m ((c : Thread nD τ).loc main_arg2)) := by
  refine (dats m 0 c).arrAt_eq_of_covers 9 _ (by decide +kernel) fun t hf y => ?_
  blk_simp; rw [after0_9]; frame_out
  pointwise [k0_pay3, k0_pay11, k0_pay6, selectedT, kvs, proj, normed]
  blk_point [iblk, V, idx t]

/-- The window branch's values after the run. -/
theorem final10 (c : Dev nD) : (dats m 0 c).arrAt 10 cfg0.N = windowT (m ((c : Thread nD τ).loc main_arg0))
    (m ((c : Thread nD τ).loc main_arg1)) (m ((c : Thread nD τ).loc main_arg2)) := by
  refine (dats m 0 c).arrAt_eq_of_covers 10 _ (by decide +kernel) fun t hf y => ?_
  blk_simp; rw [after0_10]; frame_out
  pointwise [k0_pay4, k0_pay11, k0_pay6, windowT, wins, proj, normed]
  blk_point [iblk, V, idx t]

/-- The branch gates' inputs after the run. -/
theorem final11 (c : Dev nD) : (dats m 0 c).arrAt 11 cfg0.N = gatesT (m ((c : Thread nD τ).loc main_arg0))
    (m ((c : Thread nD τ).loc main_arg1)) (m ((c : Thread nD τ).loc main_arg2)) := by
  refine (dats m 0 c).arrAt_eq_of_covers 11 _ (by decide +kernel) fun t hf y => ?_
  blk_simp; rw [after0_11]; frame_out
  pointwise [k0_pay5, k0_pay11, k0_pay6, gatesT, proj, normed]
  blk_point [iblk, V, idx t]

end Cert.NsaProjIdeal.Hand

end
-- ==== Proof.GlaProjValue.lean ====
/- The value of the GLA layers' input projection: each of the five result arrays of the idealized kernel is the
   reference's term of the arguments. -/
module

public import proofs.«01_k».proof.Proof.Gen.GlaProjIdeal.Value
public import proofs.«01_k».proof.Proof.Gen.GlaProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GlaProjRefIdeal.Hand

open Cert.GlaProjRefIdeal Cert.GlaProjRefIdeal.Gen

variable (x : FVec Ideal S17408x1024 .f32) (g : FVec Ideal S1024 .f32) (w : FVec Ideal S1024x3088 .f32)

/-- Each row divided by the root of its mean square plus 1e-6, times the weight. -/
abbrev normed : FVec Ideal S17408x1024 .f32 :=
  mulf (mulf x (broadcastInDim S17408x1024 ![0, 1] bcast_S17408x1_S17408x1024_0_1
    (Host.rsqrt (addf (Host.divf
      (broadcastInDim S17408x1 ![0] bcast_S17408_S17408x1_0
        (Host.reduceAdd (mulf x x) (constant S_ .f32 0x00000000#32) reducesTo_S17408x1024_S17408_d1 h_S_))
      (broadcastInDim S17408x1 ![] bcast_S_S17408x1 (constant S_ .f32 0x44800000#32)))
      (broadcastInDim S17408x1 ![] bcast_S_S17408x1 (constant S_ .f32 0x358637BD#32))))))
    (broadcastInDim S17408x1024 ![0, 1] bcast_S1x1024_S17408x1024_0_1 (broadcastInDim S1x1024 ![1] bcast_S1024_S1x1024_1 g))

/-- The combined projection of the normalised rows. -/
abbrev proj : FVec Ideal S17408x3088 .f32 :=
  Host.dotGeneral dot_S17408x1024_S1024x3088_S17408x3088_1_0_0_1_n_n none (normed x g) w

/-- The queries. -/
abbrev queries : FVec Ideal S17408x512 .f32 :=
  extractStridedSlice S17408x512 ![0, 0] (proj x g w) slices_S17408x3088_S17408x512_0_0

/-- The keys. -/
abbrev keys : FVec Ideal S17408x512 .f32 :=
  extractStridedSlice S17408x512 ![0, 512] (proj x g w) slices_S17408x3088_S17408x512_0_512

/-- The values. -/
abbrev values : FVec Ideal S17408x1024 .f32 :=
  extractStridedSlice S17408x1024 ![0, 1024] (proj x g w) slices_S17408x3088_S17408x1024_0_1024

/-- The output gates' inputs. -/
abbrev outs : FVec Ideal S17408x1024 .f32 :=
  extractStridedSlice S17408x1024 ![0, 2048] (proj x g w) slices_S17408x3088_S17408x1024_0_2048

/-- The decay's low-rank factor. -/
abbrev lows : FVec Ideal S17408x16 .f32 :=
  extractStridedSlice S17408x16 ![0, 3072] (proj x g w) slices_S17408x3088_S17408x16_0_3072

end Cert.GlaProjRefIdeal.Hand

namespace Cert.GlaProjIdeal.Hand

open Cert.GlaProjIdeal Cert.GlaProjIdeal.Gen Cert.GlaProjRefIdeal.Hand

variable (m : (ℓ : Loc nD τ sig) → Buf (Elt Ideal) ℓ)

/-- The row tile at point `t` is tile `t`; the weights are one block. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val, 0] ∧ win0_7.index t = ![t.val, 0] ∧ win0_8.index t = ![t.val, 0] :=
  (by decide +kernel : ∀ t : Fin grid0.N, _)

/-- The queries after the run. -/
theorem final4 (c : Dev nD) : (dats m 0 c).arrAt 4 cfg0.N = queries (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp; rw [after0_4]; frame_out
  pointwise [k0_pay3, k0_pay2, queries, proj, normed]
  blk_point [iblk, V, idx t]

/-- The keys after the run. -/
theorem final5 (c : Dev nD) : (dats m 0 c).arrAt 5 cfg0.N = keys (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp; rw [after0_5]; frame_out
  pointwise [k0_pay4, k0_pay2, keys, proj, normed]
  blk_point [iblk, V, idx t]

/-- The values after the run. -/
theorem final6 (c : Dev nD) : (dats m 0 c).arrAt 6 cfg0.N = values (m ((c : Thread nD τ).loc main_arg0))
    (m ((c : Thread nD τ).loc main_arg1)) (m ((c : Thread nD τ).loc main_arg2)) := by
  refine (dats m 0 c).arrAt_eq_of_covers 6 _ (by decide +kernel) fun t hf y => ?_
  blk_simp; rw [after0_6]; frame_out
  pointwise [k0_pay5, k0_pay2, values, proj, normed]
  blk_point [iblk, V, idx t]

/-- The output gates' inputs after the run. -/
theorem final7 (c : Dev nD) : (dats m 0 c).arrAt 7 cfg0.N = outs (m ((c : Thread nD τ).loc main_arg0))
    (m ((c : Thread nD τ).loc main_arg1)) (m ((c : Thread nD τ).loc main_arg2)) := by
  refine (dats m 0 c).arrAt_eq_of_covers 7 _ (by decide +kernel) fun t hf y => ?_
  blk_simp; rw [after0_7]; frame_out
  pointwise [k0_pay6, k0_pay2, outs, proj, normed]
  blk_point [iblk, V, idx t]

/-- The decay's low-rank factor after the run. -/
theorem final8 (c : Dev nD) : (dats m 0 c).arrAt 8 cfg0.N = lows (m ((c : Thread nD τ).loc main_arg0))
    (m ((c : Thread nD τ).loc main_arg1)) (m ((c : Thread nD τ).loc main_arg2)) := by
  refine (dats m 0 c).arrAt_eq_of_covers 8 _ (by decide +kernel) fun t hf y => ?_
  blk_simp; rw [after0_8]; frame_out
  pointwise [k0_pay1, k0_pay2, lows, proj, normed]
  blk_point [iblk, V, idx t]

end Cert.GlaProjIdeal.Hand

end
-- ==== Proof.WinValue.lean ====
/- The value of the decoding window's state: the idealized kernel's array of the last 512 window rows, features first,
   is the reference's: the past rows followed by the new ones, the oldest dropped. -/
module

public import proofs.«01_k».proof.Proof.Gen.WinIdeal.Value
public import proofs.«01_k».proof.Proof.Gen.WinRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WinRefIdeal.Hand

open Cert.WinRefIdeal Cert.WinRefIdeal.Gen

variable (s : FVec Ideal S2x128x512x2x4x64 .f32) (n : FVec Ideal S17408x512 .f32)

/-- The past rows of the first NSA layer followed by each sequence's new rows. -/
abbrev rows : FVec Ideal S128x520x2x4x64 .f32 :=
  concatenate S128x520x2x4x64 1
    [⟨S128x512x2x4x64, shapeCast S128x512x2x4x64
      (extractStridedSlice S1x128x512x2x4x64 ![0, 0, 0, 0, 0, 0] s slices_S2x128x512x2x4x64_S1x128x512x2x4x64_0_0_0_0_0_0)
      shapeCasts_S1x128x512x2x4x64_S128x512x2x4x64⟩,
     ⟨S128x8x2x4x64, shapeCast S128x8x2x4x64
      (extractStridedSlice S1024x512 ![16384, 0] n slices_S17408x512_S1024x512_16384_0) shapeCasts_S1024x512_S128x8x2x4x64⟩]
    concatenates_S128x512x2x4x64_S128x8x2x4x64_S128x520x2x4x64_d1

/-- The last 512 of them, features first. -/
abbrev state : FVec Ideal S128x512x512 .f32 :=
  shapeCast S128x512x512 (transpose S128x2x4x64x512 [0, 2, 3, 4, 1]
    (extractStridedSlice S128x512x2x4x64 ![0, 8, 0, 0, 0] (rows s n) slices_S128x520x2x4x64_S128x512x2x4x64_0_8_0_0_0)
    transposes_S128x512x2x4x64_S128x2x4x64x512_0_2_3_4_1) shapeCasts_S128x2x4x64x512_S128x512x512

/-- The state at an index: a past row while there is one, a new row after that. -/
theorem state_apply (b : Fin 128) (f : Fin 512) (j : Fin 512) : state s n (ix3 b f j) =
    if h : 8 + j.val < 512 then s (ix6 0 b ⟨8 + j.val, h⟩ ⟨f.val / 256, by omega⟩ ⟨f.val / 64 % 4, by omega⟩ ⟨f.val % 64, by omega⟩)
    else n (ix2 ⟨16384 + (b.val * 8 + (8 + j.val - 512)), by omega⟩ f) := by
  pointwise [state, rows]

end Cert.WinRefIdeal.Hand

namespace Cert.WinIdeal.Hand

open Cert.WinIdeal Cert.WinIdeal.Gen Cert.WinRefIdeal.Hand

variable (m : (ℓ : Loc nD τ sig) → Buf (Elt Ideal) ℓ)

/-- Point `t` reads sequence `t`'s past and new rows and writes sequence `t`'s state. -/
theorem idx : ∀ t : Fin cfg0.N, win0_2.index t = ![0, t.val, 0, 0] ∧ win0_3.index t = ![2048 + t.val, 0]
    ∧ win0_7.index t = ![t.val, 0, 0] :=
  (by decide +kernel : ∀ t : Fin grid0.N, _)

/-- The mask of the last eight lanes of the last tile. -/
theorem lane : ∀ k : Fin 128, IntOp.cmpi CmpIPredicate.sge (BitVec.ofNat 32 k.val) 120#32 = if 120 ≤ k.val then 1#1 else 0#1 := by
  decide +kernel

/-- The block that a point writes: the past rows moved up by eight, the new rows in the last eight places. -/
theorem block (c : Dev nD) (t : Fin cfg0.N) (y : S1x512x512.Idx) : (outsAt0 m c t).2 y =
    if h : 8 + (y 2).val < 512 then iblk m c 2 t (ix4 0 0 (y 1) ⟨8 + (y 2).val, h⟩)
    else iblk m c 3 t (ix2 ⟨8 + (y 2).val - 512, by have := (y 2).isLt; change (y 2).val < 512 at this; omega⟩ (y 1)) := by
  have hy := (y 2).isLt
  change (y 2).val < 512 at hy
  unfold outsAt0
  frame_out
  by_cases hl : (y 2).val < 384
  · rw [View.canon_cons_of_not_mem]
    · rw [dif_pos (by omega)]
      refine View.canon_eq_of_allAt _ _ _ ?_ ?_
      · exact View.cover_of_tiled_head _ _ _ (by rfl) y
      refine View.allAt_cons_unit _ _ _ _ _ (fun x hx => ?_) (View.allAt_nil _ _)
      have h1 := hx 1
      have h2 := hx 2
      change (y 1).val = 0 + (x 1).val at h1
      change (y 2).val = 0 + (x 2).val at h2
      pointwise [k0_pay1, k0_pay77]
      congr 2
      · exact Fin.ext (by omega)
      · exact Fin.ext (show ((x 2).val + 512 - 504) % 512 = 8 + (y 2).val by omega)
    · intro hm
      have h := (Rect.mem_set_unit (inb := inb_S1x512x512_S1x512x128_0_0_384) (i := y)).1 hm
      have h2 : 384 ≤ (y 2).val := (h 2).1
      omega
  · obtain ⟨k, hk⟩ : ∃ k : Fin 128, (y 2).val = 384 + k.val := ⟨⟨(y 2).val - 384, by omega⟩, by simp only; omega⟩
    have e : y = (Rect.unit ![0, 0, 384] ![1, 512, 128] inb_S1x512x512_S1x512x128_0_0_384).emb (ix3 0 (y 1) k) := by
      funext a
      refine Fin.ext ?_
      refine Eq.trans ?_ (Rect.idx_unit_val ..).symm
      fin_cases a
      · have h0 := (y 0).isLt
        change (y 0).val < 1 at h0
        change (y 0).val = 0 + 0
        omega
      · change (y 1).val = 0 + (y 1).val
        omega
      · exact hk
    refine (congrArg _ e).trans ((View.canon_cons_emb _ _ _ _).trans ?_)
    have hlane := lane k
    pointwise [k0_pay2, k0_pay50, k0_pay77]
    rw [show IntOp.cmpi CmpIPredicate.sge (BitVec.ofNat 32 k.val) 120#32 = _ from hlane]
    have hkl := k.isLt
    by_cases hn : 120 ≤ k.val
    · rw [if_pos hn, WordCmp.select_one, dif_pos (by omega), dif_neg (by omega)]
      congr 2
      exact Fin.ext (show (k.val + 128 - 120) % 128 = 8 + (y 2).val - 512 by omega)
    · rw [if_neg hn, WordCmp.select_zero, dif_pos (by omega)]
      congr 2
      exact Fin.ext (show (384 + k.val + 512 - 504) % 512 = 8 + (y 2).val by omega)

/-- The state after the run: the reference's. -/
theorem final7 (c : Dev nD) : (dats m 0 c).arrAt 7 cfg0.N = state (m ((c : Thread nD τ).loc main_arg1))
    (m ((c : Thread nD τ).loc main_arg2)) := by
  refine (dats m 0 c).arrAt_eq_of_covers 7 _ (by decide +kernel) fun t hf y => ?_
  blk_simp
  rw [after0_7, block]
  have hy := (y 2).isLt
  change (y 2).val < 512 at hy
  have e : (win0_7.blk t).view.emb y = ix3 t (y 1) (y 2) := by
    blk_point [idx t]
  rw [e]
  refine Eq.trans ?_ (state_apply _ _ t (y 1) (y 2)).symm
  by_cases h : 8 + (y 2).val < 512
  · rw [dif_pos h]
    refine Eq.trans ?_ (dif_pos h).symm
    blk_point [iblk, V, idx t]
  · rw [dif_neg h]
    refine Eq.trans ?_ (dif_neg h).symm
    blk_point [iblk, V, idx t]

end Cert.WinIdeal.Hand

end
-- ==== Proof.LogSigmoid.lean ====
/- The logarithm of the sigmoid, in the kernel's form and in the reference's. -/
module

public import Idealize.ShloMosaic.Lib.Pipeline.ValueKit

@[expose] public section

noncomputable section

namespace Cert.LogSigmoid

open Idealize.ShloMosaic

/-- The logarithm of one plus an exponential is at least zero. -/
theorem log_nonneg (u : EReal) : 0 ≤ Ideal.log (1 + Ideal.exp u) := by
  induction u with
  | bot =>
    rw [Ideal.exp_bot, add_zero]
    change 0 ≤ Ideal.log ((1 : ℝ) : EReal)
    rw [Ideal.log_coe, if_neg (by norm_num), Real.log_one]
    exact le_refl _
  | top =>
    rw [Ideal.exp_top]
    change 0 ≤ Ideal.log (((1 : ℝ) : EReal) + ⊤)
    rw [EReal.coe_add_top, Ideal.log_top]
    exact le_top
  | coe r =>
    have h : 0 < Real.exp r := Real.exp_pos r
    rw [Ideal.exp_coe]
    change 0 ≤ Ideal.log (((1 : ℝ) : EReal) + ((Real.exp r : ℝ) : EReal))
    rw [← EReal.coe_add, Ideal.log_coe, if_neg (by linarith)]
    exact EReal.coe_nonneg.2 (Real.log_nonneg (by linarith))

/-- The reference's form, minus the softplus of the negated input with its guard for a number that is not itself, is the
    kernel's: the smaller of the input and zero, less the logarithm of one plus the exponential of minus the magnitude. -/
theorem eq (z : EReal) :
    (-if -z ≠ -z then -z else max (-z) 0 + Ideal.log1p (Ideal.exp (-FloatOps.absf (F := Ideal) (φ := .f32) (-z))))
      = min z 0 - Ideal.log (1 + Ideal.exp (0 - FloatOps.absf (F := Ideal) (φ := .f32) z)) := by
  have ha : FloatOps.absf (F := Ideal) (φ := .f32) (-z) = FloatOps.absf (F := Ideal) (φ := .f32) z := by
    change max (-z) (- -z) = max z (-z)
    rw [neg_neg, max_comm]
  rw [if_neg (by simp), ha, zero_sub, Ideal.log1p]
  have h := log_nonneg (-FloatOps.absf (F := Ideal) (φ := .f32) z)
  have hm : 0 ≤ max (-z) (0 : EReal) := le_max_right _ _
  rw [EReal.neg_add (.inl (ne_of_gt (lt_of_lt_of_le EReal.bot_lt_zero hm))) (.inr (ne_of_gt (lt_of_lt_of_le EReal.bot_lt_zero h)))]
  congr 1
  rcases le_total z 0 with hz | hz
  · rw [max_eq_left (EReal.le_neg_of_le_neg (by simpa using hz)), neg_neg, min_eq_left hz]
  · rw [max_eq_right (EReal.neg_le_of_neg_le (by simpa using hz)), neg_zero, min_eq_right hz]

end Cert.LogSigmoid

end
-- ==== Proof.PrepValue.lean ====
/- The values of the log forget gates of the prompts. -/
module

public import proofs.«01_k».proof.Proof.Gen.PrepIdeal.Value
public import proofs.«01_k».proof.Proof.Gen.PrepRefIdeal.Run
public import proofs.«01_k».proof.Proof.LogSigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PrepRefIdeal.Hand

open Cert.PrepRefIdeal Cert.PrepRefIdeal.Gen

variable (f : FVec Ideal S17408x16 .f32) (b : FVec Ideal S16 .f32)

/-- The negated gate inputs of the prompts. -/
abbrev negated : FVec Ideal S4x4096x16 .f32 :=
  Host.negf (addf (shapeCast S4x4096x16 (extractStridedSlice S16384x16 ![0, 0] f slices_S17408x16_S16384x16_0_0) shapeCasts_S16384x16_S4x4096x16)
    (broadcastInDim S4x4096x16 ![0, 1, 2] bcast_S1x1x16_S4x4096x16_0_1_2 (broadcastInDim S1x1x16 ![2] bcast_S16_S1x1x16_2 b)))

/-- Zeros. -/
abbrev zeros : FVec Ideal S4x4096x16 .f32 := broadcastInDim S4x4096x16 ![] bcast_S_S4x4096x16 (constant S_ .f32 0x00000000#32)

/-- The log forget gates. -/
abbrev gates : FVec Ideal S16384x16 .f32 :=
  shapeCast S16384x16 (Host.negf (select (cmpf .une (subf (negated f b) zeros) (subf (negated f b) zeros)) (addf (negated f b) zeros)
    (addf (maximumf (negated f b) zeros) (Host.log1p (Host.exp (Host.negf (Host.absf (subf (negated f b) zeros)))))))) shapeCasts_S4x4096x16_S16384x16

/-- A log gate: the logarithm of the sigmoid of a gate input and its bias. -/
theorem gates_apply (i : Fin 16384) (j : Fin 16) : gates f b (ix2 i j) =
    min (f (ix2 ⟨i.val, by omega⟩ j) + b (ix1 j)) 0
      - Ideal.log (1 + Ideal.exp (0 - FloatOps.absf (F := Ideal) (φ := .f32) (f (ix2 ⟨i.val, by omega⟩ j) + b (ix1 j)))) := by
  rw [← Cert.LogSigmoid.eq]
  pointwise [gates, negated, zeros]

end Cert.PrepRefIdeal.Hand

namespace Cert.PrepIdeal.Hand

open Cert.PrepIdeal Cert.PrepIdeal.Gen Cert.PrepRefIdeal.Hand

variable (m : (ℓ : Loc nD τ sig) → Buf (Elt Ideal) ℓ)

/-- Point `t` reads and writes the rows of prompt `t`. -/
theorem idx : ∀ t : Fin cfg0.N, win0_0.index t = ![t.val, 0] ∧ win0_1.index t = ![0, 0] ∧ win0_2.index t = ![t.val, 0] :=
  (by decide +kernel : ∀ t : Fin grid0.N, _)

/-- A log gate of a block of rows: the logarithm of the sigmoid of a gate input and its bias. -/
abbrev gate (x : FVec Ideal S4096x16 .f32) (b : FVec Ideal S1x16 .f32) (y : S4096x16.Idx) : EReal :=
  min (x y + b (ix2 0 (y 1))) 0
    - Ideal.log (1 + Ideal.exp (0 - FloatOps.absf (F := Ideal) (φ := .f32) (x y + b (ix2 0 (y 1)))))

/-- The block of log gates that a point writes, in sixteen chunks of its rows. -/
theorem block (c : Dev nD) (t : Fin cfg0.N) (y : S4096x16.Idx) :
    (outsAt0 m c t).1 y = gate (X0_0 m c t) (iblk m c 1 t) y := by
  unfold outsAt0
  frame_out
  canon_tiles x h
  all_goals
    pointwise [gate, k0_pay2, k0_pay4, k0_pay7, k0_pay10, k0_pay11, k0_pay12, k0_pay13, k0_pay14, k0_pay17, k0_pay20, k0_pay27, k0_pay34,
      k0_pay37, k0_pay40, k0_pay41, k0_pay44, k0_pay45, k0_pay46, k0_pay47, k0_pay50, k0_pay54, k0_pay61, k0_pay65, k0_pay68]
  all_goals blk_point [h0, h1]

/-- The array of log gates after the run: the reference's. -/
theorem final2 (c : Dev nD) : (dats m 0 c).arrAt 2 cfg0.N = gates (m ((c : Thread nD τ).loc main_arg0))
    (m ((c : Thread nD τ).loc main_arg1)) := by
  refine (dats m 0 c).arrAt_eq_of_covers 2 _ (by decide +kernel) fun t hf y => ?_
  blk_simp
  rw [after0_2, block]
  have ht := t.isLt
  change t.val < 4 at ht
  have hy := (y 0).isLt
  change (y 0).val < 4096 at hy
  have e : (win0_2.blk t).view.emb y = ix2 ⟨t.val * 4096 + (y 0).val, by omega⟩ (y 1) := by
    blk_point [idx t]
  have e0 : (X0_0 m c t : FVec Ideal S4096x16 .f32) y = m ((c : Thread nD τ).loc main_arg0) (ix2 ⟨t.val * 4096 + (y 0).val, by omega⟩ (y 1)) := by
    refine (dif_pos (moved0_0 t y)).trans ?_
    blk_point [iblk, V, idx t]
  have e1 : (iblk m c 1 t : FVec Ideal S1x16 .f32) (ix2 0 (y 1)) = m ((c : Thread nD τ).loc main_arg1) (ix1 (y 1)) := by
    blk_point [iblk, V, idx t]
  rw [e]
  refine Eq.trans ?_ (gates_apply _ _ ⟨t.val * 4096 + (y 0).val, by omega⟩ (y 1)).symm
  rw [gate, e0, e1]

end Cert.PrepIdeal.Hand

end
-- ==== Proof.GlaDecValue.lean ====
/- The value of the GLA state after a decoding step: the idealized kernel's array is the reference's, the past state
   decayed, plus each step's key, decayed to the last step, times its value. -/
module

public import proofs.«01_k».proof.Proof.Gen.GlaDecIdeal.Value
public import proofs.«01_k».proof.Proof.Gen.GlaDecRefIdeal.Run
public import proofs.«01_k».proof.Proof.LogSigmoid
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GlaDecRefIdeal.Hand

open Cert.GlaDecRefIdeal Cert.GlaDecRefIdeal.Gen

/-- The sums of up to two steps: each step adds its neighbour. -/
def pairs (g : Fin 8 → EReal) (s : Fin 8) : EReal := g s + if 1 ≤ s.val then g ⟨(s.val + 8 - 1) % 8, Nat.mod_lt _ (by decide)⟩ else 0

/-- The sums of up to four steps: each adds the pair before. -/
def fours (g : Fin 8 → EReal) (s : Fin 8) : EReal :=
  pairs g s + if 2 ≤ s.val then pairs g ⟨(s.val + 8 - 2) % 8, Nat.mod_lt _ (by decide)⟩ else 0

/-- The sums of all steps so far: each adds the four before. -/
def sofar (g : Fin 8 → EReal) (s : Fin 8) : EReal :=
  fours g s + if 4 ≤ s.val then fours g ⟨(s.val + 8 - 4) % 8, Nat.mod_lt _ (by decide)⟩ else 0

/-- An element of a window of eight that ends at step `s`: nought before the first step. -/
def padded (g : Fin 8 → EReal) (s n : Fin 8) : EReal :=
  if h : 7 ≤ s.val + n.val ∧ s.val + n.val - 7 < 8 then g ⟨s.val + n.val - 7, h.2⟩ else 0

/-- The sum over the window is the sum of the steps so far. -/
theorem window_sum (g : Fin 8 → EReal) (s : Fin 8) : (List.finRange 8).foldl (fun r n => r + padded g s n) 0 = sofar g s := by
  rw [show List.finRange 8 = [0, 1, 2, 3, 4, 5, 6, 7] by decide]
  simp only [List.foldl_cons, List.foldl_nil, zero_add]
  fin_cases s <;> simp [padded, sofar, fours, pairs] <;> ac_rfl

variable (k : FVec Ideal S17408x512 .f32) (v : FVec Ideal S17408x1024 .f32) (a : FVec Ideal S17408x16 .f32)
  (wa : FVec Ideal S16x512 .f32) (ba : FVec Ideal S512 .f32) (s0 : FVec Ideal S128x4x128x256 .f32)

/-- The negated gate inputs of the samples. -/
abbrev negated : FVec Ideal S128x8x512 .f32 :=
  Host.negf (addf (Host.dotGeneral dot_S128x8x16_S16x512_S128x8x512_2_0_01_1_n_n none
    (shapeCast S128x8x16 (extractStridedSlice S1024x16 ![16384, 0] a slices_S17408x16_S1024x16_16384_0) shapeCasts_S1024x16_S128x8x16) wa)
    (broadcastInDim S128x8x512 ![0, 1, 2] bcast_S1x1x512_S128x8x512_0_1_2 (broadcastInDim S1x1x512 ![2] bcast_S512_S1x1x512_2 ba)))

/-- Zeros. -/
abbrev zeros : FVec Ideal S128x8x512 .f32 := broadcastInDim S128x8x512 ![] bcast_S_S128x8x512 (constant S_ .f32 0x00000000#32)

/-- The log decays. -/
def decays : FVec Ideal S128x8x4x128 .f32 :=
  shapeCast S128x8x4x128 (Host.divf (Host.negf (select (cmpf .une (subf (negated a wa ba) zeros) (subf (negated a wa ba) zeros)) (addf (negated a wa ba) zeros)
    (addf (maximumf (negated a wa ba) zeros) (Host.log1p (Host.exp (Host.negf (Host.absf (subf (negated a wa ba) zeros))))))))
    (broadcastInDim S128x8x512 ![] bcast_S_S128x8x512 (constant S_ .f32 0x41800000#32))) shapeCasts_S128x8x512_S128x8x4x128

/-- Their sums over the steps so far. -/
def sums : FVec Ideal S128x8x4x128 .f32 :=
  Host.reduceWindowAdd ![1, 8, 1, 1] ![1, 1, 1, 1] ![0, 7, 0, 0] ![0, 0, 0, 0] (decays a wa ba)
    (broadcastInDim S_ ![] bcast_S_S_ (constant S_ .f32 0x00000000#32)) reduceWindows_S128x8x4x128_S128x8x4x128_w1s1p0_0_w8s1p7_0_w1s1p0_0_w1s1p0_0 h_S_

/-- The sums over all the steps. -/
abbrev total : FVec Ideal S128x4x128 .f32 :=
  shapeCast S128x4x128 (extractStridedSlice S128x1x4x128 ![0, 7, 0, 0] (sums a wa ba) slices_S128x8x4x128_S128x1x4x128_0_7_0_0) shapeCasts_S128x1x4x128_S128x4x128

/-- The state after the step. -/
abbrev state : FVec Ideal S128x4x128x256 .f32 :=
  addf (mulf (broadcastInDim S128x4x128x256 ![0, 1, 2, 3] bcast_S128x4x128x1_S128x4x128x256_0_1_2_3
      (broadcastInDim S128x4x128x1 ![0, 1, 2] bcast_S128x4x128_S128x4x128x1_0_1_2 (Host.exp (total a wa ba)))) s0)
    (Host.dotGeneral dot_S128x8x4x128_S128x8x4x256_S128x4x128x256_1_1_3_3_02_02 none
      (mulf (shapeCast S128x8x4x128 (extractStridedSlice S1024x512 ![16384, 0] k slices_S17408x512_S1024x512_16384_0) shapeCasts_S1024x512_S128x8x4x128)
        (Host.exp (subf (broadcastInDim S128x8x4x128 ![0, 1, 2, 3] bcast_S128x1x4x128_S128x8x4x128_0_1_2_3
          (broadcastInDim S128x1x4x128 ![0, 2, 3] bcast_S128x4x128_S128x1x4x128_0_2_3 (total a wa ba))) (sums a wa ba))))
      (shapeCast S128x8x4x256 (extractStridedSlice S1024x1024 ![16384, 0] v slices_S17408x1024_S1024x1024_16384_0) shapeCasts_S1024x1024_S128x8x4x256))

/-- The place of a position in the window. -/
theorem place : ∀ (n : Fin 8) (d : Fin 4), ((⟨4, ![1, 8, 1, 1]⟩ : Shape).rowMajor.symm n d).val = ![0, n.val, 0, 0] d := by
  decide +kernel

/-- The reference's array is this state of its arguments. -/
theorem result_eq (m : (ℓ : Loc nD τ sig) → Buf (Elt Ideal) ℓ) (c : Dev nD) : Cert.GlaDecRefIdeal.Value.res_main_v27 m c =
    state (m ((c : Thread nD τ).loc main_arg1)) (m ((c : Thread nD τ).loc main_arg2)) (m ((c : Thread nD τ).loc main_arg4))
      (m ((c : Thread nD τ).loc main_arg5)) (m ((c : Thread nD τ).loc main_arg6)) (m ((c : Thread nD τ).loc main_arg8)) := rfl

/-- The gate input of a step. -/
abbrev input (b : Fin 128) (h : Fin 4) (d : Fin 128) (s : Fin 8) : EReal :=
  (∑ r : Fin 16, a (ix2 ⟨16384 + (b.val * 8 + s.val), by omega⟩ r) * wa (ix2 r ⟨h.val * 128 + d.val, by omega⟩))
    + ba (ix1 ⟨h.val * 128 + d.val, by omega⟩)

/-- A log decay of a gate input: the logarithm of its sigmoid, over sixteen. -/
def decay (z : EReal) : EReal :=
  Ideal.div (min z 0 - Ideal.log (1 + Ideal.exp (0 - FloatOps.absf (F := Ideal) (φ := .f32) z))) (Ideal.ofBits .f32 0x41800000#32)

/-- The log decay of a step. -/
theorem decays_apply (b : Fin 128) (s : Fin 8) (h : Fin 4) (d : Fin 128) :
    decays a wa ba (ix4 b s h d) = decay (input a wa ba b h d s) := by
  rw [decay, ← Cert.LogSigmoid.eq]
  pointwise [decays, negated, zeros, input]

/-- The log decays up to a step, summed. -/
theorem sums_apply (b : Fin 128) (s : Fin 8) (h : Fin 4) (d : Fin 128) :
    sums a wa ba (ix4 b s h d) = sofar (fun s => decay (input a wa ba b h d s)) s := by
  rw [← window_sum]
  simp only [← decays_apply]
  unfold sums
  generalize decays a wa ba = g
  have z : Ideal.ofBits .f32 0x00000000#32 = 0 := by pointwise []
  refine Eq.trans (b := (List.finRange 8).foldl (fun r n => r + padded (fun s => g (ix4 b s h d)) s n) (Ideal.ofBits .f32 0x00000000#32)) ?_ (by rw [z])
  unfold Host.reduceWindowAdd
  rw [Ideal.hostReduceWindowAdd_def]
  unfold Ideal.hostReduceWindowAdd Host.reduceWindow
  change (List.finRange 8).foldl _ _ = _
  refine congrArg (fun f => (List.finRange 8).foldl f (Ideal.ofBits .f32 0x00000000#32)) ?_
  funext r n
  refine congrArg (r + ·) ?_
  have hp : ∀ i : Fin 4, (ix4 b s h d i).val * ![1, 1, 1, 1] i + ((⟨4, ![1, 8, 1, 1]⟩ : Shape).rowMajor.symm n i).val
      = ![b.val, s.val + n.val, h.val, d.val] i := by
    intro i
    rw [place n i]
    fin_cases i
    · exact Nat.mul_one b.val
    · exact congrArg (· + n.val) (Nat.mul_one s.val)
    · exact Nat.mul_one h.val
    · exact Nat.mul_one d.val
  by_cases hc : 7 ≤ s.val + n.val ∧ s.val + n.val - 7 < 8
  · have hq : padded (fun s => g (ix4 b s h d)) s n = g (ix4 b ⟨s.val + n.val - 7, hc.2⟩ h d) := dif_pos hc
    refine Eq.trans ?_ hq.symm
    refine (dif_pos fun i => ?_).trans (congrArg g (funext fun i => Fin.ext ((congrArg (· - ![0, 7, 0, 0] i) (hp i)).trans ?_)))
    · have hi : ![0, 7, 0, 0] i ≤ ![b.val, s.val + n.val, h.val, d.val] i
          ∧ ![b.val, s.val + n.val, h.val, d.val] i - ![0, 7, 0, 0] i < ![128, 8, 4, 128] i := by
        fin_cases i
        · exact ⟨Nat.zero_le _, b.isLt⟩
        · exact hc
        · exact ⟨Nat.zero_le _, h.isLt⟩
        · exact ⟨Nat.zero_le _, d.isLt⟩
      rw [← hp i] at hi
      exact hi
    · fin_cases i <;> rfl
  · have hq : padded (fun s => g (ix4 b s h d)) s n = 0 := dif_neg hc
    refine Eq.trans ?_ hq.symm
    refine (dif_neg fun hi => hc ?_).trans z
    have h1 : 7 ≤ (ix4 b s h d 1).val * ![1, 1, 1, 1] 1 + ((⟨4, ![1, 8, 1, 1]⟩ : Shape).rowMajor.symm n 1).val
        ∧ (ix4 b s h d 1).val * ![1, 1, 1, 1] 1 + ((⟨4, ![1, 8, 1, 1]⟩ : Shape).rowMajor.symm n 1).val - 7 < 8 := hi 1
    rw [hp 1] at h1
    exact h1

/-- The state at an index. -/
theorem state_apply (b : Fin 128) (h : Fin 4) (d : Fin 128) (j : Fin 256) : state k v a wa ba s0 (ix4 b h d j) =
    Ideal.exp (sofar (fun s => decay (input a wa ba b h d s)) 7) * s0 (ix4 b h d j)
      + ∑ s : Fin 8, k (ix2 ⟨16384 + (b.val * 8 + s.val), by omega⟩ ⟨h.val * 128 + d.val, by omega⟩)
          * Ideal.exp (sofar (fun s => decay (input a wa ba b h d s)) 7 - sofar (fun s => decay (input a wa ba b h d s)) s)
          * v (ix2 ⟨16384 + (b.val * 8 + s.val), by omega⟩ ⟨h.val * 256 + j.val, by omega⟩) := by
  simp only [← sums_apply]
  pointwise [state, total]

end Cert.GlaDecRefIdeal.Hand

namespace Cert.GlaDecIdeal.Hand

open Cert.GlaDecIdeal Cert.GlaDecIdeal.Gen Cert.GlaDecRefIdeal.Hand

variable (m : (ℓ : Loc nD τ sig) → Buf (Elt Ideal) ℓ)

/-- Point `t` works on sequence `t / 4` and head `t % 4`. -/
theorem idx : ∀ t : Fin cfg0.N, win0_1.index t = ![2048 + t.val / 4, t.val % 4] ∧ win0_2.index t = ![2048 + t.val / 4, t.val % 4]
    ∧ win0_4.index t = ![2048 + t.val / 4, 0] ∧ win0_5.index t = ![0, t.val % 4] ∧ win0_6.index t = ![0, t.val % 4]
    ∧ win0_8.index t = ![t.val / 4, t.val % 4, 0, 0] ∧ win0_10.index t = ![t.val / 4, t.val % 4, 0, 0] :=
  (by decide +kernel : ∀ t : Fin grid0.N, _)

/-- A step's number against a bound. -/
theorem step_ge : ∀ s : Fin 8, IntOp.cmpi CmpIPredicate.sge (BitVec.ofNat 32 s.val) 1#32 = (if 1 ≤ s.val then 1#1 else 0#1)
    ∧ IntOp.cmpi CmpIPredicate.sge (BitVec.ofNat 32 s.val) 2#32 = (if 2 ≤ s.val then 1#1 else 0#1)
    ∧ IntOp.cmpi CmpIPredicate.sge (BitVec.ofNat 32 s.val) 4#32 = (if 4 ≤ s.val then 1#1 else 0#1) := by
  decide +kernel

/-- A choice by a decided bit. -/
theorem select_ite (p : Prop) [Decidable p] (x y : EReal) : Scalar.select (if p then 1#1 else 0#1) x y = if p then x else y := by
  by_cases h : p
  · rw [if_pos h, if_pos h, WordCmp.select_one]
  · rw [if_neg h, if_neg h, WordCmp.select_zero]

/-- The gate input of a block's row. -/
abbrev row (x : FVec Ideal S8x16 .f32) (w : FVec Ideal S16x128 .bf16) (b : FVec Ideal S1x128 .f32) (d : Fin 128) (s : Fin 8) : EReal :=
  (∑ r : Fin 16, x (ix2 s r) * w (ix2 r d)) + b (ix2 0 d)

/-- The log decays of a block. -/
theorem pay4_apply (x : Vec Ideal S8x16 .f32) (w : Vec Ideal S16x128 .bf16) (b : Vec Ideal S1x128 .f32) (s : Fin 8) (d : Fin 128) :
    k0_pay4 x w b (ix2 s d) = decay (row x w b d s) := by
  pointwise [k0_pay4, decay, row]

/-- Their sums over the steps so far, in three doublings. -/
theorem sums_block (x : Vec Ideal S8x16 .f32) (w : Vec Ideal S16x128 .bf16) (b : Vec Ideal S1x128 .f32) (s : Fin 8) (d : Fin 128) :
    k0_pay6 (iota .tc S8x128 32 [0] iota_S8x128_d0_w32) (k0_pay4 x w b) (k0_pay5 x w b) (ix2 s d) = sofar (fun s => decay (row x w b d s)) s := by
  have h5 : ∀ s : Fin 8, k0_pay5 x w b (ix2 s d) =
      if 1 ≤ s.val then decay (row x w b d ⟨(s.val + 8 - 1) % 8, Nat.mod_lt _ (by decide)⟩) else 0 := by
    intro s
    rw [← select_ite, ← (step_ge s).1, ← pay4_apply]
    pointwise [k0_pay5]
  have hp : ∀ s : Fin 8, pairs (fun s => decay (row x w b d s)) s = k0_pay4 x w b (ix2 s d) + k0_pay5 x w b (ix2 s d) := by
    intro s
    rw [pairs, h5, pay4_apply]
  have h42 := (step_ge ⟨(s.val + 8 - 4) % 8, Nat.mod_lt _ (by decide)⟩).2.1
  simp only at h42
  unfold sofar fours
  simp only [hp]
  simp only [← select_ite, ← h42, ← (step_ge s).2.1, ← (step_ge s).2.2]
  pointwise [k0_pay6]

/-- The state's block after a step: the past state decayed, and each step's key, decayed to the last step, times its value. -/
theorem pay16_apply (k : FVec Ideal S8x128 .f32) (v : FVec Ideal S8x256 .f32) (b : FVec Ideal S8x128 .f32) (s0 : FVec Ideal S128x256 .f32)
    (d : Fin 128) (j : Fin 256) : k0_pay16 k v b s0 (ix2 d j) =
      Ideal.exp (b (ix2 7 d)) * s0 (ix2 d j) + ∑ s : Fin 8, k (ix2 s d) * Ideal.exp (b (ix2 7 d) - b (ix2 s d)) * v (ix2 s j) := by
  pointwise [k0_pay16]
  rw [dite_eq_ite, ite_self, mul_comm]
  simp only [mul_zero, Finset.sum_const_zero, add_zero]

/-- The block that a point writes, of its inputs' blocks. -/
abbrev stepped (k : FVec Ideal S8x128 .f32) (v : FVec Ideal S8x256 .f32) (a : FVec Ideal S8x16 .f32) (w : FVec Ideal S16x128 .bf16)
    (b : FVec Ideal S1x128 .f32) (s0 : FVec Ideal S1x1x128x256 .f32) (d : Fin 128) (j : Fin 256) : EReal :=
  Ideal.exp (sofar (fun s => decay (row a w b d s)) 7) * s0 (ix4 0 0 d j)
    + ∑ s : Fin 8, k (ix2 s d) * Ideal.exp (sofar (fun s => decay (row a w b d s)) 7 - sofar (fun s => decay (row a w b d s)) s) * v (ix2 s j)

/-- The payload of a point is that block, where its sums are those of the log decays. -/
theorem pay_apply (k : Vec Ideal S8x128 .f32) (v : Vec Ideal S8x256 .f32) (a : Vec Ideal S8x16 .f32) (w : Vec Ideal S16x128 .bf16)
    (b : Vec Ideal S1x128 .f32) (s0 : Vec Ideal S1x1x128x256 .f32) (d : Fin 128) (j : Fin 256) (u : FVec Ideal S8x128 .f32)
    (hu : ∀ s : Fin 8, u (ix2 s d) = sofar (fun s => decay (row a w b d s)) s) :
    k0_pay16 k v u (k0_pay7 s0) (ix2 d j) = stepped k v a w b s0 d j := by
  rw [pay16_apply]
  simp only [hu]
  pointwise [stepped, k0_pay7]

/-- That block is the state's, where its inputs' blocks are read off the arrays at a sequence and a head. -/
theorem stepped_eq {k : FVec Ideal S8x128 .f32} {v : FVec Ideal S8x256 .f32} {a : FVec Ideal S8x16 .f32} {w : FVec Ideal S16x128 .bf16}
    {b : FVec Ideal S1x128 .f32} {s0 : FVec Ideal S1x1x128x256 .f32} {K : FVec Ideal S17408x512 .f32} {V : FVec Ideal S17408x1024 .f32}
    {A : FVec Ideal S17408x16 .f32} {W : FVec Ideal S16x512 .f32} {B : FVec Ideal S512 .f32} {S : FVec Ideal S128x4x128x256 .f32}
    {n : Fin 128} {h : Fin 4} {d : Fin 128} {j : Fin 256}
    (hk : ∀ s : Fin 8, k (ix2 s d) = K (ix2 ⟨16384 + (n.val * 8 + s.val), by omega⟩ ⟨h.val * 128 + d.val, by omega⟩))
    (hv : ∀ s : Fin 8, v (ix2 s j) = V (ix2 ⟨16384 + (n.val * 8 + s.val), by omega⟩ ⟨h.val * 256 + j.val, by omega⟩))
    (ha : ∀ (s : Fin 8) (r : Fin 16), a (ix2 s r) = A (ix2 ⟨16384 + (n.val * 8 + s.val), by omega⟩ r))
    (hw : ∀ r : Fin 16, w (ix2 r d) = W (ix2 r ⟨h.val * 128 + d.val, by omega⟩))
    (hb : b (ix2 0 d) = B (ix1 ⟨h.val * 128 + d.val, by omega⟩)) (hs : s0 (ix4 0 0 d j) = S (ix4 n h d j)) :
    stepped k v a w b s0 d j = state K V A W B S (ix4 n h d j) := by
  rw [state_apply]
  simp only [stepped, row, input, hk, hv, ha, hw, hb, hs]

/-- The block that a point writes. -/
theorem block (c : Dev nD) (t : Fin cfg0.N) (y : S1x1x128x256.Idx) : (dats m 0 c).after 10 t y =
    stepped (iblk m c 1 t) (iblk m c 2 t) (iblk m c 4 t) (iblk m c 5 t) (iblk m c 6 t) (iblk m c 8 t) (y 2) (y 3) := by
  rw [after0_10]
  unfold_out out0_10
  frame_out
  pointwise [k0_pay1]
  exact pay_apply _ _ _ _ _ _ (y 2) (y 3) _ fun s => sums_block _ _ _ s (y 2)

/-- The state after the run: the reference's. -/
theorem final10 (c : Dev nD) : (dats m 0 c).arrAt 10 cfg0.N = state (m ((c : Thread nD τ).loc main_arg1)) (m ((c : Thread nD τ).loc main_arg2))
    (m ((c : Thread nD τ).loc main_arg4)) (m ((c : Thread nD τ).loc main_arg5)) (m ((c : Thread nD τ).loc main_arg6))
    (m ((c : Thread nD τ).loc main_arg8)) := by
  refine (dats m 0 c).arrAt_eq_of_covers 10 _ (by decide +kernel) fun t hf y => ?_
  blk_simp
  rw [block]
  have ht := t.isLt
  change t.val < 512 at ht
  have e : (win0_10.blk t).view.emb y = ix4 ⟨t.val / 4, by omega⟩ ⟨t.val % 4, by omega⟩ (y 2) (y 3) := by
    blk_point [idx t]
  rw [e]
  refine stepped_eq (fun s => ?_) (fun s => ?_) (fun s r => ?_) (fun r => ?_) ?_ ?_
  all_goals blk_point [iblk, V, idx t]

end Cert.GlaDecIdeal.Hand

end
-- ==== Proof.lean ====
module

public import proofs.«01_k».proof.Defs
public import proofs.«01_k».proof.Proof.FoxIdealRun
public import proofs.«01_k».proof.Proof.FoxRun
public import proofs.«01_k».proof.Proof.Gen.Mlp.Frame
public import proofs.«01_k».proof.Proof.Gen.MlpIdeal.Frame
public import proofs.«01_k».proof.Proof.Gen.Proj.Frame
public import proofs.«01_k».proof.Proof.Gen.ProjIdeal.Frame
public import proofs.«01_k».proof.Proof.Gen.Norm.Frame
public import proofs.«01_k».proof.Proof.Gen.NormIdeal.Frame
public import proofs.«01_k».proof.Proof.Gen.MlpIdeal.Value
public import proofs.«01_k».proof.Proof.Gen.ProjIdeal.Value
public import proofs.«01_k».proof.Proof.Gen.NormIdeal.Value
public import proofs.«01_k».proof.Proof.Gen.FoxRefIdeal.Run
public import proofs.«01_k».proof.Proof.Gen.MlpRefIdeal.Run
public import proofs.«01_k».proof.Proof.Gen.ProjRefIdeal.Run
public import proofs.«01_k».proof.Proof.Gen.NormRefIdeal.Run
public import proofs.«01_k».proof.Proof.Gen.NsaMlp.Frame
public import proofs.«01_k».proof.Proof.Gen.NsaMlpIdeal.Frame
public import proofs.«01_k».proof.Proof.Gen.NsaMlpRefIdeal.Run
public import proofs.«01_k».proof.Proof.Gen.NsaProj.Frame
public import proofs.«01_k».proof.Proof.Gen.NsaProjIdeal.Frame
public import proofs.«01_k».proof.Proof.Gen.NsaProjIdeal.Value
public import proofs.«01_k».proof.Proof.Gen.NsaProjRefIdeal.Run
public import proofs.«01_k».proof.Proof.Gen.GlaProj.Frame
public import proofs.«01_k».proof.Proof.Gen.GlaProjIdeal.Frame
public import proofs.«01_k».proof.Proof.Gen.GlaProjIdeal.Value
public import proofs.«01_k».proof.Proof.Gen.GlaProjRefIdeal.Run
public import proofs.«01_k».proof.Proof.Gen.Win.Frame
public import proofs.«01_k».proof.Proof.Gen.WinIdeal.Frame
public import proofs.«01_k».proof.Proof.Gen.WinIdeal.Value
public import proofs.«01_k».proof.Proof.Gen.WinRefIdeal.Run
public import proofs.«01_k».proof.Proof.Gen.Prep.Frame
public import proofs.«01_k».proof.Proof.Gen.PrepIdeal.Frame
public import proofs.«01_k».proof.Proof.Gen.PrepIdeal.Value
public import proofs.«01_k».proof.Proof.Gen.PrepRefIdeal.Run
public import proofs.«01_k».proof.Proof.Gen.GlaDec.Frame
public import proofs.«01_k».proof.Proof.Gen.GlaDecIdeal.Frame
public import proofs.«01_k».proof.Proof.Gen.GlaDecIdeal.Value
public import proofs.«01_k».proof.Proof.Gen.GlaDecRefIdeal.Run
public import proofs.«01_k».proof.Proof.NormValue
public import proofs.«01_k».proof.Proof.ProjValue
public import proofs.«01_k».proof.Proof.MlpValue
public import proofs.«01_k».proof.Proof.FoxValue
public import proofs.«01_k».proof.Proof.NsaMlpValue
public import proofs.«01_k».proof.Proof.NsaProjValue
public import proofs.«01_k».proof.Proof.GlaProjValue
public import proofs.«01_k».proof.Proof.WinValue
public import proofs.«01_k».proof.Proof.PrepValue
public import proofs.«01_k».proof.Proof.GlaDecValue
public import Idealize.ShloMosaic.Adequacy
public import Idealize.ShloMosaic.Init

@[expose] public section

noncomputable section

namespace Cert.Proof

open Idealize.ShloMosaic Idealize.SL.Sem

/-! Each reference runs, leaves its arguments unchanged, and ends with every counter at zero: it has no semaphore. -/

theorem frame_FoxRef : Cert.quiescent_FoxRefIdeal (hFoxRefIdeal := Cert.FoxRefIdeal.Gen.facts) := fun m g _ =>
  (θ_run _ _ _).mono (fun r h => ⟨fun c => (h c).2, funext fun s =>
    haveI : IsEmpty (SemLoc Cert.FoxRefIdeal.sig) := Fintype.card_eq_zero_iff.mp (by decide)
    isEmptyElim s.2⟩) (Cert.FoxRefIdeal.Value.run m g)

theorem frame_MlpRef : Cert.quiescent_MlpRefIdeal (hMlpRefIdeal := Cert.MlpRefIdeal.Gen.facts) := fun m g _ =>
  (θ_run _ _ _).mono (fun r h => ⟨fun c => (h c).2, funext fun s =>
    haveI : IsEmpty (SemLoc Cert.MlpRefIdeal.sig) := Fintype.card_eq_zero_iff.mp (by decide)
    isEmptyElim s.2⟩) (Cert.MlpRefIdeal.Value.run m g)

theorem frame_ProjRef : Cert.quiescent_ProjRefIdeal (hProjRefIdeal := Cert.ProjRefIdeal.Gen.facts) := fun m g _ =>
  (θ_run _ _ _).mono (fun r h => ⟨fun c => (h c).2.2.2.2.2, funext fun s =>
    haveI : IsEmpty (SemLoc Cert.ProjRefIdeal.sig) := Fintype.card_eq_zero_iff.mp (by decide)
    isEmptyElim s.2⟩) (Cert.ProjRefIdeal.Value.run m g)

theorem frame_NormRef : Cert.quiescent_NormRefIdeal (hNormRefIdeal := Cert.NormRefIdeal.Gen.facts) := fun m g _ =>
  (θ_run _ _ _).mono (fun r h => ⟨fun c => (h c).2, funext fun s =>
    haveI : IsEmpty (SemLoc Cert.NormRefIdeal.sig) := Fintype.card_eq_zero_iff.mp (by decide)
    isEmptyElim s.2⟩) (Cert.NormRefIdeal.Value.run m g)

theorem frame_NsaMlpRef : Cert.quiescent_NsaMlpRefIdeal (hNsaMlpRefIdeal := Cert.NsaMlpRefIdeal.Gen.facts) := fun m g _ =>
  (θ_run _ _ _).mono (fun r h => ⟨fun c => (h c).2, funext fun s =>
    haveI : IsEmpty (SemLoc Cert.NsaMlpRefIdeal.sig) := Fintype.card_eq_zero_iff.mp (by decide)
    isEmptyElim s.2⟩) (Cert.NsaMlpRefIdeal.Value.run m g)

theorem frame_NsaProjRef : Cert.quiescent_NsaProjRefIdeal (hNsaProjRefIdeal := Cert.NsaProjRefIdeal.Gen.facts) := fun m g _ =>
  (θ_run _ _ _).mono (fun r h => ⟨fun c => (h c).2.2.2.2.2.2.2.2, funext fun s =>
    haveI : IsEmpty (SemLoc Cert.NsaProjRefIdeal.sig) := Fintype.card_eq_zero_iff.mp (by decide)
    isEmptyElim s.2⟩) (Cert.NsaProjRefIdeal.Value.run m g)

theorem frame_GlaProjRef : Cert.quiescent_GlaProjRefIdeal (hGlaProjRefIdeal := Cert.GlaProjRefIdeal.Gen.facts) := fun m g _ =>
  (θ_run _ _ _).mono (fun r h => ⟨fun c => (h c).2.2.2.2.2, funext fun s =>
    haveI : IsEmpty (SemLoc Cert.GlaProjRefIdeal.sig) := Fintype.card_eq_zero_iff.mp (by decide)
    isEmptyElim s.2⟩) (Cert.GlaProjRefIdeal.Value.run m g)

theorem frame_WinRef : Cert.quiescent_WinRefIdeal (hWinRefIdeal := Cert.WinRefIdeal.Gen.facts) := fun m g _ =>
  (θ_run _ _ _).mono (fun r h => ⟨fun c => (h c).2, funext fun s =>
    haveI : IsEmpty (SemLoc Cert.WinRefIdeal.sig) := Fintype.card_eq_zero_iff.mp (by decide)
    isEmptyElim s.2⟩) (Cert.WinRefIdeal.Value.run m g)

theorem frame_PrepRef : Cert.quiescent_PrepRefIdeal (hPrepRefIdeal := Cert.PrepRefIdeal.Gen.facts) := fun m g _ =>
  (θ_run _ _ _).mono (fun r h => ⟨fun c => (h c).2, funext fun s =>
    haveI : IsEmpty (SemLoc Cert.PrepRefIdeal.sig) := Fintype.card_eq_zero_iff.mp (by decide)
    isEmptyElim s.2⟩) (Cert.PrepRefIdeal.Value.run m g)

theorem frame_GlaDecRef : Cert.quiescent_GlaDecRefIdeal (hGlaDecRefIdeal := Cert.GlaDecRefIdeal.Gen.facts) := fun m g _ =>
  (θ_run _ _ _).mono (fun r h => ⟨fun c => (h c).2, funext fun s =>
    haveI : IsEmpty (SemLoc Cert.GlaDecRefIdeal.sig) := Fintype.card_eq_zero_iff.mp (by decide)
    isEmptyElim s.2⟩) (Cert.GlaDecRefIdeal.Value.run m g)

/-! Each kernel and its reference end with the same results. -/

/-- The final norm. -/
theorem algebraic_Norm : Cert.algebraic_NormIdeal_NormRefIdeal (hNormIdeal := Cert.NormIdeal.Gen.facts)
    (hNormRefIdeal := Cert.NormRefIdeal.Gen.facts) := by
  intro m g m' g' _ hm
  refine ⟨fun c => (Cert.NormIdeal.Gen.dats m 0 c).arrAt 2 _, Cert.NormIdeal.Value.run_blocks m g, ?_⟩
  refine (θ_run _ _ _).mono (fun r h c => ⟨(h c).1.trans ?_, (h c).2⟩) (Cert.NormRefIdeal.Value.run m' g')
  rw [(hm c).1, (hm c).2]
  exact (Cert.NormIdeal.Hand.final m c).symm

/-- The output projection with the feed-forward block. -/
theorem algebraic_Mlp : Cert.algebraic_MlpIdeal_MlpRefIdeal (hMlpIdeal := Cert.MlpIdeal.Gen.facts)
    (hMlpRefIdeal := Cert.MlpRefIdeal.Gen.facts) := by
  intro m g m' g' _ hm
  refine ⟨fun c => (Cert.MlpIdeal.Gen.dats m 0 c).arrAt 7 _, Cert.MlpIdeal.Value.run_blocks m g, ?_⟩
  refine (θ_run _ _ _).mono (fun r h c => ⟨(h c).1.trans ?_, (h c).2⟩) (Cert.MlpRefIdeal.Value.run m' g')
  obtain ⟨h0, h1, h2, h3, h4, h5, h6⟩ := hm c
  unfold Cert.MlpRefIdeal.Value.res_main_v20
  rw [h0, h1, h2, h3, h4, h5, h6]
  exact (Cert.MlpIdeal.Hand.final m c).symm

/-- The forgetting attention, where each query's own score is at least the masked value. -/
theorem algebraic_Fox : Cert.algebraic_FoxIdeal_FoxRefIdeal_pre_own_key_above_mask (hFoxIdeal := Cert.FoxIdeal.Gen.facts)
    (hFoxRefIdeal := Cert.FoxRefIdeal.Gen.facts) (hPre_own_key_above_mask := Cert.Pre_own_key_above_mask.Hand.facts) := by
  intro m g m' g' hp hm
  refine ⟨fun c => (Cert.FoxIdeal.Hand.dats m 0 c).arrAt 5 _, Cert.FoxIdeal.Hand.run_blocks m g, ?_⟩
  refine (θ_run _ _ _).mono (fun r h c => ⟨(h c).1.trans ?_, (h c).2⟩) (Cert.FoxRefIdeal.Value.run m' g')
  obtain ⟨h0, h1, h2⟩ := hm c
  rw [Cert.FoxRefIdeal.Hand.result_eq, h0, h1, h2]
  haveI := Cert.Pre_own_key_above_mask.Hand.facts
  exact (Cert.FoxIdeal.Hand.final m c fun b t n => Cert.Pre_own_key_above_mask.Hand.own_key _ _ _ (hp c) b t n).symm

/-- The norm with the projection to keys, values, gates and queries. -/
theorem algebraic_Proj : Cert.algebraic_ProjIdeal_ProjRefIdeal (hProjIdeal := Cert.ProjIdeal.Gen.facts)
    (hProjRefIdeal := Cert.ProjRefIdeal.Gen.facts) := by
  intro m g m' g' _ hm
  refine ⟨fun c => (Cert.ProjIdeal.Gen.dats m 0 c).arrAt 4 _, fun c => (Cert.ProjIdeal.Gen.dats m 0 c).arrAt 5 _,
    fun c => (Cert.ProjIdeal.Gen.dats m 0 c).arrAt 6 _, fun c => (Cert.ProjIdeal.Gen.dats m 0 c).arrAt 7 _,
    fun c => (Cert.ProjIdeal.Gen.dats m 0 c).arrAt 8 _, Cert.ProjIdeal.Value.run_blocks m g, ?_⟩
  refine (θ_run _ _ _).mono (fun r h c => ⟨(h c).1.trans ?_, (h c).2.1.trans ?_, (h c).2.2.1.trans ?_, (h c).2.2.2.1.trans ?_,
    (h c).2.2.2.2.1.trans ?_, (h c).2.2.2.2.2⟩) (Cert.ProjRefIdeal.Value.run m' g')
  all_goals obtain ⟨h0, h1, h2⟩ := hm c; rw [h0, h1, h2]
  · exact (Cert.ProjIdeal.Hand.final4 m c).symm
  · exact (Cert.ProjIdeal.Hand.final5 m c).symm
  · exact (Cert.ProjIdeal.Hand.final6 m c).symm
  · exact (Cert.ProjIdeal.Hand.final7 m c).symm
  · exact (Cert.ProjIdeal.Hand.final8 m c).symm

/-- The output projection of three attention outputs with the feed-forward block. -/
theorem algebraic_NsaMlp : Cert.algebraic_NsaMlpIdeal_NsaMlpRefIdeal (hNsaMlpIdeal := Cert.NsaMlpIdeal.Gen.facts)
    (hNsaMlpRefIdeal := Cert.NsaMlpRefIdeal.Gen.facts) := by
  intro m g m' g' _ hm
  refine ⟨fun c => (Cert.NsaMlpIdeal.Gen.dats m 0 c).arrAt 11 _,
    (θ_run _ _ _).mono (fun r h c => ⟨h.1 c, h.2 c⟩) (Cert.NsaMlpIdeal.Hand.ran m g), ?_⟩
  refine (θ_run _ _ _).mono (fun r h c => ⟨(h c).1.trans ?_, (h c).2⟩) (Cert.NsaMlpRefIdeal.Value.run m' g')
  obtain ⟨h0, h1, h2, h3, h4, h5, h6, h7, h8, h9, h10⟩ := hm c
  unfold Cert.NsaMlpRefIdeal.Value.res_main_v24
  rw [h0, h1, h2, h3, h4, h5, h6, h7, h8, h9, h10]
  exact (Cert.NsaMlpIdeal.Hand.final m c).symm

/-- The norm with the NSA layers' projection to keys, values, queries and branch gates. -/
theorem algebraic_NsaProj : Cert.algebraic_NsaProjIdeal_NsaProjRefIdeal (hNsaProjIdeal := Cert.NsaProjIdeal.Gen.facts)
    (hNsaProjRefIdeal := Cert.NsaProjRefIdeal.Gen.facts) := by
  intro m g m' g' _ hm
  refine ⟨fun c => (Cert.NsaProjIdeal.Gen.dats m 0 c).arrAt 4 _,
    fun c => (Cert.NsaProjIdeal.Gen.dats m 0 c).arrAt 5 _,
    fun c => (Cert.NsaProjIdeal.Gen.dats m 0 c).arrAt 6 _,
    fun c => (Cert.NsaProjIdeal.Gen.dats m 0 c).arrAt 7 _,
    fun c => (Cert.NsaProjIdeal.Gen.dats m 0 c).arrAt 8 _,
    fun c => (Cert.NsaProjIdeal.Gen.dats m 0 c).arrAt 9 _,
    fun c => (Cert.NsaProjIdeal.Gen.dats m 0 c).arrAt 10 _,
    fun c => (Cert.NsaProjIdeal.Gen.dats m 0 c).arrAt 11 _,
    Cert.NsaProjIdeal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_,
    (h c).2.2.2.2.2.2.2.2⟩) (Cert.NsaProjRefIdeal.Value.run m' g')
  all_goals obtain ⟨h0, h1, h2⟩ := hm c; rw [h0, h1, h2]
  · exact (Cert.NsaProjIdeal.Hand.final4 m c).symm
  · exact (Cert.NsaProjIdeal.Hand.final5 m c).symm
  · exact (Cert.NsaProjIdeal.Hand.final6 m c).symm
  · exact (Cert.NsaProjIdeal.Hand.final7 m c).symm
  · exact (Cert.NsaProjIdeal.Hand.final8 m c).symm
  · exact (Cert.NsaProjIdeal.Hand.final9 m c).symm
  · exact (Cert.NsaProjIdeal.Hand.final10 m c).symm
  · exact (Cert.NsaProjIdeal.Hand.final11 m c).symm

/-- The norm with the GLA layers' projection to queries, keys, values, gates and decay factor. -/
theorem algebraic_GlaProj : Cert.algebraic_GlaProjIdeal_GlaProjRefIdeal (hGlaProjIdeal := Cert.GlaProjIdeal.Gen.facts)
    (hGlaProjRefIdeal := Cert.GlaProjRefIdeal.Gen.facts) := by
  intro m g m' g' _ hm
  refine ⟨fun c => (Cert.GlaProjIdeal.Gen.dats m 0 c).arrAt 4 _,
    fun c => (Cert.GlaProjIdeal.Gen.dats m 0 c).arrAt 5 _,
    fun c => (Cert.GlaProjIdeal.Gen.dats m 0 c).arrAt 6 _,
    fun c => (Cert.GlaProjIdeal.Gen.dats m 0 c).arrAt 7 _,
    fun c => (Cert.GlaProjIdeal.Gen.dats m 0 c).arrAt 8 _,
    Cert.GlaProjIdeal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_,
    (h c).2.2.2.2.2⟩) (Cert.GlaProjRefIdeal.Value.run m' g')
  all_goals obtain ⟨h0, h1, h2⟩ := hm c; rw [h0, h1, h2]
  · exact (Cert.GlaProjIdeal.Hand.final4 m c).symm
  · exact (Cert.GlaProjIdeal.Hand.final5 m c).symm
  · exact (Cert.GlaProjIdeal.Hand.final6 m c).symm
  · exact (Cert.GlaProjIdeal.Hand.final7 m c).symm
  · exact (Cert.GlaProjIdeal.Hand.final8 m c).symm

/-- The decoding window's state after a step. -/
theorem algebraic_Win : Cert.algebraic_WinIdeal_WinRefIdeal (hWinIdeal := Cert.WinIdeal.Gen.facts)
    (hWinRefIdeal := Cert.WinRefIdeal.Gen.facts) := by
  intro m g m' g' _ hm
  refine ⟨fun c => (Cert.WinIdeal.Gen.dats m 0 c).arrAt 7 _,
    (θ_run _ _ _).mono (fun r h c => (h c).2) (Cert.WinIdeal.Value.run_blocks m g), ?_⟩
  refine (θ_run _ _ _).mono (fun r h c => ⟨(h c).1.trans ?_, (h c).2⟩) (Cert.WinRefIdeal.Value.run m' g')
  obtain ⟨h0, h1, h2, h3, h4⟩ := hm c
  rw [h1, h2]
  exact (Cert.WinIdeal.Hand.final7 m c).symm

/-- The log forget gates of the prompts. -/
theorem algebraic_Prep : Cert.algebraic_PrepIdeal_PrepRefIdeal (hPrepIdeal := Cert.PrepIdeal.Gen.facts)
    (hPrepRefIdeal := Cert.PrepRefIdeal.Gen.facts) := by
  intro m g m' g' _ hm
  refine ⟨fun c => (Cert.PrepIdeal.Gen.dats m 0 c).arrAt 2 _,
    (θ_run _ _ _).mono (fun r h c => ⟨(h c).1, (h c).2.2⟩) (Cert.PrepIdeal.Value.run_blocks m g), ?_⟩
  refine (θ_run _ _ _).mono (fun r h c => ⟨(h c).1.trans ?_, (h c).2⟩) (Cert.PrepRefIdeal.Value.run m' g')
  obtain ⟨h0, h1⟩ := hm c
  rw [h0, h1]
  exact (Cert.PrepIdeal.Hand.final2 m c).symm

/-- The GLA state after a decoding step. -/
theorem algebraic_GlaDec : Cert.algebraic_GlaDecIdeal_GlaDecRefIdeal (hGlaDecIdeal := Cert.GlaDecIdeal.Gen.facts)
    (hGlaDecRefIdeal := Cert.GlaDecRefIdeal.Gen.facts) := by
  intro m g m' g' _ hm
  refine ⟨fun c => (Cert.GlaDecIdeal.Gen.dats m 0 c).arrAt 10 _,
    (θ_run _ _ _).mono (fun r h c => (h c).2) (Cert.GlaDecIdeal.Value.run_blocks m g), ?_⟩
  refine (θ_run _ _ _).mono (fun r h c => ⟨(h c).1.trans ?_, (h c).2⟩) (Cert.GlaDecRefIdeal.Value.run m' g')
  obtain ⟨h0, h1, h2, h3, h4, h5, h6, h7, h8⟩ := hm c
  rw [Cert.GlaDecRefIdeal.Hand.result_eq, h1, h2, h4, h5, h6, h8]
  exact (Cert.GlaDecIdeal.Hand.final10 m c).symm

/-- The claims. -/
theorem claim : Cert.Claim :=
  ⟨Cert.Fox.Gen.facts, Cert.FoxIdeal.Gen.facts, Cert.FoxRefIdeal.Gen.facts, Cert.Mlp.Gen.facts, Cert.MlpIdeal.Gen.facts, Cert.MlpRefIdeal.Gen.facts
    , Cert.Proj.Gen.facts, Cert.ProjIdeal.Gen.facts, Cert.ProjRefIdeal.Gen.facts, Cert.Norm.Gen.facts, Cert.NormIdeal.Gen.facts, Cert.NormRefIdeal.Gen.facts,
    Cert.NsaMlp.Gen.facts, Cert.NsaMlpIdeal.Gen.facts, Cert.NsaMlpRefIdeal.Gen.facts,
    Cert.NsaProj.Gen.facts, Cert.NsaProjIdeal.Gen.facts, Cert.NsaProjRefIdeal.Gen.facts,
    Cert.GlaProj.Gen.facts, Cert.GlaProjIdeal.Gen.facts, Cert.GlaProjRefIdeal.Gen.facts,
    Cert.Win.Gen.facts, Cert.WinIdeal.Gen.facts, Cert.WinRefIdeal.Gen.facts,
    Cert.Prep.Gen.facts, Cert.PrepIdeal.Gen.facts, Cert.PrepRefIdeal.Gen.facts,
    Cert.GlaDec.Gen.facts, Cert.GlaDecIdeal.Gen.facts, Cert.GlaDecRefIdeal.Gen.facts,
    Cert.Pre_own_key_above_mask.Hand.facts,
    fun m ρ _ => Cert.Fox.Hand.frame m ρ, fun m ρ _ => Cert.FoxIdeal.Hand.frame m ρ, fun m ρ _ => Cert.FoxIdeal.Hand.frame m ρ,
    frame_FoxRef, fun m ρ _ => frame_FoxRef m ρ trivial,
    fun m ρ _ => Cert.Mlp.Gen.frame m ρ, fun m ρ _ => Cert.MlpIdeal.Gen.frame m ρ, frame_MlpRef,
    fun m ρ _ => Cert.Proj.Gen.frame m ρ, fun m ρ _ => Cert.ProjIdeal.Gen.frame m ρ, frame_ProjRef,
    fun m ρ _ => Cert.Norm.Gen.frame m ρ, fun m ρ _ => Cert.NormIdeal.Gen.frame m ρ, frame_NormRef,
    fun m ρ _ => Cert.NsaMlp.Gen.frame m ρ, fun m ρ _ => Cert.NsaMlpIdeal.Gen.frame m ρ, frame_NsaMlpRef,
    fun m ρ _ => Cert.NsaProj.Gen.frame m ρ, fun m ρ _ => Cert.NsaProjIdeal.Gen.frame m ρ, frame_NsaProjRef,
    fun m ρ _ => Cert.GlaProj.Gen.frame m ρ, fun m ρ _ => Cert.GlaProjIdeal.Gen.frame m ρ, frame_GlaProjRef,
    fun m ρ _ => Cert.Win.Gen.frame m ρ, fun m ρ _ => Cert.WinIdeal.Gen.frame m ρ, frame_WinRef,
    fun m ρ _ => Cert.Prep.Gen.frame m ρ, fun m ρ _ => Cert.PrepIdeal.Gen.frame m ρ, frame_PrepRef,
    fun m ρ _ => Cert.GlaDec.Gen.frame m ρ, fun m ρ _ => Cert.GlaDecIdeal.Gen.frame m ρ, frame_GlaDecRef,
    IdealRules.named_const.statement Cert.FoxIdeal.κ "mask" .f32 0xF149F2CA#32 ⊥ rfl,
    algebraic_Fox, trivial, algebraic_Mlp, trivial, algebraic_Proj, trivial, algebraic_Norm,
    trivial, algebraic_NsaMlp, trivial, algebraic_NsaProj, trivial, algebraic_GlaProj, trivial, algebraic_Win,
    trivial, algebraic_Prep, trivial, algebraic_GlaDec⟩

end Cert.Proof

end
